-- ==== Defs.lean ====
def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_diff_finite [hPre_diff_finite : Cert.Pre_diff_finite.Facts] (m : (ℓ : Loc Cert.DiffIdeal.nD Cert.DiffIdeal.τ Cert.DiffIdeal.sig) → Buf (Elt Ideal) ℓ) : Prop :=
  ∀ c : Dev Cert.DiffIdeal.nD,
    (Cert.Pre_diff_finite.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_diff_finite [hPre_diff_finite : Cert.Pre_diff_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_diff_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinIdeal_scans_finite [hPre_scans_finite : Cert.Pre_scans_finite.Facts] (m : (ℓ : Loc Cert.JoinIdeal.nD Cert.JoinIdeal.τ Cert.JoinIdeal.sig) → Buf (Elt Ideal) ℓ) : Prop :=
  ∀ c : Dev Cert.JoinIdeal.nD,
    (Cert.Pre_scans_finite.fn (F := Ideal) (m ((c.tc : Thread Cert.JoinIdeal.nD Cert.JoinIdeal.τ).loc Cert.JoinIdeal.main_arg0)) (m ((c.tc : Thread Cert.JoinIdeal.nD Cert.JoinIdeal.τ).loc Cert.JoinIdeal.main_arg1)) (m ((c.tc : Thread Cert.JoinIdeal.nD Cert.JoinIdeal.τ).loc Cert.JoinIdeal.main_arg2)) (m ((c.tc : Thread Cert.JoinIdeal.nD Cert.JoinIdeal.τ).loc Cert.JoinIdeal.main_arg3)) (m ((c.tc : Thread Cert.JoinIdeal.nD Cert.JoinIdeal.τ).loc Cert.JoinIdeal.main_arg4)) (m ((c.tc : Thread Cert.JoinIdeal.nD Cert.JoinIdeal.τ).loc Cert.JoinIdeal.main_arg5)) (m ((c.tc : Thread Cert.JoinIdeal.nD Cert.JoinIdeal.τ).loc Cert.JoinIdeal.main_arg6)) (m ((c.tc : Thread Cert.JoinIdeal.nD Cert.JoinIdeal.τ).loc Cert.JoinIdeal.main_arg7)) (m ((c.tc : Thread Cert.JoinIdeal.nD Cert.JoinIdeal.τ).loc Cert.JoinIdeal.main_arg8)) (m ((c.tc : Thread Cert.JoinIdeal.nD Cert.JoinIdeal.τ).loc Cert.JoinIdeal.main_arg9)) (m ((c.tc : Thread Cert.JoinIdeal.nD Cert.JoinIdeal.τ).loc Cert.JoinIdeal.main_arg10))) = (fun _ => 1#1)

def Pre_JoinRefIdeal (m : (ℓ : Loc Cert.JoinRefIdeal.nD Cert.JoinRefIdeal.τ Cert.JoinRefIdeal.sig) → Buf (Elt Ideal) ℓ) : Prop :=
  True

def Pre_JoinRefIdeal_scans_finite [hPre_scans_finite : Cert.Pre_scans_finite.Facts] (m : (ℓ : Loc Cert.JoinRefIdeal.nD Cert.JoinRefIdeal.τ Cert.JoinRefIdeal.sig) → Buf (Elt Ideal) ℓ) : Prop :=
  ∀ c : Dev Cert.JoinRefIdeal.nD,
    (Cert.Pre_scans_finite.fn (F := Ideal) (m ((c.tc : Thread Cert.JoinRefIdeal.nD Cert.JoinRefIdeal.τ).loc Cert.JoinRefIdeal.main_arg0)) (m ((c.tc : Thread Cert.JoinRefIdeal.nD Cert.JoinRefIdeal.τ).loc Cert.JoinRefIdeal.main_arg1)) (m ((c.tc : Thread Cert.JoinRefIdeal.nD Cert.JoinRefIdeal.τ).loc Cert.JoinRefIdeal.main_arg2)) (m ((c.tc : Thread Cert.JoinRefIdeal.nD Cert.JoinRefIdeal.τ).loc Cert.JoinRefIdeal.main_arg3)) (m ((c.tc : Thread Cert.JoinRefIdeal.nD Cert.JoinRefIdeal.τ).loc Cert.JoinRefIdeal.main_arg4)) (m ((c.tc : Thread Cert.JoinRefIdeal.nD Cert.JoinRefIdeal.τ).loc Cert.JoinRefIdeal.main_arg5)) (m ((c.tc : Thread Cert.JoinRefIdeal.nD Cert.JoinRefIdeal.τ).loc Cert.JoinRefIdeal.main_arg6)) (m ((c.tc : Thread Cert.JoinRefIdeal.nD Cert.JoinRefIdeal.τ).loc Cert.JoinRefIdeal.main_arg7)) (m ((c.tc : Thread Cert.JoinRefIdeal.nD Cert.JoinRefIdeal.τ).loc Cert.JoinRefIdeal.main_arg8)) (m ((c.tc : Thread Cert.JoinRefIdeal.nD Cert.JoinRefIdeal.τ).loc Cert.JoinRefIdeal.main_arg9)) (m ((c.tc : Thread Cert.JoinRefIdeal.nD Cert.JoinRefIdeal.τ).loc Cert.JoinRefIdeal.main_arg10))) = (fun _ => 1#1)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ r.2.sem = fun _ => 0)

def quiescent_DiffIdeal_pre_diff_finite [hDiffIdeal : Cert.DiffIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_diff_finite m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3))
      ∧ r.2.sem = fun _ => 0)

def quiescent_DiffRefIdeal_pre_diff_finite [hDiffRefIdeal : Cert.DiffRefIdeal.Facts] [hPre_diff_finite : Cert.Pre_diff_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_diff_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0)
      ∧ r.2.mem ((c.tc : Thread Cert.Join.nD Cert.Join.τ).loc Cert.Join.main_arg1) = m ((c.tc : Thread Cert.Join.nD Cert.Join.τ).loc Cert.Join.main_arg1)
      ∧ r.2.mem ((c.tc : Thread Cert.Join.nD Cert.Join.τ).loc Cert.Join.main_arg2) = m ((c.tc : Thread Cert.Join.nD Cert.Join.τ).loc Cert.Join.main_arg2)
      ∧ r.2.mem ((c.tc : Thread Cert.Join.nD Cert.Join.τ).loc Cert.Join.main_arg3) = m ((c.tc : Thread Cert.Join.nD Cert.Join.τ).loc Cert.Join.main_arg3)
      ∧ r.2.mem ((c.tc : Thread Cert.Join.nD Cert.Join.τ).loc Cert.Join.main_arg4) = m ((c.tc : Thread Cert.Join.nD Cert.Join.τ).loc Cert.Join.main_arg4)
      ∧ r.2.mem ((c.tc : Thread Cert.Join.nD Cert.Join.τ).loc Cert.Join.main_arg5) = m ((c.tc : Thread Cert.Join.nD Cert.Join.τ).loc Cert.Join.main_arg5)
      ∧ r.2.mem ((c.tc : Thread Cert.Join.nD Cert.Join.τ).loc Cert.Join.main_arg6) = m ((c.tc : Thread Cert.Join.nD Cert.Join.τ).loc Cert.Join.main_arg6)
      ∧ r.2.mem ((c.tc : Thread Cert.Join.nD Cert.Join.τ).loc Cert.Join.main_arg7) = m ((c.tc : Thread Cert.Join.nD Cert.Join.τ).loc Cert.Join.main_arg7)
      ∧ r.2.mem ((c.tc : Thread Cert.Join.nD Cert.Join.τ).loc Cert.Join.main_arg8) = m ((c.tc : Thread Cert.Join.nD Cert.Join.τ).loc Cert.Join.main_arg8)
      ∧ r.2.mem ((c.tc : Thread Cert.Join.nD Cert.Join.τ).loc Cert.Join.main_arg9) = m ((c.tc : Thread Cert.Join.nD Cert.Join.τ).loc Cert.Join.main_arg9)
      ∧ r.2.mem ((c.tc : Thread Cert.Join.nD Cert.Join.τ).loc Cert.Join.main_arg10) = m ((c.tc : Thread Cert.Join.nD Cert.Join.τ).loc Cert.Join.main_arg10))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
      ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
      ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
      ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
      ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8)
      ∧ r.2.mem ((c.tc : Thread Cert.JoinIdeal.nD Cert.JoinIdeal.τ).loc Cert.JoinIdeal.main_arg9) = m ((c.tc : Thread Cert.JoinIdeal.nD Cert.JoinIdeal.τ).loc Cert.JoinIdeal.main_arg9)
      ∧ r.2.mem ((c.tc : Thread Cert.JoinIdeal.nD Cert.JoinIdeal.τ).loc Cert.JoinIdeal.main_arg10) = m ((c.tc : Thread Cert.JoinIdeal.nD Cert.JoinIdeal.τ).loc Cert.JoinIdeal.main_arg10))
      ∧ r.2.sem = fun _ => 0)

def quiescent_JoinIdeal_pre_scans_finite [hJoinIdeal : Cert.JoinIdeal.Facts] [hPre_scans_finite : Cert.Pre_scans_finite.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal_scans_finite m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
      ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
      ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
      ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
      ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
      ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8)
      ∧ r.2.mem ((c.tc : Thread Cert.JoinIdeal.nD Cert.JoinIdeal.τ).loc Cert.JoinIdeal.main_arg9) = m ((c.tc : Thread Cert.JoinIdeal.nD Cert.JoinIdeal.τ).loc Cert.JoinIdeal.main_arg9)
      ∧ r.2.mem ((c.tc : Thread Cert.JoinIdeal.nD Cert.JoinIdeal.τ).loc Cert.JoinIdeal.main_arg10) = m ((c.tc : Thread Cert.JoinIdeal.nD Cert.JoinIdeal.τ).loc Cert.JoinIdeal.main_arg10))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2)
      ∧ r.2.mem ((c.tc : Thread Cert.JoinRefIdeal.nD Cert.JoinRefIdeal.τ).loc Cert.JoinRefIdeal.main_arg3) = m ((c.tc : Thread Cert.JoinRefIdeal.nD Cert.JoinRefIdeal.τ).loc Cert.JoinRefIdeal.main_arg3)
      ∧ r.2.mem ((c.tc : Thread Cert.JoinRefIdeal.nD Cert.JoinRefIdeal.τ).loc Cert.JoinRefIdeal.main_arg4) = m ((c.tc : Thread Cert.JoinRefIdeal.nD Cert.JoinRefIdeal.τ).loc Cert.JoinRefIdeal.main_arg4)
      ∧ r.2.mem ((c.tc : Thread Cert.JoinRefIdeal.nD Cert.JoinRefIdeal.τ).loc Cert.JoinRefIdeal.main_arg5) = m ((c.tc : Thread Cert.JoinRefIdeal.nD Cert.JoinRefIdeal.τ).loc Cert.JoinRefIdeal.main_arg5)
      ∧ r.2.mem ((c.tc : Thread Cert.JoinRefIdeal.nD Cert.JoinRefIdeal.τ).loc Cert.JoinRefIdeal.main_arg6) = m ((c.tc : Thread Cert.JoinRefIdeal.nD Cert.JoinRefIdeal.τ).loc Cert.JoinRefIdeal.main_arg6)
      ∧ r.2.mem ((c.tc : Thread Cert.JoinRefIdeal.nD Cert.JoinRefIdeal.τ).loc Cert.JoinRefIdeal.main_arg7) = m ((c.tc : Thread Cert.JoinRefIdeal.nD Cert.JoinRefIdeal.τ).loc Cert.JoinRefIdeal.main_arg7)
      ∧ r.2.mem ((c.tc : Thread Cert.JoinRefIdeal.nD Cert.JoinRefIdeal.τ).loc Cert.JoinRefIdeal.main_arg8) = m ((c.tc : Thread Cert.JoinRefIdeal.nD Cert.JoinRefIdeal.τ).loc Cert.JoinRefIdeal.main_arg8)
      ∧ r.2.mem ((c.tc : Thread Cert.JoinRefIdeal.nD Cert.JoinRefIdeal.τ).loc Cert.JoinRefIdeal.main_arg9) = m ((c.tc : Thread Cert.JoinRefIdeal.nD Cert.JoinRefIdeal.τ).loc Cert.JoinRefIdeal.main_arg9)
      ∧ r.2.mem ((c.tc : Thread Cert.JoinRefIdeal.nD Cert.JoinRefIdeal.τ).loc Cert.JoinRefIdeal.main_arg10) = m ((c.tc : Thread Cert.JoinRefIdeal.nD Cert.JoinRefIdeal.τ).loc Cert.JoinRefIdeal.main_arg10))
      ∧ r.2.sem = fun _ => 0)

def quiescent_JoinRefIdeal_pre_scans_finite [hJoinRefIdeal : Cert.JoinRefIdeal.Facts] [hPre_scans_finite : Cert.Pre_scans_finite.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal_scans_finite m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2)
      ∧ r.2.mem ((c.tc : Thread Cert.JoinRefIdeal.nD Cert.JoinRefIdeal.τ).loc Cert.JoinRefIdeal.main_arg3) = m ((c.tc : Thread Cert.JoinRefIdeal.nD Cert.JoinRefIdeal.τ).loc Cert.JoinRefIdeal.main_arg3)
      ∧ r.2.mem ((c.tc : Thread Cert.JoinRefIdeal.nD Cert.JoinRefIdeal.τ).loc Cert.JoinRefIdeal.main_arg4) = m ((c.tc : Thread Cert.JoinRefIdeal.nD Cert.JoinRefIdeal.τ).loc Cert.JoinRefIdeal.main_arg4)
      ∧ r.2.mem ((c.tc : Thread Cert.JoinRefIdeal.nD Cert.JoinRefIdeal.τ).loc Cert.JoinRefIdeal.main_arg5) = m ((c.tc : Thread Cert.JoinRefIdeal.nD Cert.JoinRefIdeal.τ).loc Cert.JoinRefIdeal.main_arg5)
      ∧ r.2.mem ((c.tc : Thread Cert.JoinRefIdeal.nD Cert.JoinRefIdeal.τ).loc Cert.JoinRefIdeal.main_arg6) = m ((c.tc : Thread Cert.JoinRefIdeal.nD Cert.JoinRefIdeal.τ).loc Cert.JoinRefIdeal.main_arg6)
      ∧ r.2.mem ((c.tc : Thread Cert.JoinRefIdeal.nD Cert.JoinRefIdeal.τ).loc Cert.JoinRefIdeal.main_arg7) = m ((c.tc : Thread Cert.JoinRefIdeal.nD Cert.JoinRefIdeal.τ).loc Cert.JoinRefIdeal.main_arg7)
      ∧ r.2.mem ((c.tc : Thread Cert.JoinRefIdeal.nD Cert.JoinRefIdeal.τ).loc Cert.JoinRefIdeal.main_arg8) = m ((c.tc : Thread Cert.JoinRefIdeal.nD Cert.JoinRefIdeal.τ).loc Cert.JoinRefIdeal.main_arg8)
      ∧ r.2.mem ((c.tc : Thread Cert.JoinRefIdeal.nD Cert.JoinRefIdeal.τ).loc Cert.JoinRefIdeal.main_arg9) = m ((c.tc : Thread Cert.JoinRefIdeal.nD Cert.JoinRefIdeal.τ).loc Cert.JoinRefIdeal.main_arg9)
      ∧ r.2.mem ((c.tc : Thread Cert.JoinRefIdeal.nD Cert.JoinRefIdeal.τ).loc Cert.JoinRefIdeal.main_arg10) = m ((c.tc : Thread Cert.JoinRefIdeal.nD Cert.JoinRefIdeal.τ).loc Cert.JoinRefIdeal.main_arg10))
      ∧ r.2.sem = fun _ => 0)

def preserves_Diff_DiffIdeal : Prop :=
  True

def algebraic_DiffIdeal_DiffRefIdeal_pre_diff_finite [hDiffIdeal : Cert.DiffIdeal.Facts] [hDiffRefIdeal : Cert.DiffRefIdeal.Facts] [hPre_diff_finite : Cert.Pre_diff_finite.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_diff_finite m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)) →
    ∃ (v0 : (c : Dev Cert.DiffIdeal.nD) → Buf (Elt Ideal) ((c.tc : Thread Cert.DiffIdeal.nD Cert.DiffIdeal.τ).loc Cert.DiffIdeal.main_v1)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v1) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v72) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v12)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v12) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v58) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v12) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)) →
    ∃ (v0 : (c : Dev Cert.RopeIdeal.nD) → Buf (Elt Ideal) ((c.tc : Thread Cert.RopeIdeal.nD Cert.RopeIdeal.τ).loc Cert.RopeIdeal.main_v43)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v43) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v162) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v7)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v7) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v38) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_Join_JoinIdeal : Prop :=
  True

def algebraic_JoinIdeal_JoinRefIdeal_pre_scans_finite [hJoinIdeal : Cert.JoinIdeal.Facts] [hJoinRefIdeal : Cert.JoinRefIdeal.Facts] [hPre_scans_finite : Cert.Pre_scans_finite.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal_scans_finite m →
    (∀ c : Dev Cert.JoinIdeal.nD,
      m' ((c.tc : Thread Cert.JoinRefIdeal.nD Cert.JoinRefIdeal.τ).loc Cert.JoinRefIdeal.main_arg0) = m ((c.tc : Thread Cert.JoinIdeal.nD Cert.JoinIdeal.τ).loc Cert.JoinIdeal.main_arg0)
      ∧ m' ((c.tc : Thread Cert.JoinRefIdeal.nD Cert.JoinRefIdeal.τ).loc Cert.JoinRefIdeal.main_arg1) = m ((c.tc : Thread Cert.JoinIdeal.nD Cert.JoinIdeal.τ).loc Cert.JoinIdeal.main_arg1)
      ∧ m' ((c.tc : Thread Cert.JoinRefIdeal.nD Cert.JoinRefIdeal.τ).loc Cert.JoinRefIdeal.main_arg2) = m ((c.tc : Thread Cert.JoinIdeal.nD Cert.JoinIdeal.τ).loc Cert.JoinIdeal.main_arg2)
      ∧ m' ((c.tc : Thread Cert.JoinRefIdeal.nD Cert.JoinRefIdeal.τ).loc Cert.JoinRefIdeal.main_arg3) = m ((c.tc : Thread Cert.JoinIdeal.nD Cert.JoinIdeal.τ).loc Cert.JoinIdeal.main_arg3)
      ∧ m' ((c.tc : Thread Cert.JoinRefIdeal.nD Cert.JoinRefIdeal.τ).loc Cert.JoinRefIdeal.main_arg4) = m ((c.tc : Thread Cert.JoinIdeal.nD Cert.JoinIdeal.τ).loc Cert.JoinIdeal.main_arg4)
      ∧ m' ((c.tc : Thread Cert.JoinRefIdeal.nD Cert.JoinRefIdeal.τ).loc Cert.JoinRefIdeal.main_arg5) = m ((c.tc : Thread Cert.JoinIdeal.nD Cert.JoinIdeal.τ).loc Cert.JoinIdeal.main_arg5)
      ∧ m' ((c.tc : Thread Cert.JoinRefIdeal.nD Cert.JoinRefIdeal.τ).loc Cert.JoinRefIdeal.main_arg6) = m ((c.tc : Thread Cert.JoinIdeal.nD Cert.JoinIdeal.τ).loc Cert.JoinIdeal.main_arg6)
      ∧ m' ((c.tc : Thread Cert.JoinRefIdeal.nD Cert.JoinRefIdeal.τ).loc Cert.JoinRefIdeal.main_arg7) = m ((c.tc : Thread Cert.JoinIdeal.nD Cert.JoinIdeal.τ).loc Cert.JoinIdeal.main_arg7)
      ∧ m' ((c.tc : Thread Cert.JoinRefIdeal.nD Cert.JoinRefIdeal.τ).loc Cert.JoinRefIdeal.main_arg8) = m ((c.tc : Thread Cert.JoinIdeal.nD Cert.JoinIdeal.τ).loc Cert.JoinIdeal.main_arg8)
      ∧ m' ((c.tc : Thread Cert.JoinRefIdeal.nD Cert.JoinRefIdeal.τ).loc Cert.JoinRefIdeal.main_arg9) = m ((c.tc : Thread Cert.JoinIdeal.nD Cert.JoinIdeal.τ).loc Cert.JoinIdeal.main_arg9)
      ∧ m' ((c.tc : Thread Cert.JoinRefIdeal.nD Cert.JoinRefIdeal.τ).loc Cert.JoinRefIdeal.main_arg10) = m ((c.tc : Thread Cert.JoinIdeal.nD Cert.JoinIdeal.τ).loc Cert.JoinIdeal.main_arg10)) →
    ∃ (v0 : (c : Dev Cert.JoinIdeal.nD) → Buf (Elt Ideal) ((c.tc : Thread Cert.JoinIdeal.nD Cert.JoinIdeal.τ).loc Cert.JoinIdeal.main_v19)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v19) = v0 c
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
          ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
          ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
          ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3)
          ∧ r.2.mem ((c.tc : Thread Cert.JoinIdeal.nD Cert.JoinIdeal.τ).loc Cert.JoinIdeal.main_arg4) = m ((c.tc : Thread Cert.JoinIdeal.nD Cert.JoinIdeal.τ).loc Cert.JoinIdeal.main_arg4)
          ∧ r.2.mem ((c.tc : Thread Cert.JoinIdeal.nD Cert.JoinIdeal.τ).loc Cert.JoinIdeal.main_arg5) = m ((c.tc : Thread Cert.JoinIdeal.nD Cert.JoinIdeal.τ).loc Cert.JoinIdeal.main_arg5)
          ∧ r.2.mem ((c.tc : Thread Cert.JoinIdeal.nD Cert.JoinIdeal.τ).loc Cert.JoinIdeal.main_arg6) = m ((c.tc : Thread Cert.JoinIdeal.nD Cert.JoinIdeal.τ).loc Cert.JoinIdeal.main_arg6)
          ∧ r.2.mem ((c.tc : Thread Cert.JoinIdeal.nD Cert.JoinIdeal.τ).loc Cert.JoinIdeal.main_arg7) = m ((c.tc : Thread Cert.JoinIdeal.nD Cert.JoinIdeal.τ).loc Cert.JoinIdeal.main_arg7)
          ∧ r.2.mem ((c.tc : Thread Cert.JoinIdeal.nD Cert.JoinIdeal.τ).loc Cert.JoinIdeal.main_arg8) = m ((c.tc : Thread Cert.JoinIdeal.nD Cert.JoinIdeal.τ).loc Cert.JoinIdeal.main_arg8)
          ∧ r.2.mem ((c.tc : Thread Cert.JoinIdeal.nD Cert.JoinIdeal.τ).loc Cert.JoinIdeal.main_arg9) = m ((c.tc : Thread Cert.JoinIdeal.nD Cert.JoinIdeal.τ).loc Cert.JoinIdeal.main_arg9)
          ∧ r.2.mem ((c.tc : Thread Cert.JoinIdeal.nD Cert.JoinIdeal.τ).loc Cert.JoinIdeal.main_arg10) = m ((c.tc : Thread Cert.JoinIdeal.nD Cert.JoinIdeal.τ).loc Cert.JoinIdeal.main_arg10))
      ∧ θ_run (Cert.JoinRefIdeal.defs (F := Ideal)) (onTc (τ := Cert.JoinRefIdeal.τ) (Cert.JoinRefIdeal.main (F := Ideal))) ⟨m', fun _ => 0, g'⟩ (fun r => ∀ c : Dev Cert.JoinRefIdeal.nD,
          r.2.mem ((c.tc : Thread Cert.JoinRefIdeal.nD Cert.JoinRefIdeal.τ).loc Cert.JoinRefIdeal.main_v71) = v0 c
          ∧ r.2.mem ((c.tc : Thread Cert.JoinRefIdeal.nD Cert.JoinRefIdeal.τ).loc Cert.JoinRefIdeal.main_arg0) = m' ((c.tc : Thread Cert.JoinRefIdeal.nD Cert.JoinRefIdeal.τ).loc Cert.JoinRefIdeal.main_arg0)
          ∧ r.2.mem ((c.tc : Thread Cert.JoinRefIdeal.nD Cert.JoinRefIdeal.τ).loc Cert.JoinRefIdeal.main_arg1) = m' ((c.tc : Thread Cert.JoinRefIdeal.nD Cert.JoinRefIdeal.τ).loc Cert.JoinRefIdeal.main_arg1)
          ∧ r.2.mem ((c.tc : Thread Cert.JoinRefIdeal.nD Cert.JoinRefIdeal.τ).loc Cert.JoinRefIdeal.main_arg2) = m' ((c.tc : Thread Cert.JoinRefIdeal.nD Cert.JoinRefIdeal.τ).loc Cert.JoinRefIdeal.main_arg2)
          ∧ r.2.mem ((c.tc : Thread Cert.JoinRefIdeal.nD Cert.JoinRefIdeal.τ).loc Cert.JoinRefIdeal.main_arg3) = m' ((c.tc : Thread Cert.JoinRefIdeal.nD Cert.JoinRefIdeal.τ).loc Cert.JoinRefIdeal.main_arg3)
          ∧ r.2.mem ((c.tc : Thread Cert.JoinRefIdeal.nD Cert.JoinRefIdeal.τ).loc Cert.JoinRefIdeal.main_arg4) = m' ((c.tc : Thread Cert.JoinRefIdeal.nD Cert.JoinRefIdeal.τ).loc Cert.JoinRefIdeal.main_arg4)
          ∧ r.2.mem ((c.tc : Thread Cert.JoinRefIdeal.nD Cert.JoinRefIdeal.τ).loc Cert.JoinRefIdeal.main_arg5) = m' ((c.tc : Thread Cert.JoinRefIdeal.nD Cert.JoinRefIdeal.τ).loc Cert.JoinRefIdeal.main_arg5)
          ∧ r.2.mem ((c.tc : Thread Cert.JoinRefIdeal.nD Cert.JoinRefIdeal.τ).loc Cert.JoinRefIdeal.main_arg6) = m' ((c.tc : Thread Cert.JoinRefIdeal.nD Cert.JoinRefIdeal.τ).loc Cert.JoinRefIdeal.main_arg6)
          ∧ r.2.mem ((c.tc : Thread Cert.JoinRefIdeal.nD Cert.JoinRefIdeal.τ).loc Cert.JoinRefIdeal.main_arg7) = m' ((c.tc : Thread Cert.JoinRefIdeal.nD Cert.JoinRefIdeal.τ).loc Cert.JoinRefIdeal.main_arg7)
          ∧ r.2.mem ((c.tc : Thread Cert.JoinRefIdeal.nD Cert.JoinRefIdeal.τ).loc Cert.JoinRefIdeal.main_arg8) = m' ((c.tc : Thread Cert.JoinRefIdeal.nD Cert.JoinRefIdeal.τ).loc Cert.JoinRefIdeal.main_arg8)
          ∧ r.2.mem ((c.tc : Thread Cert.JoinRefIdeal.nD Cert.JoinRefIdeal.τ).loc Cert.JoinRefIdeal.main_arg9) = m' ((c.tc : Thread Cert.JoinRefIdeal.nD Cert.JoinRefIdeal.τ).loc Cert.JoinRefIdeal.main_arg9)
          ∧ r.2.mem ((c.tc : Thread Cert.JoinRefIdeal.nD Cert.JoinRefIdeal.τ).loc Cert.JoinRefIdeal.main_arg10) = m' ((c.tc : Thread Cert.JoinRefIdeal.nD Cert.JoinRefIdeal.τ).loc Cert.JoinRefIdeal.main_arg10))

def Claim : Prop :=
  ∃ (hDiff : Cert.Diff.Facts) (hDiffIdeal : Cert.DiffIdeal.Facts) (hDiffRefIdeal : Cert.DiffRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hRope : Cert.Rope.Facts) (hRopeIdeal : Cert.RopeIdeal.Facts) (hRopeRefIdeal : Cert.RopeRefIdeal.Facts) (hMix : Cert.Mix.Facts) (hMixIdeal : Cert.MixIdeal.Facts) (hMixRefIdeal : Cert.MixRefIdeal.Facts) (hJoin : Cert.Join.Facts) (hJoinIdeal : Cert.JoinIdeal.Facts) (hJoinRefIdeal : Cert.JoinRefIdeal.Facts) (hPre_diff_finite : Cert.Pre_diff_finite.Facts) (hPre_scans_finite : Cert.Pre_scans_finite.Facts),
    quiescent_Diff (hDiff := hDiff)
    ∧ quiescent_DiffIdeal (hDiffIdeal := hDiffIdeal)
    ∧ quiescent_DiffIdeal_pre_diff_finite (hDiffIdeal := hDiffIdeal) (hPre_diff_finite := hPre_diff_finite)
    ∧ quiescent_DiffRefIdeal (hDiffRefIdeal := hDiffRefIdeal)
    ∧ quiescent_DiffRefIdeal_pre_diff_finite (hDiffRefIdeal := hDiffRefIdeal) (hPre_diff_finite := hPre_diff_finite)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Rope (hRope := hRope)
    ∧ quiescent_RopeIdeal (hRopeIdeal := hRopeIdeal)
    ∧ quiescent_RopeRefIdeal (hRopeRefIdeal := hRopeRefIdeal)
    ∧ quiescent_Mix (hMix := hMix)
    ∧ quiescent_MixIdeal (hMixIdeal := hMixIdeal)
    ∧ quiescent_MixRefIdeal (hMixRefIdeal := hMixRefIdeal)
    ∧ quiescent_Join (hJoin := hJoin)
    ∧ quiescent_JoinIdeal (hJoinIdeal := hJoinIdeal)
    ∧ quiescent_JoinIdeal_pre_scans_finite (hJoinIdeal := hJoinIdeal) (hPre_scans_finite := hPre_scans_finite)
    ∧ quiescent_JoinRefIdeal (hJoinRefIdeal := hJoinRefIdeal)
    ∧ quiescent_JoinRefIdeal_pre_scans_finite (hJoinRefIdeal := hJoinRefIdeal) (hPre_scans_finite := hPre_scans_finite)
    ∧ preserves_Diff_DiffIdeal
    ∧ algebraic_DiffIdeal_DiffRefIdeal_pre_diff_finite (hDiffIdeal := hDiffIdeal) (hDiffRefIdeal := hDiffRefIdeal) (hPre_diff_finite := hPre_diff_finite)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Rope_RopeIdeal
    ∧ algebraic_RopeIdeal_RopeRefIdeal (hRopeIdeal := hRopeIdeal) (hRopeRefIdeal := hRopeRefIdeal)
    ∧ preserves_Mix_MixIdeal
    ∧ algebraic_MixIdeal_MixRefIdeal (hMixIdeal := hMixIdeal) (hMixRefIdeal := hMixRefIdeal)
    ∧ preserves_Join_JoinIdeal
    ∧ algebraic_JoinIdeal_JoinRefIdeal_pre_scans_finite (hJoinIdeal := hJoinIdeal) (hJoinRefIdeal := hJoinRefIdeal) (hPre_scans_finite := hPre_scans_finite)
-- ==== Pre_diff_finite.lean ====
abbrev S16x2048x3200 : Shape := ⟨3, ![16, 2048, 3200]⟩
abbrev S16x256x3200 : Shape := ⟨3, ![16, 256, 3200]⟩
abbrev S4x64 : Shape := ⟨2, ![4, 64]⟩
abbrev S128 : Shape := ⟨1, ![128]⟩
abbrev S_ : Shape := ⟨0, ![]⟩

class Facts : Prop where
  bcast_S_S16x2048x3200 : S_.BroadcastsInDim S16x2048x3200 (![] : Fin 0 → Fin S16x2048x3200.rank)
  reducesTo_S16x2048x3200_S_d0_1_2 : S16x2048x3200.ReducesTo [0, 1, 2] S_
  h_S_ : 0 < S_.numel
  bcast_S_S16x256x3200 : S_.BroadcastsInDim S16x256x3200 (![] : Fin 0 → Fin S16x256x3200.rank)
  reducesTo_S16x256x3200_S_d0_1_2 : S16x256x3200.ReducesTo [0, 1, 2] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S16x2048x3200 .f32) (main_arg1 : FVec F S16x256x3200 .f32) (main_arg2 : FVec F S4x64 .f32) (main_arg3 : FVec F S128 .f32) : IVec S_ 1 :=
  let main_v0 : FVec F S16x2048x3200 .f32 := Host.absf main_arg0
  let main_cst : FVec F S_ .f32 := constant S_ .f32 0x7F800000#32
  let main_v1 : FVec F S16x2048x3200 .f32 := broadcastInDim S16x2048x3200 ![] bcast_S_S16x2048x3200 main_cst
  let main_v2 : IVec S16x2048x3200 1 := cmpf .olt main_v0 main_v1
  let main_c : IVec S_ 1 := constantI S_ 1 1#1
  let main_v3 : IVec S_ 1 := (fun x v => Host.reduce IntOp.andi x v reducesTo_S16x2048x3200_S_d0_1_2 h_S_) main_v2 main_c
  let main_v4 : FVec F S16x256x3200 .f32 := Host.absf main_arg1
  let main_cst_0 : FVec F S_ .f32 := constant S_ .f32 0x7F800000#32
  let main_v5 : FVec F S16x256x3200 .f32 := broadcastInDim S16x256x3200 ![] bcast_S_S16x256x3200 main_cst_0
  let main_v6 : IVec S16x256x3200 1 := cmpf .olt main_v4 main_v5
  let main_c_1 : IVec S_ 1 := constantI S_ 1 1#1
  let main_v7 : IVec S_ 1 := (fun x v => Host.reduce IntOp.andi x v reducesTo_S16x256x3200_S_d0_1_2 h_S_) main_v6 main_c_1
  let main_v8 : IVec S_ 1 := andi main_v3 main_v7
  let main_v9 : FVec F S4x64 .f32 := Host.absf main_arg2
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  main_v13
-- ==== Pre_scans_finite.lean ====
abbrev S16x2048x1024 : Shape := ⟨3, ![16, 2048, 1024]⟩
abbrev S24x9x1024 : Shape := ⟨3, ![24, 9, 1024]⟩
abbrev S2x16x2048x512 : Shape := ⟨4, ![2, 16, 2048, 512]⟩
abbrev S16x2048x512 : Shape := ⟨3, ![16, 2048, 512]⟩
abbrev S512 : Shape := ⟨1, ![512]⟩
abbrev S1024x1024 : Shape := ⟨2, ![1024, 1024]⟩
abbrev S3x1024 : Shape := ⟨2, ![3, 1024]⟩
abbrev S_ : Shape := ⟨0, ![]⟩

class Facts : Prop where
  bcast_S_S2x16x2048x512 : S_.BroadcastsInDim S2x16x2048x512 (![] : Fin 0 → Fin S2x16x2048x512.rank)
  reducesTo_S2x16x2048x512_S_d0_1_2_3 : S2x16x2048x512.ReducesTo [0, 1, 2, 3] S_
  h_S_ : 0 < S_.numel

variable [Facts]

def fn {F : FTy → Type} [FloatOps F] (main_arg0 : FVec F S16x2048x1024 .f32) (main_arg1 : FVec F S24x9x1024 .f32) (main_arg2 : FVec F S2x16x2048x512 .f32) (main_arg3 : FVec F S16x2048x512 .f32) (main_arg4 : FVec F S16x2048x512 .f32) (main_arg5 : FVec F S512 .f32) (main_arg6 : FVec F S512 .f32) (main_arg7 : FVec F S16x2048x512 .f32) (main_arg8 : FVec F S1024x1024 .f32) (main_arg9 : FVec F S3x1024 .f32) (main_arg10 : FVec F S3x1024 .f32) : IVec S_ 1 :=
  let main_v0 : FVec F S2x16x2048x512 .f32 := Host.absf main_arg2
  let main_cst : FVec F S_ .f32 := constant S_ .f32 0x7F800000#32
  let main_v1 : FVec F S2x16x2048x512 .f32 := broadcastInDim S2x16x2048x512 ![] bcast_S_S2x16x2048x512 main_cst
  let main_v2 : IVec S2x16x2048x512 1 := cmpf .olt main_v0 main_v1
  let main_c : IVec S_ 1 := constantI S_ 1 1#1
  let main_v3 : IVec S_ 1 := (fun x v => Host.reduce IntOp.andi x v reducesTo_S2x16x2048x512_S_d0_1_2_3 h_S_) main_v2 main_c
  main_v3
-- ==== Diff.lean ====
abbrev S16x2048x3200 : Shape := ⟨3, ![16, 2048, 3200]⟩
abbrev S16x256x3200 : Shape := ⟨3, ![16, 256, 3200]⟩
abbrev S4x64 : Shape := ⟨2, ![4, 64]⟩
abbrev S128 : Shape := ⟨1, ![128]⟩
abbrev S1x128 : Shape := ⟨2, ![1, 128]⟩
abbrev S16x2048x512 : Shape := ⟨3, ![16, 2048, 512]⟩
abbrev S1x1024x128 : Shape := ⟨3, ![1, 1024, 128]⟩
abbrev S1x2048x128 : Shape := ⟨3, ![1, 2048, 128]⟩
abbrev S1x256x128 : Shape := ⟨3, ![1, 256, 128]⟩
abbrev S2304x128 : Shape := ⟨2, ![2304, 128]⟩
abbrev S2048x128 : Shape := ⟨2, ![2048, 128]⟩
abbrev S256x128 : Shape := ⟨2, ![256, 128]⟩
abbrev S1x64 : Shape := ⟨2, ![1, 64]⟩
abbrev S1 : Shape := ⟨1, ![1]⟩
abbrev S1x1 : Shape := ⟨2, ![1, 1]⟩
abbrev S256x2304 : Shape := ⟨2, ![256, 2304]⟩
abbrev S256 : Shape := ⟨1, ![256]⟩
abbrev S256x1 : Shape := ⟨2, ![256, 1]⟩

abbrev nBuf : Space → Nat
  | .hbm => 6
  | .vmem => 16
  | .smem => 0
  | _ => 0

abbrev bufTy : (tb : Table) → Fin (tcTables nBuf tb) → BufTy
  | .hbm, ⟨0, _⟩ => ⟨S16x2048x3200, .f32⟩
  | .hbm, ⟨1, _⟩ => ⟨S16x256x3200, .f32⟩
  | .hbm, ⟨2, _⟩ => ⟨S4x64, .f32⟩
  | .hbm, ⟨3, _⟩ => ⟨S128, .f32⟩
  | .hbm, ⟨4, _⟩ => ⟨S1x128, .f32⟩
  | .hbm, ⟨5, _⟩ => ⟨S16x2048x512, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S4x64, .f32⟩
  | .local _ .vmem, ⟨11, _⟩ => ⟨S1x128, .f32⟩
  | .local _ .vmem, ⟨12, _⟩ => ⟨S1x1024x128, .f32⟩
  | .local _ .vmem, ⟨13, _⟩ => ⟨S1x1024x128, .f32⟩
  | .local _ .vmem, ⟨14, _⟩ => ⟨S2304x128, .bf16⟩
  | .local _ .vmem, ⟨15, _⟩ => ⟨S2304x128, .bf16⟩
  | _, _ => ⟨S16x2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![16, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== DiffRefIdeal.lean ====
abbrev S16x2048x3200 : Shape := ⟨3, ![16, 2048, 3200]⟩
abbrev S16x256x3200 : Shape := ⟨3, ![16, 256, 3200]⟩
abbrev S4x64 : Shape := ⟨2, ![4, 64]⟩
abbrev S128 : Shape := ⟨1, ![128]⟩
abbrev S16x2048x512 : Shape := ⟨3, ![16, 2048, 512]⟩
abbrev S16x256x512 : Shape := ⟨3, ![16, 256, 512]⟩
abbrev S16x2048x4x2x64 : Shape := ⟨5, ![16, 2048, 4, 2, 64]⟩
abbrev S16x4x2x2048x64 : Shape := ⟨5, ![16, 4, 2, 2048, 64]⟩
abbrev S_ : Shape := ⟨0, ![]⟩
abbrev S16x256x4x2x64 : Shape := ⟨5, ![16, 256, 4, 2, 64]⟩
abbrev S16x4x2x256x64 : Shape := ⟨5, ![16, 4, 2, 256, 64]⟩
abbrev S16x4x2x2304x64 : Shape := ⟨5, ![16, 4, 2, 2304, 64]⟩
abbrev S16x2048x4x128 : Shape := ⟨4, ![16, 2048, 4, 128]⟩
abbrev S16x4x2048x128 : Shape := ⟨4, ![16, 4, 2048, 128]⟩
abbrev S16x256x4x128 : Shape := ⟨4, ![16, 256, 4, 128]⟩
abbrev S16x4x256x128 : Shape := ⟨4, ![16, 4, 256, 128]⟩
abbrev S16x4x2304x128 : Shape := ⟨4, ![16, 4, 2304, 128]⟩
abbrev S1x64 : Shape := ⟨2, ![1, 64]⟩
abbrev S64 : Shape := ⟨1, ![64]⟩
abbrev S16x4x2x2048x2304 : Shape := ⟨5, ![16, 4, 2, 2048, 2304]⟩
abbrev S16x4x2x2048 : Shape := ⟨4, ![16, 4, 2, 2048]⟩
abbrev S16x4x2x2048x1 : Shape := ⟨5, ![16, 4, 2, 2048, 1]⟩
abbrev S16x4x1x2048x2304 : Shape := ⟨5, ![16, 4, 1, 2048, 2304]⟩
abbrev S16x4x2048x2304 : Shape := ⟨4, ![16, 4, 2048, 2304]⟩
abbrev S16x4x2048 : Shape := ⟨3, ![16, 4, 2048]⟩
abbrev S16x4x2048x1 : Shape := ⟨4, ![16, 4, 2048, 1]⟩
abbrev S1x1x1x128 : Shape := ⟨4, ![1, 1, 1, 128]⟩

abbrev nBuf : Space → Nat
  | .hbm => 88
  | .vmem => 0
  | .smem => 0
  | _ => 0

abbrev bufTy : (tb : Table) → Fin (tcTables nBuf tb) → BufTy
  | .hbm, ⟨0, _⟩ => ⟨S16x2048x3200, .f32⟩
  | .hbm, ⟨1, _⟩ => ⟨S16x256x3200, .f32⟩
  | .hbm, ⟨2, _⟩ => ⟨S4x64, .f32⟩
  | .hbm, ⟨3, _⟩ => ⟨S128, .f32⟩
  | .hbm, ⟨4, _⟩ => ⟨S16x2048x512, .f32⟩
  | .hbm, ⟨5, _⟩ => ⟨S16x2048x512, .f32⟩
  | .hbm, ⟨6, _⟩ => ⟨S16x2048x512, .f32⟩
  | .hbm, ⟨7, _⟩ => ⟨S16x256x512, .f32⟩
  | .hbm, ⟨8, _⟩ => ⟨S16x256x512, .f32⟩
  | .hbm, ⟨9, _⟩ => ⟨S16x256x512, .f32⟩
  | .hbm, ⟨10, _⟩ => ⟨S16x2048x4x2x64, .f32⟩
  | .hbm, ⟨11, _⟩ => ⟨S16x4x2x2048x64, .f32⟩
  | .hbm, ⟨12, _⟩ => ⟨S_, .f32⟩
  | .hbm, ⟨13, _⟩ => ⟨S16x4x2x2048x64, .f32⟩
  | .hbm, ⟨14, _⟩ => ⟨S16x4x2x2048x64, .f32⟩
  | .hbm, ⟨15, _⟩ => ⟨S16x2048x4x2x64, .f32⟩
  | .hbm, ⟨16, _⟩ => ⟨S16x4x2x2048x64, .f32⟩
  | .hbm, ⟨17, _⟩ => ⟨S16x256x4x2x64, .f32⟩
  | .hbm, ⟨18, _⟩ => ⟨S16x4x2x256x64, .f32⟩
  | .hbm, ⟨19, _⟩ => ⟨S16x4x2x2304x64, .f32⟩
  | .hbm, ⟨20, _⟩ => ⟨S16x2048x4x128, .f32⟩
  | .hbm, ⟨21, _⟩ => ⟨S16x4x2048x128, .f32⟩
  | .hbm, ⟨22, _⟩ => ⟨S16x256x4x128, .f32⟩
  | .hbm, ⟨23, _⟩ => ⟨S16x4x256x128, .f32⟩
  | .hbm, ⟨24, _⟩ => ⟨S16x4x2304x128, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1x64, .f32⟩
  | .hbm, ⟨34, _⟩ => ⟨S64, .f32⟩
  | .hbm, ⟨35, _⟩ => ⟨S1x64, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S16x4x2x2048x2304, .f32⟩
  | .hbm, ⟨45, _⟩ => ⟨S_, .f32⟩
  | .hbm, ⟨46, _⟩ => ⟨S16x4x2x2048, .f32⟩
  | .hbm, ⟨47, _⟩ => ⟨S_, .f32⟩
  | .hbm, ⟨48, _⟩ => ⟨S16x4x2x2048, .f32⟩
  | .hbm, ⟨49, _⟩ => ⟨S16x4x2x2048, .f32⟩
  | .hbm, ⟨50, _⟩ => ⟨S16x4x2x2048x1, .f32⟩
  | .hbm, ⟨51, _⟩ => ⟨S16x4x2x2048x2304, .f32⟩
  | .hbm, ⟨52, _⟩ => ⟨S16x4x2x2048x2304, .f32⟩
  | .hbm, ⟨53, _⟩ => ⟨S16x4x2x2048x2304, .f32⟩
  | .hbm, ⟨54, _⟩ => ⟨S_, .f32⟩
  | .hbm, ⟨55, _⟩ => ⟨S16x4x2x2048, .f32⟩
  | .hbm, ⟨56, _⟩ => ⟨S16x4x2x2048x1, .f32⟩
  | .hbm, ⟨57, _⟩ => ⟨S16x4x2x2048x2304, .f32⟩
  | .hbm, ⟨58, _⟩ => ⟨S16x4x2x2048x2304, .f32⟩
  | .hbm, ⟨59, _⟩ => ⟨S16x4x1x2048x2304, .f32⟩
  | .hbm, ⟨60, _⟩ => ⟨S16x4x2048x2304, .f32⟩
  | .hbm, ⟨61, _⟩ => ⟨S16x4x1x2048x2304, .f32⟩
  | .hbm, ⟨62, _⟩ => ⟨S16x4x2048x2304, .f32⟩
  | .hbm, ⟨63, _⟩ => ⟨S16x4x2048x2304, .f32⟩
  | .hbm, ⟨64, _⟩ => ⟨S16x4x2048x2304, .f32⟩
  | .hbm, ⟨65, _⟩ => ⟨S16x4x2048x2304, .f32⟩
  | .hbm, ⟨66, _⟩ => ⟨S16x4x2048x128, .f32⟩
  | .hbm, ⟨67, _⟩ => ⟨S16x4x2048x128, .f32⟩
  | .hbm, ⟨68, _⟩ => ⟨S_, .f32⟩
  | .hbm, ⟨69, _⟩ => ⟨S16x4x2048, .f32⟩
  | .hbm, ⟨70, _⟩ => ⟨S16x4x2048x1, .f32⟩
  | .hbm, ⟨71, _⟩ => ⟨S_, .f32⟩
  | .hbm, ⟨72, _⟩ => ⟨S16x4x2048x1, .f32⟩
  | .hbm, ⟨73, _⟩ => ⟨S16x4x2048x1, .f32⟩
  | .hbm, ⟨74, _⟩ => ⟨S_, .f32⟩
  | .hbm, ⟨75, _⟩ => ⟨S16x4x2048x1, .f32⟩
  | .hbm, ⟨76, _⟩ => ⟨S16x4x2048x1, .f32⟩
  | .hbm, ⟨77, _⟩ => ⟨S16x4x2048x1, .f32⟩
  | .hbm, ⟨78, _⟩ => ⟨S16x4x2048x128, .f32⟩
  | .hbm, ⟨79, _⟩ => ⟨S16x4x2048x128, .f32⟩
  | .hbm, ⟨80, _⟩ => ⟨S1x1x1x128, .f32⟩
  | .hbm, ⟨81, _⟩ => ⟨S16x4x2048x128, .f32⟩
  | .hbm, ⟨82, _⟩ => ⟨S16x4x2048x128, .f32⟩
  | .hbm, ⟨83, _⟩ => ⟨S_, .f32⟩
  | .hbm, ⟨84, _⟩ => ⟨S16x4x2048x128, .f32⟩
  | .hbm, ⟨85, _⟩ => ⟨S16x4x2048x128, .f32⟩
  | .hbm, ⟨86, _⟩ => ⟨S16x2048x4x128, .f32⟩
  | .hbm, ⟨87, _⟩ => ⟨S16x2048x512, .f32⟩
  | _, _ => ⟨S16x2048x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_2 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_6 : Ref sig .tc := ⟨.hbm, 68, rfl⟩
abbrev main_v57 : Ref sig .tc := ⟨.hbm, 69, rfl⟩
abbrev main_v58 : Ref sig .tc := ⟨.hbm, 70, rfl⟩
abbrev main_cst_7 : Ref sig .tc := ⟨.hbm, 71, rfl⟩
abbrev main_v59 : Ref sig .tc := ⟨.hbm, 72, rfl⟩
abbrev main_v60 : Ref sig .tc := ⟨.hbm, 73, rfl⟩
abbrev main_cst_8 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_9 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩

abbrev nD : Nat := 1
abbrev τ : Topo := Topo.v7x

variable {F : FTy → Type} [FloatOps F]
-- ==== Ffn.lean ====
abbrev S16x2048x1024 : Shape := ⟨3, ![16, 2048, 1024]⟩
abbrev S24x9x1024 : Shape := ⟨3, ![24, 9, 1024]⟩
abbrev S2x1024x5632 : Shape := ⟨3, ![2, 1024, 5632]⟩
abbrev S2x2816x1024 : Shape := ⟨3, ![2, 2816, 1024]⟩
abbrev S3x1024 : Shape := ⟨2, ![3, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x1024 : Shape := ⟨2, ![1, 1024]⟩
abbrev S1024 : Shape := ⟨1, ![1024]⟩
abbrev S1x512x1024 : Shape := ⟨3, ![1, 512, 1024]⟩
abbrev S1x9x1024 : Shape := ⟨3, ![1, 9, 1024]⟩
abbrev S512x1024 : Shape := ⟨2, ![512, 1024]⟩
abbrev S1x1x1024 : Shape := ⟨3, ![1, 1, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 19
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S24x9x1024, .f32⟩
  | .hbm, ⟨2, _⟩ => ⟨S2x1024x5632, .f32⟩
  | .hbm, ⟨3, _⟩ => ⟨S2x2816x1024, .f32⟩
  | .hbm, ⟨4, _⟩ => ⟨S3x1024, .f32⟩
  | .hbm, ⟨5, _⟩ => ⟨S3x1024, .f32⟩
  | .hbm, ⟨6, _⟩ => ⟨S2x1024x5632, .bf16⟩
  | .hbm, ⟨7, _⟩ => ⟨S2x2816x1024, .bf16⟩
  | .hbm, ⟨8, _⟩ => ⟨S1x1024x5632, .bf16⟩
  | .hbm, ⟨9, _⟩ => ⟨S1024x5632, .bf16⟩
  | .hbm, ⟨10, _⟩ => ⟨S1x2816x1024, .bf16⟩
  | .hbm, ⟨11, _⟩ => ⟨S2816x1024, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRefIdeal.lean ====
abbrev S16x2048x1024 : Shape := ⟨3, ![16, 2048, 1024]⟩
abbrev S24x9x1024 : Shape := ⟨3, ![24, 9, 1024]⟩
abbrev S2x1024x5632 : Shape := ⟨3, ![2, 1024, 5632]⟩
abbrev S2x2816x1024 : Shape := ⟨3, ![2, 2816, 1024]⟩
abbrev S3x1024 : Shape := ⟨2, ![3, 1024]⟩
abbrev S16x9x1024 : Shape := ⟨3, ![16, 9, 1024]⟩
abbrev S16x9x1x1024 : Shape := ⟨4, ![16, 9, 1, 1024]⟩
abbrev S16x1x1x1024 : Shape := ⟨4, ![16, 1, 1, 1024]⟩
abbrev S16x1x1024 : Shape := ⟨3, ![16, 1, 1024]⟩
abbrev S_ : Shape := ⟨0, ![]⟩
abbrev S1x1024x5632 : Shape := ⟨3, ![1, 1024, 5632]⟩
abbrev S1024x5632 : Shape := ⟨2, ![1024, 5632]⟩
abbrev S16x2048x5632 : Shape := ⟨3, ![16, 2048, 5632]⟩
abbrev S16x2048x2816 : Shape := ⟨3, ![16, 2048, 2816]⟩
abbrev S1x2816x1024 : Shape := ⟨3, ![1, 2816, 1024]⟩
abbrev S2816x1024 : Shape := ⟨2, ![2816, 1024]⟩
abbrev S16x2048 : Shape := ⟨2, ![16, 2048]⟩
abbrev S16x2048x1 : Shape := ⟨3, ![16, 2048, 1]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S24x9x1024, .f32⟩
  | .hbm, ⟨2, _⟩ => ⟨S2x1024x5632, .f32⟩
  | .hbm, ⟨3, _⟩ => ⟨S2x2816x1024, .f32⟩
  | .hbm, ⟨4, _⟩ => ⟨S3x1024, .f32⟩
  | .hbm, ⟨5, _⟩ => ⟨S3x1024, .f32⟩
  | .hbm, ⟨6, _⟩ => ⟨S16x9x1024, .f32⟩
  | .hbm, ⟨7, _⟩ => ⟨S16x9x1x1024, .f32⟩
  | .hbm, ⟨8, _⟩ => ⟨S16x1x1x1024, .f32⟩
  | .hbm, ⟨9, _⟩ => ⟨S16x1x1024, .f32⟩
  | .hbm, ⟨10, _⟩ => ⟨S16x1x1x1024, .f32⟩
  | .hbm, ⟨11, _⟩ => ⟨S16x1x1024, .f32⟩
  | .hbm, ⟨12, _⟩ => ⟨S16x1x1x1024, .f32⟩
  | .hbm, ⟨13, _⟩ => ⟨S16x1x1024, .f32⟩
  | .hbm, ⟨14, _⟩ => ⟨S_, .f32⟩
  | .hbm, ⟨15, _⟩ => ⟨S16x1x1024, .f32⟩
  | .hbm, ⟨16, _⟩ => ⟨S16x1x1024, .f32⟩
  | .hbm, ⟨17, _⟩ => ⟨S16x2048x1024, .f32⟩
  | .hbm, ⟨18, _⟩ => ⟨S16x2048x1024, .f32⟩
  | .hbm, ⟨19, _⟩ => ⟨S16x2048x1024, .f32⟩
  | .hbm, ⟨20, _⟩ => ⟨S16x2048x1024, .f32⟩
  | .hbm, ⟨21, _⟩ => ⟨S1x1024x5632, .f32⟩
  | .hbm, ⟨22, _⟩ => ⟨S1024x5632, .f32⟩
  | .hbm, ⟨23, _⟩ => ⟨S16x2048x5632, .f32⟩
  | .hbm, ⟨24, _⟩ => ⟨S16x2048x2816, .f32⟩
  | .hbm, ⟨25, _⟩ => ⟨S16x2048x2816, .f32⟩
  | .hbm, ⟨26, _⟩ => ⟨S16x2048x2816, .f32⟩
  | .hbm, ⟨27, _⟩ => ⟨S16x2048x2816, .f32⟩
  | .hbm, ⟨28, _⟩ => ⟨S_, .f32⟩
  | .hbm, ⟨29, _⟩ => ⟨S16x2048x2816, .f32⟩
  | .hbm, ⟨30, _⟩ => ⟨S16x2048x2816, .f32⟩
  | .hbm, ⟨31, _⟩ => ⟨S_, .f32⟩
  | .hbm, ⟨32, _⟩ => ⟨S16x2048x2816, .f32⟩
  | .hbm, ⟨33, _⟩ => ⟨S16x2048x2816, .f32⟩
  | .hbm, ⟨34, _⟩ => ⟨S16x2048x2816, .f32⟩
  | .hbm, ⟨35, _⟩ => ⟨S16x2048x2816, .f32⟩
  | .hbm, ⟨36, _⟩ => ⟨S1x2816x1024, .f32⟩
  | .hbm, ⟨37, _⟩ => ⟨S2816x1024, .f32⟩
  | .hbm, ⟨38, _⟩ => ⟨S16x2048x1024, .f32⟩
  | .hbm, ⟨39, _⟩ => ⟨S_, .f32⟩
  | .hbm, ⟨40, _⟩ => ⟨S16x2048x1024, .f32⟩
  | .hbm, ⟨41, _⟩ => ⟨S16x2048x1024, .f32⟩
  | .hbm, ⟨42, _⟩ => ⟨S_, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S_, .f32⟩
  | .hbm, ⟨49, _⟩ => ⟨S16x2048, .f32⟩
  | .hbm, ⟨50, _⟩ => ⟨S16x2048x1, .f32⟩
  | .hbm, ⟨51, _⟩ => ⟨S_, .f32⟩
  | .hbm, ⟨52, _⟩ => ⟨S16x2048x1, .f32⟩
  | .hbm, ⟨53, _⟩ => ⟨S16x2048x1, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S_, .f32⟩
  | .hbm, ⟨58, _⟩ => ⟨S16x2048, .f32⟩
  | .hbm, ⟨59, _⟩ => ⟨S16x2048x1, .f32⟩
  | .hbm, ⟨60, _⟩ => ⟨S_, .f32⟩
  | .hbm, ⟨61, _⟩ => ⟨S16x2048x1, .f32⟩
  | .hbm, ⟨62, _⟩ => ⟨S16x2048x1, .f32⟩
  | .hbm, ⟨63, _⟩ => ⟨S16x2048x1024, .f32⟩
  | .hbm, ⟨64, _⟩ => ⟨S16x2048x1024, .f32⟩
  | .hbm, ⟨65, _⟩ => ⟨S_, .f32⟩
  | .hbm, ⟨66, _⟩ => ⟨S16x2048x1, .f32⟩
  | .hbm, ⟨67, _⟩ => ⟨S16x2048x1, .f32⟩
  | .hbm, ⟨68, _⟩ => ⟨S16x2048x1, .f32⟩
  | .hbm, ⟨69, _⟩ => ⟨S16x2048x1024, .f32⟩
  | .hbm, ⟨70, _⟩ => ⟨S16x2048x1024, .f32⟩
  | .hbm, ⟨71, _⟩ => ⟨S1x1024, .f32⟩
  | .hbm, ⟨72, _⟩ => ⟨S1024, .f32⟩
  | .hbm, ⟨73, _⟩ => ⟨S1x1x1024, .f32⟩
  | .hbm, ⟨74, _⟩ => ⟨S16x2048x1024, .f32⟩
  | .hbm, ⟨75, _⟩ => ⟨S16x2048x1024, .f32⟩
  | .hbm, ⟨76, _⟩ => ⟨S1x1024, .f32⟩
  | .hbm, ⟨77, _⟩ => ⟨S1024, .f32⟩
  | .hbm, ⟨78, _⟩ => ⟨S1x1x1024, .f32⟩
  | .hbm, ⟨79, _⟩ => ⟨S16x2048x1024, .f32⟩
  | .hbm, ⟨80, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_0 : Ref sig .tc := ⟨.hbm, 39, rfl⟩
abbrev main_v24 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Proj.lean ====
abbrev S16x2048x1024 : Shape := ⟨3, ![16, 2048, 1024]⟩
abbrev S24x9x1024 : Shape := ⟨3, ![24, 9, 1024]⟩
abbrev S1024x3456 : Shape := ⟨2, ![1024, 3456]⟩
abbrev S16x2048x3456 : Shape := ⟨3, ![16, 2048, 3456]⟩
abbrev S1x512x1024 : Shape := ⟨3, ![1, 512, 1024]⟩
abbrev S1x9x1024 : Shape := ⟨3, ![1, 9, 1024]⟩
abbrev S1x512x3456 : Shape := ⟨3, ![1, 512, 3456]⟩
abbrev S512x1024 : Shape := ⟨2, ![512, 1024]⟩
abbrev S1x1x1024 : Shape := ⟨3, ![1, 1, 1024]⟩
abbrev S1x1024 : Shape := ⟨2, ![1, 1024]⟩
abbrev S1024x512 : Shape := ⟨2, ![1024, 512]⟩
abbrev S512x512 : Shape := ⟨2, ![512, 512]⟩
abbrev S1x512x512 : Shape := ⟨3, ![1, 512, 512]⟩
abbrev S1024x384 : Shape := ⟨2, ![1024, 384]⟩
abbrev S512x384 : Shape := ⟨2, ![512, 384]⟩
abbrev S1x512x384 : Shape := ⟨3, ![1, 512, 384]⟩

abbrev nBuf : Space → Nat
  | .hbm => 5
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S24x9x1024, .f32⟩
  | .hbm, ⟨2, _⟩ => ⟨S1024x3456, .f32⟩
  | .hbm, ⟨3, _⟩ => ⟨S1024x3456, .bf16⟩
  | .hbm, ⟨4, _⟩ => ⟨S16x2048x3456, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1024x3456, .bf16⟩
  | .local _ .vmem, ⟨5, _⟩ => ⟨S1x512x3456, .f32⟩
  | .local _ .vmem, ⟨6, _⟩ => ⟨S1x512x3456, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x3456 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S16x2048x1024 : Shape := ⟨3, ![16, 2048, 1024]⟩
abbrev S24x9x1024 : Shape := ⟨3, ![24, 9, 1024]⟩
abbrev S1024x3456 : Shape := ⟨2, ![1024, 3456]⟩
abbrev S16x9x1024 : Shape := ⟨3, ![16, 9, 1024]⟩
abbrev S16x9x1x1024 : Shape := ⟨4, ![16, 9, 1, 1024]⟩
abbrev S16x1x1x1024 : Shape := ⟨4, ![16, 1, 1, 1024]⟩
abbrev S16x1x1024 : Shape := ⟨3, ![16, 1, 1024]⟩
abbrev S_ : Shape := ⟨0, ![]⟩
abbrev S16x2048x3456 : Shape := ⟨3, ![16, 2048, 3456]⟩

abbrev nBuf : Space → Nat
  | .hbm => 17
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S24x9x1024, .f32⟩
  | .hbm, ⟨2, _⟩ => ⟨S1024x3456, .f32⟩
  | .hbm, ⟨3, _⟩ => ⟨S16x9x1024, .f32⟩
  | .hbm, ⟨4, _⟩ => ⟨S16x9x1x1024, .f32⟩
  | .hbm, ⟨5, _⟩ => ⟨S16x1x1x1024, .f32⟩
  | .hbm, ⟨6, _⟩ => ⟨S16x1x1024, .f32⟩
  | .hbm, ⟨7, _⟩ => ⟨S_, .f32⟩
  | .hbm, ⟨8, _⟩ => ⟨S16x1x1024, .f32⟩
  | .hbm, ⟨9, _⟩ => ⟨S16x1x1024, .f32⟩
  | .hbm, ⟨10, _⟩ => ⟨S16x2048x1024, .f32⟩
  | .hbm, ⟨11, _⟩ => ⟨S16x2048x1024, .f32⟩
  | .hbm, ⟨12, _⟩ => ⟨S16x1x1x1024, .f32⟩
  | .hbm, ⟨13, _⟩ => ⟨S16x1x1024, .f32⟩
  | .hbm, ⟨14, _⟩ => ⟨S16x2048x1024, .f32⟩
  | .hbm, ⟨15, _⟩ => ⟨S16x2048x1024, .f32⟩
  | .hbm, ⟨16, _⟩ => ⟨S16x2048x3456, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Rope.lean ====
abbrev S16x2048x1024 : Shape := ⟨3, ![16, 2048, 1024]⟩
abbrev S24x9x1024 : Shape := ⟨3, ![24, 9, 1024]⟩
abbrev S1024x3104 : Shape := ⟨2, ![1024, 3104]⟩
abbrev S1024x1536 : Shape := ⟨2, ![1024, 1536]⟩
abbrev S1024x32 : Shape := ⟨2, ![1024, 32]⟩
abbrev S_ : Shape := ⟨0, ![]⟩
abbrev S1024x96 : Shape := ⟨2, ![1024, 96]⟩
abbrev S1024x3200 : Shape := ⟨2, ![1024, 3200]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x16x64 : Shape := ⟨4, ![1, 2048, 16, 64]⟩
abbrev S2048x1024 : Shape := ⟨2, ![2048, 1024]⟩
abbrev S16x2048x3200 : Shape := ⟨3, ![16, 2048, 3200]⟩
abbrev S1x512x1024 : Shape := ⟨3, ![1, 512, 1024]⟩
abbrev S1x9x1024 : Shape := ⟨3, ![1, 9, 1024]⟩
abbrev S512x1024 : Shape := ⟨2, ![512, 1024]⟩
abbrev S1x512x3200 : Shape := ⟨3, ![1, 512, 3200]⟩
abbrev S1x1x1024 : Shape := ⟨3, ![1, 1, 1024]⟩
abbrev S1x1024 : Shape := ⟨2, ![1, 1024]⟩
abbrev S1024x512 : Shape := ⟨2, ![1024, 512]⟩
abbrev S512x512 : Shape := ⟨2, ![512, 512]⟩
abbrev S1x512x512 : Shape := ⟨3, ![1, 512, 512]⟩
abbrev S1024x1024 : Shape := ⟨2, ![1024, 1024]⟩
abbrev S1024x128 : Shape := ⟨2, ![1024, 128]⟩
abbrev S512x128 : Shape := ⟨2, ![512, 128]⟩
abbrev S1x512x128 : Shape := ⟨3, ![1, 512, 128]⟩

abbrev nBuf : Space → Nat
  | .hbm => 88
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S24x9x1024, .f32⟩
  | .hbm, ⟨2, _⟩ => ⟨S1024x3104, .f32⟩
  | .hbm, ⟨3, _⟩ => ⟨S1024x1536, .f32⟩
  | .hbm, ⟨4, _⟩ => ⟨S1024x1536, .f32⟩
  | .hbm, ⟨5, _⟩ => ⟨S1024x32, .f32⟩
  | .hbm, ⟨6, _⟩ => ⟨S_, .f32⟩
  | .hbm, ⟨7, _⟩ => ⟨S1024x96, .f32⟩
  | .hbm, ⟨8, _⟩ => ⟨S1024x3200, .f32⟩
  | .hbm, ⟨9, _⟩ => ⟨S1024x3200, .bf16⟩
  | .hbm, ⟨10, _⟩ => ⟨S2048, .i32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .i32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S2048, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S2048, .i1⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .i32⟩
  | .hbm, ⟨37, _⟩ => ⟨S2048, .f32⟩
  | .hbm, ⟨38, _⟩ => ⟨S2048x1, .f32⟩
  | .hbm, ⟨39, _⟩ => ⟨S1x16, .f32⟩
  | .hbm, ⟨40, _⟩ => ⟨S2048x16, .f32⟩
  | .hbm, ⟨41, _⟩ => ⟨S2048x16, .f32⟩
  | .hbm, ⟨42, _⟩ => ⟨S2048x16, .f32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i32⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S_, .i32⟩
  | .hbm, ⟨55, _⟩ => ⟨S2048, .i32⟩
  | .hbm, ⟨56, _⟩ => ⟨S2048, .i1⟩
  | .hbm, ⟨57, _⟩ => ⟨S_, .i32⟩
  | .hbm, ⟨58, _⟩ => ⟨S_, .i1⟩
  | .hbm, ⟨59, _⟩ => ⟨S2048, .i1⟩
  | .hbm, ⟨60, _⟩ => ⟨S2048, .i1⟩
  | .hbm, ⟨61, _⟩ => ⟨S2048, .i1⟩
  | .hbm, ⟨62, _⟩ => ⟨S2048, .i32⟩
  | .hbm, ⟨63, _⟩ => ⟨S2048, .i32⟩
  | .hbm, ⟨64, _⟩ => ⟨S2048, .i32⟩
  | .hbm, ⟨65, _⟩ => ⟨S2048, .f32⟩
  | .hbm, ⟨66, _⟩ => ⟨S2048x1, .f32⟩
  | .hbm, ⟨67, _⟩ => ⟨S1x16, .f32⟩
  | .hbm, ⟨68, _⟩ => ⟨S2048x16, .f32⟩
  | .hbm, ⟨69, _⟩ => ⟨S2048x16, .f32⟩
  | .hbm, ⟨70, _⟩ => ⟨S2048x16, .f32⟩
  | .hbm, ⟨71, _⟩ => ⟨S2048x16, .f32⟩
  | .hbm, ⟨72, _⟩ => ⟨S2048x16, .f32⟩
  | .hbm, ⟨73, _⟩ => ⟨S2048x64, .f32⟩
  | .hbm, ⟨74, _⟩ => ⟨S2048x16, .f32⟩
  | .hbm, ⟨75, _⟩ => ⟨S2048x16, .f32⟩
  | .hbm, ⟨76, _⟩ => ⟨S2048x16, .f32⟩
  | .hbm, ⟨77, _⟩ => ⟨S2048x16, .f32⟩
  | .hbm, ⟨78, _⟩ => ⟨S2048x16, .f32⟩
  | .hbm, ⟨79, _⟩ => ⟨S2048x16, .f32⟩
  | .hbm, ⟨80, _⟩ => ⟨S2048x64, .f32⟩
  | .hbm, ⟨81, _⟩ => ⟨S1x2048x1x64, .f32⟩
  | .hbm, ⟨82, _⟩ => ⟨S1x2048x16x64, .f32⟩
  | .hbm, ⟨83, _⟩ => ⟨S2048x1024, .f32⟩
  | .hbm, ⟨84, _⟩ => ⟨S1x2048x1x64, .f32⟩
  | .hbm, ⟨85, _⟩ => ⟨S1x2048x16x64, .f32⟩
  | .hbm, ⟨86, _⟩ => ⟨S2048x1024, .f32⟩
  | .hbm, ⟨87, _⟩ => ⟨S16x2048x3200, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1024x3200, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x512x3200, .f32⟩
  | .local _ .vmem, ⟨10, _⟩ => ⟨S1x512x3200, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_2 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_v5 : Ref sig .tc := ⟨.hbm, 52, rfl⟩
abbrev main_call1_v6 : Ref sig .tc := ⟨.hbm, 53, rfl⟩
abbrev main_call1_c_2 : Ref sig .tc := ⟨.hbm, 54, rfl⟩
abbrev main_call1_v7 : Ref sig .tc := ⟨.hbm, 55, rfl⟩
abbrev main_call1_v8 : Ref sig .tc := ⟨.hbm, 56, rfl⟩
abbrev main_call1_c_3 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x3200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopeRefIdeal.lean ====
abbrev S16x2048x1024 : Shape := ⟨3, ![16, 2048, 1024]⟩
abbrev S24x9x1024 : Shape := ⟨3, ![24, 9, 1024]⟩
abbrev S1024x3104 : Shape := ⟨2, ![1024, 3104]⟩
abbrev S16x9x1024 : Shape := ⟨3, ![16, 9, 1024]⟩
abbrev S16x9x1x1024 : Shape := ⟨4, ![16, 9, 1, 1024]⟩
abbrev S16x1x1x1024 : Shape := ⟨4, ![16, 1, 1, 1024]⟩
abbrev S16x1x1024 : Shape := ⟨3, ![16, 1, 1024]⟩
abbrev S_ : Shape := ⟨0, ![]⟩
abbrev S16x2048x3104 : Shape := ⟨3, ![16, 2048, 3104]⟩
abbrev S2048 : Shape := ⟨1, ![2048]⟩
abbrev S16x2048x1536 : Shape := ⟨3, ![16, 2048, 1536]⟩
abbrev S16x2048x512 : Shape := ⟨3, ![16, 2048, 512]⟩
abbrev S16x2048x8x64 : Shape := ⟨4, ![16, 2048, 8, 64]⟩
abbrev S16x8x2048x64 : Shape := ⟨4, ![16, 8, 2048, 64]⟩
abbrev S16x8x2048x32 : Shape := ⟨4, ![16, 8, 2048, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S16x8x2048x16 : Shape := ⟨4, ![16, 8, 2048, 16]⟩
abbrev S1x1x2048x16 : Shape := ⟨4, ![1, 1, 2048, 16]⟩
abbrev S16x2048x32 : Shape := ⟨3, ![16, 2048, 32]⟩
abbrev S16x2048x96 : Shape := ⟨3, ![16, 2048, 96]⟩
abbrev S16x2048x3200 : Shape := ⟨3, ![16, 2048, 3200]⟩

abbrev nBuf : Space → Nat
  | .hbm => 252
  | .vmem => 0
  | .smem => 0
  | _ => 0

abbrev hbmTy0_0 (i : Nat) : BufTy := match i % 128 with
  | 0 => ⟨S16x2048x1024, .f32⟩
  | 1 => ⟨S24x9x1024, .f32⟩
  | 2 => ⟨S1024x3104, .f32⟩
  | 3 => ⟨S16x9x1024, .f32⟩
  | 4 => ⟨S16x9x1x1024, .f32⟩
  | 5 => ⟨S16x1x1x1024, .f32⟩
  | 6 => ⟨S16x1x1024, .f32⟩
  | 7 => ⟨S_, .f32⟩
  | 8 => ⟨S16x1x1024, .f32⟩
  | 9 => ⟨S16x1x1024, .f32⟩
  | 10 => ⟨S16x2048x1024, .f32⟩
  | 11 => ⟨S16x2048x1024, .f32⟩
  | 12 => ⟨S16x1x1x1024, .f32⟩
  | 13 => ⟨S16x1x1024, .f32⟩
  | 14 => ⟨S16x2048x1024, .f32⟩
  | 15 => ⟨S16x2048x1024, .f32⟩
  | 16 => ⟨S16x2048x3104, .f32⟩
  | 17 => ⟨S2048, .i32⟩
  | 18 => ⟨S16x2048x1536, .f32⟩
  | 19 => ⟨S16x2048x512, .f32⟩
  | 20 => ⟨S16x2048x8x64, .f32⟩
  | 21 => ⟨S16x8x2048x64, .f32⟩
  | 22 => ⟨S16x8x2048x32, .f32⟩
  | 23 => ⟨S_, .i32⟩
  | 24 => ⟨S_, .i32⟩
  | 25 => ⟨S2048, .i32⟩
  | 26 => ⟨S2048, .i32⟩
  | 27 => ⟨S2048, .i32⟩
  | 28 => ⟨S_, .i32⟩
  | 29 => ⟨S2048, .i32⟩
  | 30 => ⟨S2048, .i1⟩
  | 31 => ⟨S2048, .i32⟩
  | 32 => ⟨S2048, .i32⟩
  | 33 => ⟨S_, .i32⟩
  | 34 => ⟨S2048, .i32⟩
  | 35 => ⟨S2048, .i1⟩
  | 36 => ⟨S2048, .i1⟩
  | 37 => ⟨S_, .i32⟩
  | 38 => ⟨S2048, .i32⟩
  | 39 => ⟨S2048, .i32⟩
  | 40 => ⟨S2048, .i32⟩
  | 41 => ⟨S16, .f32⟩
  | 42 => ⟨S16, .f32⟩
  | 43 => ⟨S_, .f32⟩
  | 44 => ⟨S16, .f32⟩
  | 45 => ⟨S16, .f32⟩
  | 46 => ⟨S_, .f32⟩
  | 47 => ⟨S16, .f32⟩
  | 48 => ⟨S16, .f32⟩
  | 49 => ⟨S2048, .f32⟩
  | 50 => ⟨S2048x1, .f32⟩
  | 51 => ⟨S1x16, .f32⟩
  | 52 => ⟨S2048x16, .f32⟩
  | 53 => ⟨S2048x16, .f32⟩
  | 54 => ⟨S2048x16, .f32⟩
  | 55 => ⟨S2048x16, .f32⟩
  | 56 => ⟨S2048x16, .f32⟩
  | 57 => ⟨S16x8x2048x16, .f32⟩
  | 58 => ⟨S16x8x2048x16, .f32⟩
  | 59 => ⟨S1x1x2048x16, .f32⟩
  | 60 => ⟨S16x8x2048x16, .f32⟩
  | 61 => ⟨S16x8x2048x16, .f32⟩
  | 62 => ⟨S1x1x2048x16, .f32⟩
  | 63 => ⟨S16x8x2048x16, .f32⟩
  | 64 => ⟨S16x8x2048x16, .f32⟩
  | 65 => ⟨S16x8x2048x16, .f32⟩
  | 66 => ⟨S1x1x2048x16, .f32⟩
  | 67 => ⟨S16x8x2048x16, .f32⟩
  | 68 => ⟨S16x8x2048x16, .f32⟩
  | 69 => ⟨S1x1x2048x16, .f32⟩
  | 70 => ⟨S16x8x2048x16, .f32⟩
  | 71 => ⟨S16x8x2048x16, .f32⟩
  | 72 => ⟨S16x8x2048x16, .f32⟩
  | 73 => ⟨S16x8x2048x32, .f32⟩
  | 74 => ⟨S16x8x2048x32, .f32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S2048, .i32⟩
  | 82 => ⟨S2048, .i32⟩
  | 83 => ⟨S_, .i32⟩
  | 84 => ⟨S2048, .i32⟩
  | 85 => ⟨S2048, .i1⟩
  | 86 => ⟨S_, .i32⟩
  | 87 => ⟨S2048, .i32⟩
  | 88 => ⟨S2048, .i1⟩
  | 89 => ⟨S_, .i32⟩
  | 90 => ⟨S_, .i1⟩
  | 91 => ⟨S2048, .i1⟩
  | 92 => ⟨S2048, .i1⟩
  | 93 => ⟨S2048, .i1⟩
  | 94 => ⟨S2048, .i32⟩
  | 95 => ⟨S2048, .i32⟩
  | 96 => ⟨S2048, .i32⟩
  | 97 => ⟨S16, .f32⟩
  | 98 => ⟨S16, .f32⟩
  | 99 => ⟨S_, .f32⟩
  | 100 => ⟨S16, .f32⟩
  | 101 => ⟨S16, .f32⟩
  | 102 => ⟨S_, .f32⟩
  | 103 => ⟨S16, .f32⟩
  | 104 => ⟨S16, .f32⟩
  | 105 => ⟨S2048, .f32⟩
  | 106 => ⟨S2048x1, .f32⟩
  | 107 => ⟨S1x16, .f32⟩
  | 108 => ⟨S2048x16, .f32⟩
  | 109 => ⟨S2048x16, .f32⟩
  | 110 => ⟨S2048x16, .f32⟩
  | 111 => ⟨S2048x16, .f32⟩
  | 112 => ⟨S2048x16, .f32⟩
  | 113 => ⟨S16x8x2048x16, .f32⟩
  | 114 => ⟨S16x8x2048x16, .f32⟩
  | 115 => ⟨S1x1x2048x16, .f32⟩
  | 116 => ⟨S16x8x2048x16, .f32⟩
  | 117 => ⟨S16x8x2048x16, .f32⟩
  | 118 => ⟨S1x1x2048x16, .f32⟩
  | 119 => ⟨S16x8x2048x16, .f32⟩
  | 120 => ⟨S16x8x2048x16, .f32⟩
  | 121 => ⟨S16x8x2048x16, .f32⟩
  | 122 => ⟨S1x1x2048x16, .f32⟩
  | 123 => ⟨S16x8x2048x16, .f32⟩
  | 124 => ⟨S16x8x2048x16, .f32⟩
  | 125 => ⟨S1x1x2048x16, .f32⟩
  | 126 => ⟨S16x8x2048x16, .f32⟩
  | 127 => ⟨S16x8x2048x16, .f32⟩
  | _ => ⟨S16x2048x1024, .f32⟩

abbrev hbmTy0_1 (i : Nat) : BufTy := match i % 128 with
  | 0 => ⟨S16x8x2048x16, .f32⟩
  | 1 => ⟨S16x8x2048x32, .f32⟩
  | 2 => ⟨S16x8x2048x64, .f32⟩
  | 3 => ⟨S16x2048x8x64, .f32⟩
  | 4 => ⟨S16x2048x512, .f32⟩
  | 5 => ⟨S16x2048x512, .f32⟩
  | 6 => ⟨S16x2048x8x64, .f32⟩
  | 7 => ⟨S16x8x2048x64, .f32⟩
  | 8 => ⟨S16x8x2048x32, .f32⟩
  | 9 => ⟨S_, .i32⟩
  | 10 => ⟨S_, .i32⟩
  | 11 => ⟨S2048, .i32⟩
  | 12 => ⟨S2048, .i32⟩
  | 13 => ⟨S2048, .i32⟩
  | 14 => ⟨S_, .i32⟩
  | 15 => ⟨S2048, .i32⟩
  | 16 => ⟨S2048, .i1⟩
  | 17 => ⟨S2048, .i32⟩
  | 18 => ⟨S2048, .i32⟩
  | 19 => ⟨S_, .i32⟩
  | 20 => ⟨S2048, .i32⟩
  | 21 => ⟨S2048, .i1⟩
  | 22 => ⟨S2048, .i1⟩
  | 23 => ⟨S_, .i32⟩
  | 24 => ⟨S2048, .i32⟩
  | 25 => ⟨S2048, .i32⟩
  | 26 => ⟨S2048, .i32⟩
  | 27 => ⟨S16, .f32⟩
  | 28 => ⟨S16, .f32⟩
  | 29 => ⟨S_, .f32⟩
  | 30 => ⟨S16, .f32⟩
  | 31 => ⟨S16, .f32⟩
  | 32 => ⟨S_, .f32⟩
  | 33 => ⟨S16, .f32⟩
  | 34 => ⟨S16, .f32⟩
  | 35 => ⟨S2048, .f32⟩
  | 36 => ⟨S2048x1, .f32⟩
  | 37 => ⟨S1x16, .f32⟩
  | 38 => ⟨S2048x16, .f32⟩
  | 39 => ⟨S2048x16, .f32⟩
  | 40 => ⟨S2048x16, .f32⟩
  | 41 => ⟨S2048x16, .f32⟩
  | 42 => ⟨S2048x16, .f32⟩
  | 43 => ⟨S16x8x2048x16, .f32⟩
  | 44 => ⟨S16x8x2048x16, .f32⟩
  | 45 => ⟨S1x1x2048x16, .f32⟩
  | 46 => ⟨S16x8x2048x16, .f32⟩
  | 47 => ⟨S16x8x2048x16, .f32⟩
  | 48 => ⟨S1x1x2048x16, .f32⟩
  | 49 => ⟨S16x8x2048x16, .f32⟩
  | 50 => ⟨S16x8x2048x16, .f32⟩
  | 51 => ⟨S16x8x2048x16, .f32⟩
  | 52 => ⟨S1x1x2048x16, .f32⟩
  | 53 => ⟨S16x8x2048x16, .f32⟩
  | 54 => ⟨S16x8x2048x16, .f32⟩
  | 55 => ⟨S1x1x2048x16, .f32⟩
  | 56 => ⟨S16x8x2048x16, .f32⟩
  | 57 => ⟨S16x8x2048x16, .f32⟩
  | 58 => ⟨S16x8x2048x16, .f32⟩
  | 59 => ⟨S16x8x2048x32, .f32⟩
  | 60 => ⟨S16x8x2048x32, .f32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S2048, .i32⟩
  | 68 => ⟨S2048, .i32⟩
  | 69 => ⟨S_, .i32⟩
  | 70 => ⟨S2048, .i32⟩
  | 71 => ⟨S2048, .i1⟩
  | 72 => ⟨S_, .i32⟩
  | 73 => ⟨S2048, .i32⟩
  | 74 => ⟨S2048, .i1⟩
  | 75 => ⟨S_, .i32⟩
  | 76 => ⟨S_, .i1⟩
  | 77 => ⟨S2048, .i1⟩
  | 78 => ⟨S2048, .i1⟩
  | 79 => ⟨S2048, .i1⟩
  | 80 => ⟨S2048, .i32⟩
  | 81 => ⟨S2048, .i32⟩
  | 82 => ⟨S2048, .i32⟩
  | 83 => ⟨S16, .f32⟩
  | 84 => ⟨S16, .f32⟩
  | 85 => ⟨S_, .f32⟩
  | 86 => ⟨S16, .f32⟩
  | 87 => ⟨S16, .f32⟩
  | 88 => ⟨S_, .f32⟩
  | 89 => ⟨S16, .f32⟩
  | 90 => ⟨S16, .f32⟩
  | 91 => ⟨S2048, .f32⟩
  | 92 => ⟨S2048x1, .f32⟩
  | 93 => ⟨S1x16, .f32⟩
  | 94 => ⟨S2048x16, .f32⟩
  | 95 => ⟨S2048x16, .f32⟩
  | 96 => ⟨S2048x16, .f32⟩
  | 97 => ⟨S2048x16, .f32⟩
  | 98 => ⟨S2048x16, .f32⟩
  | 99 => ⟨S16x8x2048x16, .f32⟩
  | 100 => ⟨S16x8x2048x16, .f32⟩
  | 101 => ⟨S1x1x2048x16, .f32⟩
  | 102 => ⟨S16x8x2048x16, .f32⟩
  | 103 => ⟨S16x8x2048x16, .f32⟩
  | 104 => ⟨S1x1x2048x16, .f32⟩
  | 105 => ⟨S16x8x2048x16, .f32⟩
  | 106 => ⟨S16x8x2048x16, .f32⟩
  | 107 => ⟨S16x8x2048x16, .f32⟩
  | 108 => ⟨S1x1x2048x16, .f32⟩
  | 109 => ⟨S16x8x2048x16, .f32⟩
  | 110 => ⟨S16x8x2048x16, .f32⟩
  | 111 => ⟨S1x1x2048x16, .f32⟩
  | 112 => ⟨S16x8x2048x16, .f32⟩
  | 113 => ⟨S16x8x2048x16, .f32⟩
  | 114 => ⟨S16x8x2048x16, .f32⟩
  | 115 => ⟨S16x8x2048x32, .f32⟩
  | 116 => ⟨S16x8x2048x64, .f32⟩
  | 117 => ⟨S16x2048x8x64, .f32⟩
  | 118 => ⟨S16x2048x512, .f32⟩
  | 119 => ⟨S16x2048x512, .f32⟩
  | 120 => ⟨S16x2048x32, .f32⟩
  | 121 => ⟨S_, .f32⟩
  | 122 => ⟨S16x2048x96, .f32⟩
  | 123 => ⟨S16x2048x3200, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_0 : Ref sig .tc := ⟨.hbm, 43, rfl⟩
abbrev main_v22 : Ref sig .tc := ⟨.hbm, 44, rfl⟩
abbrev main_v23 : Ref sig .tc := ⟨.hbm, 45, rfl⟩
abbrev main_cst_1 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_2 : Ref sig .tc := ⟨.hbm, 75, rfl⟩
abbrev main_call1_v0 : Ref sig .tc := ⟨.hbm, 76, rfl⟩
abbrev main_call1_c : Ref sig .tc := ⟨.hbm, 77, rfl⟩
abbrev main_call1_v1 : Ref sig .tc := ⟨.hbm, 78, rfl⟩
abbrev main_call1_c_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_c_1 : Ref sig .tc := ⟨.hbm, 83, rfl⟩
abbrev main_call1_v5 : Ref sig .tc := ⟨.hbm, 84, rfl⟩
abbrev main_call1_v6 : Ref sig .tc := ⟨.hbm, 85, rfl⟩
abbrev main_call1_c_2 : Ref sig .tc := ⟨.hbm, 86, rfl⟩
abbrev main_call1_v7 : Ref sig .tc := ⟨.hbm, 87, rfl⟩
abbrev main_call1_v8 : Ref sig .tc := ⟨.hbm, 88, rfl⟩
abbrev main_call1_c_3 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_v12 : Ref sig .tc := ⟨.hbm, 93, rfl⟩
abbrev main_call1_v13 : Ref sig .tc := ⟨.hbm, 94, rfl⟩
abbrev main_call1_v14 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_3 : Ref sig .tc := ⟨.hbm, 99, rfl⟩
abbrev main_v55 : Ref sig .tc := ⟨.hbm, 100, rfl⟩
abbrev main_v56 : Ref sig .tc := ⟨.hbm, 101, rfl⟩
abbrev main_cst_4 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_c_5 : Ref sig .tc := ⟨.hbm, 137, rfl⟩
abbrev main_call2_v0 : Ref sig .tc := ⟨.hbm, 138, rfl⟩
abbrev main_call2_v1 : Ref sig .tc := ⟨.hbm, 139, rfl⟩
abbrev main_call2_v2 : Ref sig .tc := ⟨.hbm, 140, rfl⟩
abbrev main_call2_v3 : Ref sig .tc := ⟨.hbm, 141, rfl⟩
abbrev main_call2_v4 : Ref sig .tc := ⟨.hbm, 142, rfl⟩
abbrev main_call2_v5 : Ref sig .tc := ⟨.hbm, 143, rfl⟩
abbrev main_call2_v6 : Ref sig .tc := ⟨.hbm, 144, rfl⟩
abbrev main_call2_v7 : Ref sig .tc := ⟨.hbm, 145, rfl⟩
abbrev main_call2_v8 : Ref sig .tc := ⟨.hbm, 146, rfl⟩
abbrev main_call2_c : Ref sig .tc := ⟨.hbm, 147, rfl⟩
abbrev main_call2_v9 : Ref sig .tc := ⟨.hbm, 148, rfl⟩
abbrev main_call2_v10 : Ref sig .tc := ⟨.hbm, 149, rfl⟩
abbrev main_call2_v11 : Ref sig .tc := ⟨.hbm, 150, rfl⟩
abbrev main_call2_c_0 : Ref sig .tc := ⟨.hbm, 151, rfl⟩
abbrev main_call2_v12 : Ref sig .tc := ⟨.hbm, 152, rfl⟩
abbrev main_call2_v13 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_6 : Ref sig .tc := ⟨.hbm, 157, rfl⟩
abbrev main_v94 : Ref sig .tc := ⟨.hbm, 158, rfl⟩
abbrev main_v95 : Ref sig .tc := ⟨.hbm, 159, rfl⟩
abbrev main_cst_7 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_c_8 : Ref sig .tc := ⟨.hbm, 189, rfl⟩
abbrev main_call3_v0 : Ref sig .tc := ⟨.hbm, 190, rfl⟩
abbrev main_call3_c : Ref sig .tc := ⟨.hbm, 191, rfl⟩
abbrev main_call3_v1 : Ref sig .tc := ⟨.hbm, 192, rfl⟩
abbrev main_call3_c_0 : Ref sig .tc := ⟨.hbm, 193, rfl⟩
abbrev main_call3_v2 : Ref sig .tc := ⟨.hbm, 194, rfl⟩
abbrev main_call3_v3 : Ref sig .tc := ⟨.hbm, 195, rfl⟩
abbrev main_call3_v4 : Ref sig .tc := ⟨.hbm, 196, rfl⟩
abbrev main_call3_c_1 : Ref sig .tc := ⟨.hbm, 197, rfl⟩
abbrev main_call3_v5 : Ref sig .tc := ⟨.hbm, 198, rfl⟩
abbrev main_call3_v6 : Ref sig .tc := ⟨.hbm, 199, rfl⟩
abbrev main_call3_c_2 : Ref sig .tc := ⟨.hbm, 200, rfl⟩
abbrev main_call3_v7 : Ref sig .tc := ⟨.hbm, 201, rfl⟩
abbrev main_call3_v8 : Ref sig .tc := ⟨.hbm, 202, rfl⟩
abbrev main_call3_c_3 : Ref sig .tc := ⟨.hbm, 203, rfl⟩
abbrev main_call3_v9 : Ref sig .tc := ⟨.hbm, 204, rfl⟩
abbrev main_call3_v10 : Ref sig .tc := ⟨.hbm, 205, rfl⟩
abbrev main_call3_v11 : Ref sig .tc := ⟨.hbm, 206, rfl⟩
abbrev main_call3_v12 : Ref sig .tc := ⟨.hbm, 207, rfl⟩
abbrev main_call3_v13 : Ref sig .tc := ⟨.hbm, 208, rfl⟩
abbrev main_call3_v14 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_cst_9 : Ref sig .tc := ⟨.hbm, 213, rfl⟩
abbrev main_v127 : Ref sig .tc := ⟨.hbm, 214, rfl⟩
abbrev main_v128 : Ref sig .tc := ⟨.hbm, 215, rfl⟩
abbrev main_cst_10 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_cst_11 : Ref sig .tc := ⟨.hbm, 249, rfl⟩
abbrev main_v161 : Ref sig .tc := ⟨.hbm, 250, rfl⟩
abbrev main_v162 : Ref sig .tc := ⟨.hbm, 251, rfl⟩

abbrev nD : Nat := 1
abbrev τ : Topo := Topo.v7x

variable {F : FTy → Type} [FloatOps F]
-- ==== Mix.lean ====
abbrev S16x2048x1024 : Shape := ⟨3, ![16, 2048, 1024]⟩
abbrev S24x9x1024 : Shape := ⟨3, ![24, 9, 1024]⟩
abbrev S16x2048x512 : Shape := ⟨3, ![16, 2048, 512]⟩
abbrev S1024x1024 : Shape := ⟨2, ![1024, 1024]⟩
abbrev S3x1024 : Shape := ⟨2, ![3, 1024]⟩
abbrev S1x1024 : Shape := ⟨2, ![1, 1024]⟩
abbrev S1024 : Shape := ⟨1, ![1024]⟩
abbrev S1x512x1024 : Shape := ⟨3, ![1, 512, 1024]⟩
abbrev S1x9x1024 : Shape := ⟨3, ![1, 9, 1024]⟩
abbrev S1x512x512 : Shape := ⟨3, ![1, 512, 512]⟩
abbrev S512x1024 : Shape := ⟨2, ![512, 1024]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩

abbrev nBuf : Space → Nat
  | .hbm => 15
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S24x9x1024, .f32⟩
  | .hbm, ⟨2, _⟩ => ⟨S16x2048x512, .f32⟩
  | .hbm, ⟨3, _⟩ => ⟨S16x2048x512, .f32⟩
  | .hbm, ⟨4, _⟩ => ⟨S1024x1024, .f32⟩
  | .hbm, ⟨5, _⟩ => ⟨S3x1024, .f32⟩
  | .hbm, ⟨6, _⟩ => ⟨S3x1024, .f32⟩
  | .hbm, ⟨7, _⟩ => ⟨S1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MixRefIdeal.lean ====
abbrev S16x2048x1024 : Shape := ⟨3, ![16, 2048, 1024]⟩
abbrev S24x9x1024 : Shape := ⟨3, ![24, 9, 1024]⟩
abbrev S16x2048x512 : Shape := ⟨3, ![16, 2048, 512]⟩
abbrev S1024x1024 : Shape := ⟨2, ![1024, 1024]⟩
abbrev S3x1024 : Shape := ⟨2, ![3, 1024]⟩
abbrev S16x9x1024 : Shape := ⟨3, ![16, 9, 1024]⟩
abbrev S16x9x1x1024 : Shape := ⟨4, ![16, 9, 1, 1024]⟩
abbrev S_ : Shape := ⟨0, ![]⟩
abbrev S16x1x1x1024 : Shape := ⟨4, ![16, 1, 1, 1024]⟩
abbrev S16x1x1024 : Shape := ⟨3, ![16, 1, 1024]⟩
abbrev S16x2048 : Shape := ⟨2, ![16, 2048]⟩
abbrev S16x2048x1 : Shape := ⟨3, ![16, 2048, 1]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S24x9x1024, .f32⟩
  | .hbm, ⟨2, _⟩ => ⟨S16x2048x512, .f32⟩
  | .hbm, ⟨3, _⟩ => ⟨S16x2048x512, .f32⟩
  | .hbm, ⟨4, _⟩ => ⟨S1024x1024, .f32⟩
  | .hbm, ⟨5, _⟩ => ⟨S3x1024, .f32⟩
  | .hbm, ⟨6, _⟩ => ⟨S3x1024, .f32⟩
  | .hbm, ⟨7, _⟩ => ⟨S16x9x1024, .f32⟩
  | .hbm, ⟨8, _⟩ => ⟨S16x9x1x1024, .f32⟩
  | .hbm, ⟨9, _⟩ => ⟨S16x2048x1024, .f32⟩
  | .hbm, ⟨10, _⟩ => ⟨S16x2048x1024, .f32⟩
  | .hbm, ⟨11, _⟩ => ⟨S_, .f32⟩
  | .hbm, ⟨12, _⟩ => ⟨S16x2048x1024, .f32⟩
  | .hbm, ⟨13, _⟩ => ⟨S16x2048x1024, .f32⟩
  | .hbm, ⟨14, _⟩ => ⟨S16x1x1x1024, .f32⟩
  | .hbm, ⟨15, _⟩ => ⟨S16x1x1024, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S16x2048x1024, .f32⟩
  | .hbm, ⟨35, _⟩ => ⟨S16x2048x1024, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S16x2048x1, .f32⟩
  | .hbm, ⟨40, _⟩ => ⟨S16x2048x1024, .f32⟩
  | .hbm, ⟨41, _⟩ => ⟨S16x2048x1024, .f32⟩
  | .hbm, ⟨42, _⟩ => ⟨S1x1024, .f32⟩
  | .hbm, ⟨43, _⟩ => ⟨S1024, .f32⟩
  | .hbm, ⟨44, _⟩ => ⟨S1x1x1024, .f32⟩
  | .hbm, ⟨45, _⟩ => ⟨S16x2048x1024, .f32⟩
  | .hbm, ⟨46, _⟩ => ⟨S16x2048x1024, .f32⟩
  | .hbm, ⟨47, _⟩ => ⟨S1x1024, .f32⟩
  | .hbm, ⟨48, _⟩ => ⟨S1024, .f32⟩
  | .hbm, ⟨49, _⟩ => ⟨S1x1x1024, .f32⟩
  | .hbm, ⟨50, _⟩ => ⟨S16x2048x1024, .f32⟩
  | .hbm, ⟨51, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Join.lean ====
abbrev S16x2048x1024 : Shape := ⟨3, ![16, 2048, 1024]⟩
abbrev S24x9x1024 : Shape := ⟨3, ![24, 9, 1024]⟩
abbrev S2x16x2048x512 : Shape := ⟨4, ![2, 16, 2048, 512]⟩
abbrev S16x2048x512 : Shape := ⟨3, ![16, 2048, 512]⟩
abbrev S512 : Shape := ⟨1, ![512]⟩
abbrev S1024x1024 : Shape := ⟨2, ![1024, 1024]⟩
abbrev S3x1024 : Shape := ⟨2, ![3, 1024]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S1024 : Shape := ⟨1, ![1024]⟩
abbrev S1x512x1024 : Shape := ⟨3, ![1, 512, 1024]⟩
abbrev S1x9x1024 : Shape := ⟨3, ![1, 9, 1024]⟩
abbrev S1x1x512x512 : Shape := ⟨4, ![1, 1, 512, 512]⟩
abbrev S1x512x512 : Shape := ⟨3, ![1, 512, 512]⟩
abbrev S512x1024 : Shape := ⟨2, ![512, 1024]⟩
abbrev S1536x512 : Shape := ⟨2, ![1536, 512]⟩
abbrev S1x1x1024 : Shape := ⟨3, ![1, 1, 1024]⟩

abbrev nBuf : Space → Nat
  | .hbm => 52
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S24x9x1024, .f32⟩
  | .hbm, ⟨2, _⟩ => ⟨S2x16x2048x512, .f32⟩
  | .hbm, ⟨3, _⟩ => ⟨S16x2048x512, .f32⟩
  | .hbm, ⟨4, _⟩ => ⟨S16x2048x512, .f32⟩
  | .hbm, ⟨5, _⟩ => ⟨S512, .f32⟩
  | .hbm, ⟨6, _⟩ => ⟨S512, .f32⟩
  | .hbm, ⟨7, _⟩ => ⟨S16x2048x512, .f32⟩
  | .hbm, ⟨8, _⟩ => ⟨S1024x1024, .f32⟩
  | .hbm, ⟨9, _⟩ => ⟨S3x1024, .f32⟩
  | .hbm, ⟨10, _⟩ => ⟨S3x1024, .f32⟩
  | .hbm, ⟨11, _⟩ => ⟨S512, .i32⟩
  | .hbm, ⟨12, _⟩ => ⟨S_, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S512, .i32⟩
  | .hbm, ⟨21, _⟩ => ⟨S512, .i32⟩
  | .hbm, ⟨22, _⟩ => ⟨S_, .i32⟩
  | .hbm, ⟨23, _⟩ => ⟨S512, .i32⟩
  | .hbm, ⟨24, _⟩ => ⟨S512, .i1⟩
  | .hbm, ⟨25, _⟩ => ⟨S512, .i1⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S512, .i32⟩
  | .hbm, ⟨30, _⟩ => ⟨S512x1, .i32⟩
  | .hbm, ⟨31, _⟩ => ⟨S1x512, .i32⟩
  | .hbm, ⟨32, _⟩ => ⟨S512x512, .i32⟩
  | .hbm, ⟨33, _⟩ => ⟨S512x512, .i32⟩
  | .hbm, ⟨34, _⟩ => ⟨S512x512, .i1⟩
  | .hbm, ⟨35, _⟩ => ⟨S_, .f32⟩
  | .hbm, ⟨36, _⟩ => ⟨S_, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S512x512, .f32⟩
  | .hbm, ⟨41, _⟩ => ⟨S512x512, .bf16⟩
  | .hbm, ⟨42, _⟩ => ⟨S1x512, .f32⟩
  | .hbm, ⟨43, _⟩ => ⟨S1x512, .f32⟩
  | .hbm, ⟨44, _⟩ => ⟨S1024x1024, .bf16⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S1x1024, .f32⟩
  | .hbm, ⟨51, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1x512x512, .f32⟩
  | .local _ .vmem, ⟨5, _⟩ => ⟨S1x1x512x512, .f32⟩
  | .local _ .vmem, ⟨6, _⟩ => ⟨S1x1x512x512, .f32⟩
  | .local _ .vmem, ⟨7, _⟩ => ⟨S1x1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S1x512x512, .f32⟩
  | .local _ .vmem, ⟨16, _⟩ => ⟨S1x512x512, .f32⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1x512x1024, .f32⟩
  | .local _ .vmem, ⟨21, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== JoinRefIdeal.lean ====
abbrev S16x2048x1024 : Shape := ⟨3, ![16, 2048, 1024]⟩
abbrev S24x9x1024 : Shape := ⟨3, ![24, 9, 1024]⟩
abbrev S2x16x2048x512 : Shape := ⟨4, ![2, 16, 2048, 512]⟩
abbrev S16x2048x512 : Shape := ⟨3, ![16, 2048, 512]⟩
abbrev S512 : Shape := ⟨1, ![512]⟩
abbrev S1024x1024 : Shape := ⟨2, ![1024, 1024]⟩
abbrev S3x1024 : Shape := ⟨2, ![3, 1024]⟩
abbrev S16x9x1024 : Shape := ⟨3, ![16, 9, 1024]⟩
abbrev S16x9x1x1024 : Shape := ⟨4, ![16, 9, 1, 1024]⟩
abbrev S1x16x2048x512 : Shape := ⟨4, ![1, 16, 2048, 512]⟩
abbrev S16x2048x8x64 : Shape := ⟨4, ![16, 2048, 8, 64]⟩
abbrev S_ : Shape := ⟨0, ![]⟩
abbrev S16x2048x8 : Shape := ⟨3, ![16, 2048, 8]⟩
abbrev S16x2048x8x1 : Shape := ⟨4, ![16, 2048, 8, 1]⟩
abbrev S1x1x512 : Shape := ⟨3, ![1, 1, 512]⟩
abbrev S16x1x1x1024 : Shape := ⟨4, ![16, 1, 1, 1024]⟩
abbrev S16x1x1024 : Shape := ⟨3, ![16, 1, 1024]⟩
abbrev S16x2048 : Shape := ⟨2, ![16, 2048]⟩
abbrev S16x2048x1 : Shape := ⟨3, ![16, 2048, 1]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S24x9x1024, .f32⟩
  | .hbm, ⟨2, _⟩ => ⟨S2x16x2048x512, .f32⟩
  | .hbm, ⟨3, _⟩ => ⟨S16x2048x512, .f32⟩
  | .hbm, ⟨4, _⟩ => ⟨S16x2048x512, .f32⟩
  | .hbm, ⟨5, _⟩ => ⟨S512, .f32⟩
  | .hbm, ⟨6, _⟩ => ⟨S512, .f32⟩
  | .hbm, ⟨7, _⟩ => ⟨S16x2048x512, .f32⟩
  | .hbm, ⟨8, _⟩ => ⟨S1024x1024, .f32⟩
  | .hbm, ⟨9, _⟩ => ⟨S3x1024, .f32⟩
  | .hbm, ⟨10, _⟩ => ⟨S3x1024, .f32⟩
  | .hbm, ⟨11, _⟩ => ⟨S16x9x1024, .f32⟩
  | .hbm, ⟨12, _⟩ => ⟨S16x9x1x1024, .f32⟩
  | .hbm, ⟨13, _⟩ => ⟨S1x16x2048x512, .f32⟩
  | .hbm, ⟨14, _⟩ => ⟨S16x2048x512, .f32⟩
  | .hbm, ⟨15, _⟩ => ⟨S1x16x2048x512, .f32⟩
  | .hbm, ⟨16, _⟩ => ⟨S16x2048x512, .f32⟩
  | .hbm, ⟨17, _⟩ => ⟨S16x2048x512, .f32⟩
  | .hbm, ⟨18, _⟩ => ⟨S16x2048x8x64, .f32⟩
  | .hbm, ⟨19, _⟩ => ⟨S_, .f32⟩
  | .hbm, ⟨20, _⟩ => ⟨S16x2048x8, .f32⟩
  | .hbm, ⟨21, _⟩ => ⟨S16x2048x8x1, .f32⟩
  | .hbm, ⟨22, _⟩ => ⟨S_, .f32⟩
  | .hbm, ⟨23, _⟩ => ⟨S16x2048x8x1, .f32⟩
  | .hbm, ⟨24, _⟩ => ⟨S16x2048x8x1, .f32⟩
  | .hbm, ⟨25, _⟩ => ⟨S16x2048x8x64, .f32⟩
  | .hbm, ⟨26, _⟩ => ⟨S16x2048x8x64, .f32⟩
  | .hbm, ⟨27, _⟩ => ⟨S16x2048x8x64, .f32⟩
  | .hbm, ⟨28, _⟩ => ⟨S_, .f32⟩
  | .hbm, ⟨29, _⟩ => ⟨S16x2048x8, .f32⟩
  | .hbm, ⟨30, _⟩ => ⟨S16x2048x8x1, .f32⟩
  | .hbm, ⟨31, _⟩ => ⟨S_, .f32⟩
  | .hbm, ⟨32, _⟩ => ⟨S16x2048x8x1, .f32⟩
  | .hbm, ⟨33, _⟩ => ⟨S16x2048x8x1, .f32⟩
  | .hbm, ⟨34, _⟩ => ⟨S16x2048x8x64, .f32⟩
  | .hbm, ⟨35, _⟩ => ⟨S16x2048x8x64, .f32⟩
  | .hbm, ⟨36, _⟩ => ⟨S_, .f32⟩
  | .hbm, ⟨37, _⟩ => ⟨S16x2048x8x1, .f32⟩
  | .hbm, ⟨38, _⟩ => ⟨S16x2048x8x1, .f32⟩
  | .hbm, ⟨39, _⟩ => ⟨S16x2048x8x1, .f32⟩
  | .hbm, ⟨40, _⟩ => ⟨S16x2048x8x64, .f32⟩
  | .hbm, ⟨41, _⟩ => ⟨S16x2048x8x64, .f32⟩
  | .hbm, ⟨42, _⟩ => ⟨S16x2048x512, .f32⟩
  | .hbm, ⟨43, _⟩ => ⟨S1x1x512, .f32⟩
  | .hbm, ⟨44, _⟩ => ⟨S16x2048x512, .f32⟩
  | .hbm, ⟨45, _⟩ => ⟨S16x2048x512, .f32⟩
  | .hbm, ⟨46, _⟩ => ⟨S1x1x512, .f32⟩
  | .hbm, ⟨47, _⟩ => ⟨S16x2048x512, .f32⟩
  | .hbm, ⟨48, _⟩ => ⟨S16x2048x512, .f32⟩
  | .hbm, ⟨49, _⟩ => ⟨S16x2048x512, .f32⟩
  | .hbm, ⟨50, _⟩ => ⟨S16x2048x512, .f32⟩
  | .hbm, ⟨51, _⟩ => ⟨S16x2048x1024, .f32⟩
  | .hbm, ⟨52, _⟩ => ⟨S16x2048x1024, .f32⟩
  | .hbm, ⟨53, _⟩ => ⟨S_, .f32⟩
  | .hbm, ⟨54, _⟩ => ⟨S16x2048x1024, .f32⟩
  | .hbm, ⟨55, _⟩ => ⟨S16x2048x1024, .f32⟩
  | .hbm, ⟨56, _⟩ => ⟨S16x1x1x1024, .f32⟩
  | .hbm, ⟨57, _⟩ => ⟨S16x1x1024, .f32⟩
  | .hbm, ⟨58, _⟩ => ⟨S16x2048x1024, .f32⟩
  | .hbm, ⟨59, _⟩ => ⟨S16x2048x1024, .f32⟩
  | .hbm, ⟨60, _⟩ => ⟨S16x2048x1024, .f32⟩
  | .hbm, ⟨61, _⟩ => ⟨S_, .f32⟩
  | .hbm, ⟨62, _⟩ => ⟨S16x2048, .f32⟩
  | .hbm, ⟨63, _⟩ => ⟨S16x2048x1, .f32⟩
  | .hbm, ⟨64, _⟩ => ⟨S_, .f32⟩
  | .hbm, ⟨65, _⟩ => ⟨S16x2048x1, .f32⟩
  | .hbm, ⟨66, _⟩ => ⟨S16x2048x1, .f32⟩
  | .hbm, ⟨67, _⟩ => ⟨S16x2048x1024, .f32⟩
  | .hbm, ⟨68, _⟩ => ⟨S16x2048x1024, .f32⟩
  | .hbm, ⟨69, _⟩ => ⟨S16x2048x1024, .f32⟩
  | .hbm, ⟨70, _⟩ => ⟨S_, .f32⟩
  | .hbm, ⟨71, _⟩ => ⟨S16x2048, .f32⟩
  | .hbm, ⟨72, _⟩ => ⟨S16x2048x1, .f32⟩
  | .hbm, ⟨73, _⟩ => ⟨S_, .f32⟩
  | .hbm, ⟨74, _⟩ => ⟨S16x2048x1, .f32⟩
  | .hbm, ⟨75, _⟩ => ⟨S16x2048x1, .f32⟩
  | .hbm, ⟨76, _⟩ => ⟨S16x2048x1024, .f32⟩
  | .hbm, ⟨77, _⟩ => ⟨S16x2048x1024, .f32⟩
  | .hbm, ⟨78, _⟩ => ⟨S_, .f32⟩
  | .hbm, ⟨79, _⟩ => ⟨S16x2048x1, .f32⟩
  | .hbm, ⟨80, _⟩ => ⟨S16x2048x1, .f32⟩
  | .hbm, ⟨81, _⟩ => ⟨S16x2048x1, .f32⟩
  | .hbm, ⟨82, _⟩ => ⟨S16x2048x1024, .f32⟩
  | .hbm, ⟨83, _⟩ => ⟨S16x2048x1024, .f32⟩
  | .hbm, ⟨84, _⟩ => ⟨S1x1024, .f32⟩
  | .hbm, ⟨85, _⟩ => ⟨S1024, .f32⟩
  | .hbm, ⟨86, _⟩ => ⟨S1x1x1024, .f32⟩
  | .hbm, ⟨87, _⟩ => ⟨S16x2048x1024, .f32⟩
  | .hbm, ⟨88, _⟩ => ⟨S16x2048x1024, .f32⟩
  | .hbm, ⟨89, _⟩ => ⟨S1x1024, .f32⟩
  | .hbm, ⟨90, _⟩ => ⟨S1024, .f32⟩
  | .hbm, ⟨91, _⟩ => ⟨S1x1x1024, .f32⟩
  | .hbm, ⟨92, _⟩ => ⟨S16x2048x1024, .f32⟩
  | .hbm, ⟨93, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_5 : Ref sig .tc := ⟨.hbm, 61, rfl⟩
abbrev main_v44 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_cst_8 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Proof.DiffRow.lean ====
module

public import Idealize.ShloMosaic.Lib.Pointwise
public import Idealize.ShloMosaic.Lib.IdealHost

@[expose] public section

noncomputable section

open Idealize.ShloMosaic

/-! One query row of the differential attention, over the extended reals: the kernel's form and the
    reference's form of the same row, and the theorem that they agree where everything is finite. -/
namespace Cert.DiffRow

/-- The largest entry of a row of 2304 scores, starting from −∞. -/
def top (s : Fin 2304 → EReal) : EReal := Finset.univ.fold max (Ideal.ofBits .f32 0xFF800000#32) s

/-- The unnormalised weight of key `j`: the exponential of its score less the largest score. -/
def wt (s : Fin 2304 → EReal) (j : Fin 2304) : EReal := Ideal.exp (s j - top s)

/-- The kernel's softmax average of one value column: the weighted sum first, divided by the sum of
    the weights afterwards. -/
def average (s v : Fin 2304 → EReal) : EReal := Ideal.div (∑ j, wt s j * v j) (∑ j, wt s j)

/-- The reference's softmax probability of key `j`. -/
def prob (s : Fin 2304 → EReal) (j : Fin 2304) : EReal := Ideal.div (wt s j) (∑ l, wt s l)

/-- The kernel's difference of the two averages. -/
def kernelDiff (s0 s1 : Fin 2304 → EReal) (lam : EReal) (v : Fin 2304 → EReal) : EReal :=
  average s0 v - lam * average s1 v

/-- The reference's average under the difference of the two probabilities. -/
def referenceDiff (s0 s1 : Fin 2304 → EReal) (lam : EReal) (v : Fin 2304 → EReal) : EReal :=
  ∑ j, (prob s0 j - lam * prob s1 j) * v j

/-- The root mean square norm over a head's 128 channels, with its weight and the closing scale. -/
def headNorm (o g : Fin 128 → EReal) (d : Fin 128) : EReal :=
  o d * Ideal.rsqrt (Ideal.div (∑ x, o x * o x) (Ideal.ofBits .f32 0x43000000#32) + Ideal.ofBits .f32 0x358637BD#32)
    * g d * Ideal.ofBits .f32 0x3F24FD5C#32

/-- A 64-channel half of a query row, scaled by 1/8, against the same half of a key. -/
def score (half : Fin 2) (q k : Fin 128 → EReal) : EReal :=
  ∑ x : Fin 64, q ⟨half.val * 64 + x.val, by omega⟩ * Ideal.ofBits .f32 0x3E000000#32 * k ⟨half.val * 64 + x.val, by omega⟩

/-- The scalar λ from its four 64-vectors. -/
def lambda (l : Fin 4 → Fin 64 → EReal) : EReal :=
  Ideal.exp (∑ x, l 0 x * l 1 x) - Ideal.exp (∑ x, l 2 x * l 3 x) + Ideal.ofBits .f32 0x3EB60549#32

/-- The starting value of the maxima is −∞. -/
theorem negInf : Ideal.ofBits .f32 0xFF800000#32 = (⊥ : EReal) := by simp [Ideal.ofBits, Ideal.ieee]

/-- The kernel's score over all 128 channels with the second half of the query replaced by zero is the
    first half's score. -/
theorem masked_fst (q k : Fin 128 → EReal) (a : EReal) :
    (∑ x : Fin 128, if x.val < 64 then q x * a * k x else 0)
      = ∑ x : Fin 64, q ⟨x.val, by omega⟩ * a * k ⟨x.val, by omega⟩ := by
  rw [Fin.sum_univ_add (a := 64) (b := 64) (f := fun x : Fin (64 + 64) => if x.val < 64 then q x * a * k x else 0)]
  have h1 : ∀ x : Fin 64, (Fin.castAdd 64 x).val < 64 := fun x => x.isLt
  have h2 : ∀ x : Fin 64, ¬ (Fin.natAdd 64 x).val < 64 := fun x => by simp
  simp only [h1, h2, if_true, if_false, Finset.sum_const_zero, add_zero]
  rfl

/-- … and with the first half replaced by zero it is the second half's score. -/
theorem masked_snd (q k : Fin 128 → EReal) (a : EReal) :
    (∑ x : Fin 128, if x.val < 64 then 0 else q x * a * k x)
      = ∑ x : Fin 64, q ⟨64 + x.val, by omega⟩ * a * k ⟨64 + x.val, by omega⟩ := by
  rw [Fin.sum_univ_add (a := 64) (b := 64) (f := fun x : Fin (64 + 64) => if x.val < 64 then 0 else q x * a * k x)]
  have h1 : ∀ x : Fin 64, (Fin.castAdd 64 x).val < 64 := fun x => x.isLt
  have h2 : ∀ x : Fin 64, ¬ (Fin.natAdd 64 x).val < 64 := fun x => by simp
  simp only [h1, h2, if_true, if_false, Finset.sum_const_zero, zero_add]
  rfl

/-! ## Finite rows -/

/-- An extended real is finite when it is a real number. -/
def Finite (x : EReal) : Prop := ∃ r : ℝ, x = (r : EReal)

/-- A product of real numbers is a real number. -/
theorem Finite.mul {x y : EReal} (hx : Finite x) (hy : Finite y) : Finite (x * y) := by
  obtain ⟨a, rfl⟩ := hx; obtain ⟨b, rfl⟩ := hy; exact ⟨a * b, (EReal.coe_mul a b).symm⟩

/-- A sum of two real numbers is a real number. -/
theorem Finite.add {x y : EReal} (hx : Finite x) (hy : Finite y) : Finite (x + y) := by
  obtain ⟨a, rfl⟩ := hx; obtain ⟨b, rfl⟩ := hy; exact ⟨a + b, (EReal.coe_add a b).symm⟩

/-- A difference of real numbers is a real number. -/
theorem Finite.sub {x y : EReal} (hx : Finite x) (hy : Finite y) : Finite (x - y) := by
  obtain ⟨a, rfl⟩ := hx; obtain ⟨b, rfl⟩ := hy; exact ⟨a - b, (EReal.coe_sub a b).symm⟩

/-- The exponential of a real number is a real number. -/
theorem Finite.exp {x : EReal} (hx : Finite x) : Finite (Ideal.exp x) := by
  obtain ⟨a, rfl⟩ := hx; exact ⟨Real.exp a, Ideal.exp_coe a⟩

/-- A finite sum of real numbers, taken before or after they are read as extended reals. -/
theorem coe_sum {n : Nat} (f : Fin n → ℝ) : ((∑ j, f j : ℝ) : EReal) = ∑ j, (f j : EReal) :=
  map_sum (⟨⟨(↑), EReal.coe_zero⟩, EReal.coe_add⟩ : ℝ →+ EReal) f Finset.univ

/-- A finite sum of real numbers is a real number. -/
theorem Finite.sum {n : Nat} {f : Fin n → EReal} (h : ∀ j, Finite (f j)) : Finite (∑ j, f j) := by
  choose r hr using h
  exact ⟨∑ j, r j, by simp only [hr, coe_sum]⟩

/-- The scale of the scores is a real number. -/
theorem finite_eighth : Finite (Ideal.ofBits .f32 0x3E000000#32) := ⟨_, rfl⟩
/-- The constant added to λ is a real number. -/
theorem finite_lambdaInit : Finite (Ideal.ofBits .f32 0x3EB60549#32) := ⟨_, rfl⟩

/-- The score of real rows is a real number. -/
theorem finite_score {h : Fin 2} {q k : Fin 128 → EReal} (hq : ∀ d, Finite (q d)) (hk : ∀ d, Finite (k d)) :
    Finite (score h q k) := Finite.sum fun _ => ((hq _).mul finite_eighth).mul (hk _)

/-- λ of real vectors is a real number. -/
theorem finite_lambda {l : Fin 4 → Fin 64 → EReal} (h : ∀ a x, Finite (l a x)) : Finite (lambda l) :=
  (((Finite.sum fun x => (h 0 x).mul (h 1 x)).exp).sub ((Finite.sum fun x => (h 2 x).mul (h 3 x)).exp)).add finite_lambdaInit

/-- The largest of finitely many real scores is real. -/
theorem finite_top (s : Fin 2304 → ℝ) : Finite (top fun j => (s j : EReal)) := by
  have key : ∀ t : Finset (Fin 2304), t.fold max (⊥ : EReal) (fun j => (s j : EReal)) = ⊥
      ∨ Finite (t.fold max (⊥ : EReal) fun j => (s j : EReal)) := by
    intro t
    induction t using Finset.induction_on with
    | empty => exact Or.inl rfl
    | insert a t ha ih =>
      rw [Finset.fold_insert ha]
      rcases ih with h | ⟨r, h⟩
      · rw [h, max_bot_right]; exact Or.inr ⟨_, rfl⟩
      · rw [h]; exact Or.inr ⟨max (s a) r, (EReal.coe_strictMono.monotone.map_max).symm⟩
  unfold top
  rw [negInf]
  rcases key Finset.univ with h | h
  · exfalso
    have h1 : ((s 0 : ℝ) : EReal) ≤ Finset.univ.fold max (⊥ : EReal) (fun j => (s j : EReal)) :=
      Finset.le_fold_max _ |>.2 (Or.inr ⟨0, Finset.mem_univ _, le_rfl⟩)
    rw [h] at h1
    exact EReal.coe_ne_bot _ (le_bot_iff.1 h1)
  · exact h

/-- The weights of real scores are real and their sum is positive. -/
theorem real_weights {s : Fin 2304 → EReal} (hs : ∀ j, Finite (s j)) :
    ∃ w : Fin 2304 → ℝ, (∀ j, wt s j = (w j : EReal)) ∧ 0 < ∑ j, w j := by
  choose r hr using hs
  obtain rfl : s = fun j => (r j : EReal) := funext hr
  obtain ⟨M, hM⟩ := finite_top r
  refine ⟨fun j => Real.exp (r j - M), fun j => ?_, Finset.sum_pos (fun j _ => Real.exp_pos _) ⟨0, Finset.mem_univ _⟩⟩
  unfold wt
  rw [hM, ← EReal.coe_sub, Ideal.exp_coe]

/-- THE EQUATION: on finite scores, values and λ, the difference of the two averages is the average under
    the difference of the probabilities. -/
theorem kernelDiff_eq {s0 s1 : Fin 2304 → EReal} {lam : EReal} {v : Fin 2304 → EReal}
    (h0 : ∀ j, Finite (s0 j)) (h1 : ∀ j, Finite (s1 j)) (hl : Finite lam) (hv : ∀ j, Finite (v j)) :
    kernelDiff s0 s1 lam v = referenceDiff s0 s1 lam v := by
  obtain ⟨w0, e0, p0⟩ := real_weights h0
  obtain ⟨w1, e1, p1⟩ := real_weights h1
  obtain ⟨l, rfl⟩ := hl
  choose u hu using hv
  simp only [kernelDiff, referenceDiff, average, prob, e0, e1, hu, ← coe_sum, ← EReal.coe_mul,
    Ideal.div_coe p0.ne', Ideal.div_coe p1.ne', ← EReal.coe_sub]
  congr 1
  rw [Finset.sum_mul, Finset.sum_mul, Finset.mul_sum, ← Finset.sum_sub_distrib]
  exact Finset.sum_congr rfl fun j _ => by ring

end Cert.DiffRow
-- ==== Proof.DiffPart.lean ====
module

public import proofs.«01_k».proof.Proof.Gen.DiffIdeal.Skeleton
public import proofs.«01_k».proof.Proof.DiffRow
public import Idealize.ShloMosaic.Lib.Pointwise

@[expose] public section

set_option maxRecDepth 16384

noncomputable section

open Idealize.ShloMosaic Idealize.ShloMosaic.TcCoe Idealize.SL.Sem

/-! The kernel's body computes four parts of 256 query rows by the same operations. This module names one
    part (`part`), shows that the four stored values are that part of four query slices, and reads it at
    an index as the row functions of `Cert.DiffRow`. -/
namespace Cert.DiffIdeal.Part

open Cert.DiffIdeal Cert.DiffIdeal.Gen Cert.DiffRow

/-- One part's stored value: from λ, a slice of 256 queries, the keys, the values and the norm's weight. -/
def part (l : FVec Ideal S1x1 .f32) (q : FVec Ideal S1x256x128 .f32) (k v : FVec Ideal S2304x128 .bf16)
    (g : FVec Ideal S1x128 .f32) : FVec Ideal S1x256x128 .f32 :=
  k0_pay42 (k0_pay40 l (k0_pay31 (k0_pay22 (k0_pay9 q k)) v) (k0_pay32 (k0_pay23 (k0_pay11 (k0_pay10 q) k)) v))
    (k0_pay41 l (k0_pay31 (k0_pay22 (k0_pay9 q k)) v) (k0_pay32 (k0_pay23 (k0_pay11 (k0_pay10 q) k)) v)) g

/-- The second part's stored value is `part`. -/
theorem part_second (l : FVec Ideal S1x1 .f32) (q : FVec Ideal S1x256x128 .f32) (k v : FVec Ideal S2304x128 .bf16)
    (g : FVec Ideal S1x128 .f32) :
    k0_pay43 (F := Ideal) l (k0_pay33 (k0_pay24 (k0_pay13 k0_pay7 q k)) v)
      (k0_pay35 (k0_pay25 (k0_pay14 k0_pay7 q k)) v (k0_pay34 (k0_pay25 (k0_pay14 k0_pay7 q k))) (constant S256x128 .f32 0x00000000#32)) g
      = part l q k v g := rfl

/-- The third part's stored value is `part`. -/
theorem part_third (l : FVec Ideal S1x1 .f32) (q : FVec Ideal S1x256x128 .f32) (k v : FVec Ideal S2304x128 .bf16)
    (g : FVec Ideal S1x128 .f32) :
    k0_pay46 (F := Ideal)
      (k0_pay44 l (k0_pay36 (k0_pay27 (k0_pay16 k0_pay7 q k) (k0_pay26 (k0_pay16 k0_pay7 q k))) v)
        (k0_pay37 (k0_pay28 (k0_pay18 (k0_pay17 k0_pay7 q) k)) v))
      (k0_pay45 l (k0_pay36 (k0_pay27 (k0_pay16 k0_pay7 q k) (k0_pay26 (k0_pay16 k0_pay7 q k))) v)
        (k0_pay37 (k0_pay28 (k0_pay18 (k0_pay17 k0_pay7 q) k)) v)) g
      = part l q k v g := rfl

/-- The fourth part's stored value is `part`. -/
theorem part_fourth (l : FVec Ideal S1x1 .f32) (q : FVec Ideal S1x256x128 .f32) (k v : FVec Ideal S2304x128 .bf16)
    (g : FVec Ideal S1x128 .f32) :
    k0_pay1 (F := Ideal) (k0_pay47 l (k0_pay38 (k0_pay29 (k0_pay20 k0_pay7 q k)) v)
      (k0_pay39 (k0_pay30 (k0_pay21 k0_pay7 q k)) v) g)
      = part l q k v g := rfl

/-- λ, from the four vectors. -/
theorem lambda_at (l : FVec Ideal S4x64 .f32) :
    k0_pay6 (F := Ideal) l (ix2 0 0) = lambda fun a x => l (ix2 a x) := by
  pointwise [k0_pay6, lambda]

/-- The channel test "below 64", as the kernel spells it, chooses by the channel number. -/
theorem select_slt (x : Fin 128) (a b : EReal) :
    Scalar.select (IntOp.cmpi CmpIPredicate.slt (BitVec.ofNat 32 x.val) 64#32) a b = if x.val < 64 then a else b := by
  have h : ∀ y : Fin 128, (IntOp.cmpi CmpIPredicate.slt (BitVec.ofNat 32 y.val) 64#32 = 1) ↔ y.val < 64 := by
    decide +kernel
  unfold Scalar.select
  simp only [h x]

/-- The first half's scores. -/
theorem score_fst_at (q : FVec Ideal S1x256x128 .f32) (k : FVec Ideal S2304x128 .bf16) (r : Fin 256) (j : Fin 2304) :
    k0_pay9 (F := Ideal) q k (ix2 r j) = score 0 (fun x => q (ix3 0 r x)) (fun x => k (ix2 j x)) := by
  pointwise [k0_pay9, k0_pay8, k0_pay7]
  simp only [select_slt]
  refine (masked_fst (fun x => q (ix3 0 r x)) (fun x => k (ix2 j x)) _).trans ?_
  exact Finset.sum_congr rfl fun x _ => by simp

/-- The second half's scores. -/
theorem score_snd_at (q : FVec Ideal S1x256x128 .f32) (k : FVec Ideal S2304x128 .bf16) (r : Fin 256) (j : Fin 2304) :
    k0_pay11 (F := Ideal) (k0_pay10 q) k (ix2 r j) = score 1 (fun x => q (ix3 0 r x)) (fun x => k (ix2 j x)) := by
  pointwise [k0_pay11, k0_pay10, k0_pay8, k0_pay7]
  simp only [select_slt]
  refine (masked_snd (fun x => q (ix3 0 r x)) (fun x => k (ix2 j x)) _).trans ?_
  exact Finset.sum_congr rfl fun x _ => by simp

/-- The first half's average of value column `d`. -/
theorem average_fst_at (s : FVec Ideal S256x2304 .f32) (v : FVec Ideal S2304x128 .bf16) (r : Fin 256) (d : Fin 128) :
    k0_pay31 (F := Ideal) (k0_pay22 s) v (ix2 r d) = average (fun j => s (ix2 r j)) (fun j => v (ix2 j d)) := by
  pointwise [k0_pay31, k0_pay22, average, wt, top]

/-- The second half's average of value column `d`. -/
theorem average_snd_at (s : FVec Ideal S256x2304 .f32) (v : FVec Ideal S2304x128 .bf16) (r : Fin 256) (d : Fin 128) :
    k0_pay32 (F := Ideal) (k0_pay23 s) v (ix2 r d) = average (fun j => s (ix2 r j)) (fun j => v (ix2 j d)) := by
  pointwise [k0_pay32, k0_pay23, average, wt, top]

/-- The norm of the difference of two averages. -/
theorem norm_at (l : FVec Ideal S1x1 .f32) (a b : FVec Ideal S256x128 .f32) (g : FVec Ideal S1x128 .f32) (r : Fin 256) (d : Fin 128) :
    k0_pay42 (F := Ideal) (k0_pay40 l a b) (k0_pay41 l a b) g (ix3 0 r d)
      = headNorm (fun x => a (ix2 r x) - l (ix2 0 0) * b (ix2 r x)) (fun x => g (ix2 0 x)) d := by
  pointwise [k0_pay42, k0_pay41, k0_pay40, headNorm]

/-- A PART AT AN INDEX: row `r`, channel `d` is the norm of the difference of the two averages over the
    keys, each half scored against that row's query. -/
theorem part_at (l : FVec Ideal S1x1 .f32) (q : FVec Ideal S1x256x128 .f32) (k v : FVec Ideal S2304x128 .bf16)
    (g : FVec Ideal S1x128 .f32) (r : Fin 256) (d : Fin 128) :
    part l q k v g (ix3 0 r d)
      = headNorm (fun x => kernelDiff (fun j => score 0 (fun y => q (ix3 0 r y)) (fun y => k (ix2 j y)))
          (fun j => score 1 (fun y => q (ix3 0 r y)) (fun y => k (ix2 j y))) (l (ix2 0 0)) (fun j => v (ix2 j x)))
          (fun x => g (ix2 0 x)) d := by
  unfold part
  rw [norm_at]
  simp only [average_fst_at, average_snd_at, score_fst_at, score_snd_at, kernelDiff]

/-- One entry of the kernel's output block, from λ's vectors, the block's 1024 queries, the keys, the values
    and the norm's weight. -/
def entry (l : FVec Ideal S4x64 .f32) (q : FVec Ideal S1x1024x128 .f32) (k v : FVec Ideal S2304x128 .bf16)
    (g : FVec Ideal S1x128 .f32) (r : Fin 1024) (d : Fin 128) : EReal :=
  headNorm (fun x => kernelDiff (fun j => score 0 (fun y => q (ix3 0 r y)) (fun y => k (ix2 j y)))
    (fun j => score 1 (fun y => q (ix3 0 r y)) (fun y => k (ix2 j y))) (lambda fun a x => l (ix2 a x)) (fun j => v (ix2 j x)))
    (fun x => g (ix2 0 x)) d

/-- A part whose queries are rows of the block is the block's entry at those rows. -/
theorem part_entry (l : FVec Ideal S4x64 .f32) (Q : FVec Ideal S1x1024x128 .f32) (q : FVec Ideal S1x256x128 .f32)
    (k v : FVec Ideal S2304x128 .bf16) (g : FVec Ideal S1x128 .f32) (x : S1x256x128.Idx) (r : Fin 1024) (d : Fin 128)
    (hd : d = x 2) (hq : ∀ y : Fin 128, q (ix3 0 (x 1) y) = Q (ix3 0 r y)) :
    part (k0_pay6 l) q k v g x = entry l Q k v g r d := by
  have hx : x = ix3 0 (x 1) (x 2) := by
    have h0 : x 0 = (0 : Fin 1) := Subsingleton.elim (α := Fin 1) _ _
    rw [← h0]; exact eq_ix3 x
  rw [hx]
  refine (part_at (k0_pay6 l) q k v g (x 1) (x 2)).trans ?_
  rw [lambda_at]
  unfold entry
  simp only [hq]
  rw [hd]

end Cert.DiffIdeal.Part
-- ==== Proof.DiffBlock.lean ====
module

public import proofs.«01_k».proof.Proof.Gen.DiffIdeal.Value
public import proofs.«01_k».proof.Proof.DiffPart
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! What a grid point leaves in the kernel's output block and in its two carried buffers. -/
namespace Cert.DiffIdeal.Block

open Cert.DiffIdeal Cert.DiffIdeal.Gen Cert.DiffIdeal.Part

variable (m : (ℓ : Loc nD τ sig) → Buf (Elt Ideal) ℓ)

/-- The 2304 rows a carried buffer holds: 2048 from the latent stream's block, then 256 from the context's. -/
def joined (x : FVec Ideal S1x2048x128 .f32) (y : FVec Ideal S1x256x128 .f32) : FVec Ideal S2304x128 .bf16 :=
  fun i => if h : (i 0).val < 2048 then x (ix3 0 ⟨(i 0).val, h⟩ (i 1))
    else y (ix3 0 ⟨(i 0).val - 2048, by have : (i 0).val < 2304 := (i 0).isLt; omega⟩ (i 1))

/-- Two stores, of 256 rows at row 2048 and of 2048 rows at row 0, leave the buffer `joined`. -/
theorem joined_keys (a : FVec Ideal S1x2048x128 .f32) (z : FVec Ideal S1x256x128 .f32) (y : S2304x128.Idx) :
    View.canon (Val := Elt Ideal) (s := S2304x128) (e := .bf16) [⟨Rect.unit ![2048, 0] ![256, 128] inb_S2304x128_S256x128_2048_0, k0_pay4 (F := Ideal) z⟩,
      ⟨Rect.unit ![0, 0] ![2048, 128] inb_S2304x128_S2048x128_0_0, k0_pay2 (F := Ideal) a⟩] y = joined a z y := by
  canon_tiles x h using View.cover_of_tiledBy _ ![256, 128] (by sl_kernel_rfl) y
  all_goals pointwise [joined, k0_pay2, k0_pay4]
  · rw [dif_neg (by omega)]
    exact congrArg₂ (fun i j => z (ix3 0 i j)) (Fin.ext (by show (x 0).val = (y 0).val - 2048; omega)) (Fin.ext h1.symm)
  · rw [dif_pos (by omega)]
    exact congrArg₂ (fun i j => a (ix3 0 i j)) (Fin.ext h0.symm) (Fin.ext h1.symm)

/-- The same of the value buffer: two stores, of 256 rows at row 2048 and of 2048 rows at row 0, leave the buffer `joined`. -/
theorem joined_values (a : FVec Ideal S1x2048x128 .f32) (z : FVec Ideal S1x256x128 .f32) (y : S2304x128.Idx) :
    View.canon (Val := Elt Ideal) (s := S2304x128) (e := .bf16) [⟨Rect.unit ![2048, 0] ![256, 128] inb_S2304x128_S256x128_2048_0, k0_pay5 (F := Ideal) z⟩,
      ⟨Rect.unit ![0, 0] ![2048, 128] inb_S2304x128_S2048x128_0_0, k0_pay3 (F := Ideal) a⟩] y = joined a z y := by
  canon_tiles x h using View.cover_of_tiledBy _ ![256, 128] (by sl_kernel_rfl) y
  all_goals pointwise [joined, k0_pay3, k0_pay5]
  · rw [dif_neg (by omega)]
    exact congrArg₂ (fun i j => z (ix3 0 i j)) (Fin.ext (by show (x 0).val = (y 0).val - 2048; omega)) (Fin.ext h1.symm)
  · rw [dif_pos (by omega)]
    exact congrArg₂ (fun i j => a (ix3 0 i j)) (Fin.ext h0.symm) (Fin.ext h1.symm)

/-- The key buffer after a point that fills it. -/
theorem keys_A (c : Dev nD) (t : Fin cfg0.N) (h : t.val % 2 = 0) :
    (outsAt0 m c t.val t.isLt).2.1 = joined (iblk m c 1 t) (iblk m c 3 t) := by
  funext y
  rw [outsAt0_A m c t h]; frame_out
  exact joined_keys _ _ y

/-- The value buffer after a point that fills it. -/
theorem values_A (c : Dev nD) (t : Fin cfg0.N) (h : t.val % 2 = 0) :
    (outsAt0 m c t.val t.isLt).2.2 = joined (iblk m c 2 t) (iblk m c 4 t) := by
  funext y
  rw [outsAt0_A m c t h]; frame_out
  exact joined_values _ _ y

/-- Which block each window holds at grid point `t`: batch `t / 8`, head `t / 2 % 4`, query block `t % 2`. -/
theorem idx : ∀ t : Fin cfg0.N,
    win0_0.index t = ![t.val / 8, t.val % 2, t.val / 2 % 4 + 12]
    ∧ win0_1.index t = ![t.val / 8, 0, t.val / 2 % 4 + 16]
    ∧ win0_2.index t = ![t.val / 8, 0, t.val / 2 % 4 + 20]
    ∧ win0_3.index t = ![t.val / 8, 0, t.val / 2 % 4 + 16]
    ∧ win0_4.index t = ![t.val / 8, 0, t.val / 2 % 4 + 20]
    ∧ win0_5.index t = ![0, 0]
    ∧ win0_6.index t = ![0, 0]
    ∧ win0_7.index t = ![t.val / 8, t.val % 2, t.val / 2 % 4] :=
  (by decide +kernel : ∀ t : Fin grid0.N, _)

/-- Reading a whole carried buffer takes every row where it is. -/
theorem whole_idx (j : S2304x128.Idx) :
    (Rect.unit (s := S2304x128) ![0, 0] ![2304, 128] inb_S2304x128_S2304x128_0_0).idx j = j := by
  funext a
  apply Fin.ext
  fin_cases a <;> simp [LoadRect.idx]

/-- Four stored parts of 256 rows are the block's entries. -/
theorem parts_entry (l : FVec Ideal S4x64 .f32) (q : FVec Ideal S1x1024x128 .f32) (k v : FVec Ideal S2304x128 .bf16)
    (g : FVec Ideal S1x128 .f32) (y : S1x1024x128.Idx) :
    View.canon (Val := Elt Ideal) (s := S1x1024x128) (e := .f32)
      [⟨Rect.unit ![0, 768, 0] ![1, 256, 128] inb_S1x1024x128_S1x256x128_0_768_0, part (k0_pay6 l) (View.ld (Val := Elt Ideal) (S := S1x1024x128) (e' := .f32) q
          (Rect.unit ![0, 768, 0] ![1, 256, 128] inb_S1x1024x128_S1x256x128_0_768_0)) k v g⟩,
       ⟨Rect.unit ![0, 512, 0] ![1, 256, 128] inb_S1x1024x128_S1x256x128_0_512_0, part (k0_pay6 l) (View.ld (Val := Elt Ideal) (S := S1x1024x128) (e' := .f32) q
          (Rect.unit ![0, 512, 0] ![1, 256, 128] inb_S1x1024x128_S1x256x128_0_512_0)) k v g⟩,
       ⟨Rect.unit ![0, 256, 0] ![1, 256, 128] inb_S1x1024x128_S1x256x128_0_256_0, part (k0_pay6 l) (View.ld (Val := Elt Ideal) (S := S1x1024x128) (e' := .f32) q
          (Rect.unit ![0, 256, 0] ![1, 256, 128] inb_S1x1024x128_S1x256x128_0_256_0)) k v g⟩,
       ⟨Rect.unit ![0, 0, 0] ![1, 256, 128] inb_S1x1024x128_S1x256x128_0_0_0, part (k0_pay6 l) (View.ld (Val := Elt Ideal) (S := S1x1024x128) (e' := .f32) q
          (Rect.unit ![0, 0, 0] ![1, 256, 128] inb_S1x1024x128_S1x256x128_0_0_0)) k v g⟩] y
      = entry l q k v g (y 1) (y 2) := by
  canon_tiles x h
  all_goals
    refine part_entry _ _ _ _ _ _ _ _ _ (Fin.ext h2) fun z => ?_
    refine congrArg q ?_
    funext a
    apply Fin.ext
    fin_cases a <;> simp [LoadRect.idx] <;> omega

/-- The output block after a point that fills the carried buffers. -/
theorem out_A (c : Dev nD) (t : Fin cfg0.N) (h : t.val % 2 = 0) (y : S1x1024x128.Idx) :
    (outsAt0 m c t.val t.isLt).1 y = entry (iblk m c 5 t) (iblk m c 0 t) (joined (iblk m c 1 t) (iblk m c 3 t))
      (joined (iblk m c 2 t) (iblk m c 4 t)) (iblk m c 6 t) (y 1) (y 2) := by
  rw [outsAt0_A m c t h]; frame_out
  simp only [View.readCov_eq_canon', joined_keys, joined_values, whole_idx]
  exact parts_entry _ _ _ _ _ y

/-- The two points of one head hold the same keys and values. -/
theorem same_head (c : Dev nD) (t : Fin cfg0.N) (h : ¬t.val % 2 = 0) (ht : t.val - 1 < cfg0.N) :
    (iblk m c 1 ⟨t.val - 1, ht⟩ = iblk m c 1 t ∧ iblk m c 2 ⟨t.val - 1, ht⟩ = iblk m c 2 t)
    ∧ iblk m c 3 ⟨t.val - 1, ht⟩ = iblk m c 3 t ∧ iblk m c 4 ⟨t.val - 1, ht⟩ = iblk m c 4 t := by
  refine ⟨⟨?_, ?_⟩, ?_, ?_⟩ <;> funext y
  · blk_ext [iblk, V, idx t, idx ⟨t.val - 1, ht⟩]
  · blk_ext [iblk, V, idx t, idx ⟨t.val - 1, ht⟩]
  · blk_ext [iblk, V, idx t, idx ⟨t.val - 1, ht⟩]
  · blk_ext [iblk, V, idx t, idx ⟨t.val - 1, ht⟩]

/-- The output block after a point that finds the carried buffers filled. -/
theorem out_B (c : Dev nD) (t : Fin cfg0.N) (h : ¬t.val % 2 = 0) (y : S1x1024x128.Idx) :
    (outsAt0 m c t.val t.isLt).1 y = entry (iblk m c 5 t) (iblk m c 0 t) (joined (iblk m c 1 t) (iblk m c 3 t))
      (joined (iblk m c 2 t) (iblk m c 4 t)) (iblk m c 6 t) (y 1) (y 2) := by
  have ht : t.val - 1 < cfg0.N := lt_of_le_of_lt (Nat.sub_le _ _) t.isLt
  have hk := keys_A m c ⟨t.val - 1, ht⟩ (by show (t.val - 1) % 2 = 0; omega)
  have hv := values_A m c ⟨t.val - 1, ht⟩ (by show (t.val - 1) % 2 = 0; omega)
  obtain ⟨⟨h1, h2⟩, h3, h4⟩ := same_head m c t h ht
  rw [h1, h3] at hk
  rw [h2, h4] at hv
  rw [outsAt0_B m c t h]; frame_out
  generalize hK : View.read (Elt Ideal) (View.whole cc0_scratch0) _ = K
  generalize hV : View.read (Elt Ideal) (View.whole cc0_scratch1) _ = V
  obtain rfl : K = joined (iblk m c 1 t) (iblk m c 3 t) := hK.symm.trans ((read_unread_whole cc0_scratch0 _ _).trans hk)
  obtain rfl : V = joined (iblk m c 2 t) (iblk m c 4 t) := hV.symm.trans ((read_unread_whole cc0_scratch1 _ _).trans hv)
  exact parts_entry _ _ _ _ _ y

/-- THE OUTPUT BLOCK: at every grid point, each entry is `entry` of that point's blocks. -/
theorem out_at (c : Dev nD) (t : Fin cfg0.N) (y : S1x1024x128.Idx) :
    (outsAt0 m c t.val t.isLt).1 y = entry (iblk m c 5 t) (iblk m c 0 t) (joined (iblk m c 1 t) (iblk m c 3 t))
      (joined (iblk m c 2 t) (iblk m c 4 t)) (iblk m c 6 t) (y 1) (y 2) := by
  by_cases h : t.val % 2 = 0
  · exact out_A m c t h y
  · exact out_B m c t h y

end Cert.DiffIdeal.Block
-- ==== Proof.DiffRead.lean ====
module

public import proofs.«01_k».proof.Proof.Gen.DiffRefIdeal.Read
public import proofs.«01_k».proof.Proof.DiffRow
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

/-! The reference of the attention read at an index, as the row functions of `Cert.DiffRow`. -/
namespace Cert.DiffRefIdeal.At

open Cert.DiffRefIdeal Cert.DiffRefIdeal.Gen Cert.DiffRefIdeal.Read Cert.DiffRow

/-- Channel `d` of head `h` in the group of 512 columns that starts at head slot `a`. -/
def column (a : Fin 21) (h : Fin 4) (d : Fin 128) : Fin 3200 := ⟨(h.val + a.val) * 128 + d.val, by omega⟩

/-- Head `h`'s query of latent token `n`. -/
def query (u : FVec Ideal S16x2048x3200 .f32) (b : Fin 16) (h : Fin 4) (n : Fin 2048) (d : Fin 128) : EReal :=
  u (ix3 b n (column 12 h d))

/-- The row `j` of the 2304 rows of a head: 2048 latent tokens, then 256 context tokens. -/
def row (a : Fin 21) (u : FVec Ideal S16x2048x3200 .f32) (uc : FVec Ideal S16x256x3200 .f32) (b : Fin 16) (h : Fin 4)
    (j : Fin 2304) (d : Fin 128) : EReal :=
  if hj : j.val < 2048 then u (ix3 b ⟨j.val, hj⟩ (column a h d))
  else uc (ix3 b ⟨j.val - 2048, by omega⟩ (column a h d))

variable (u : FVec Ideal S16x2048x3200 .f32) (uc : FVec Ideal S16x256x3200 .f32) (l : FVec Ideal S4x64 .f32)
  (g : FVec Ideal S128 .f32)

/-- The reference's query, split in the head's two halves and scaled. -/
theorem query_at (b : Fin 16) (h : Fin 4) (f : Fin 2) (n : Fin 2048) (x : Fin 64) :
    val_main_v9 (F := Ideal) u (ix5 b h f n x)
      = query u b h n ⟨f.val * 64 + x.val, by omega⟩ * Ideal.ofBits .f32 0x3E000000#32 := by
  pointwise [val_main_v9, val_main_v8, val_main_v7, val_main_v6, val_main_v0, val_main_cst, query, column]
  exact congrArg (fun c => u (ix3 b n c) * Ideal.ofBits .f32 0x3E000000#32) (Fin.ext (by simp only []; omega))

/-- The reference's key, split in the head's two halves. -/
theorem key_at (b : Fin 16) (h : Fin 4) (f : Fin 2) (j : Fin 2304) (x : Fin 64) :
    val_main_v14 (F := Ideal) u uc (ix5 b h f j x) = row 16 u uc b h j ⟨f.val * 64 + x.val, by omega⟩ := by
  pointwise [val_main_v14, val_main_v13, val_main_v12, val_main_v11, val_main_v10, val_main_v1, val_main_v4, row, column]
  split
  · exact congrArg (fun c => u (ix3 b _ c)) (Fin.ext (by simp only []; omega))
  · exact congrArg (fun c => uc (ix3 b _ c)) (Fin.ext (by simp only []; omega))

/-- The reference's value row of a head. -/
theorem value_at (b : Fin 16) (h : Fin 4) (j : Fin 2304) (d : Fin 128) :
    val_main_v19 (F := Ideal) u uc (ix4 b h j d) = row 20 u uc b h j d := by
  pointwise [val_main_v19, val_main_v18, val_main_v17, val_main_v16, val_main_v15, val_main_v2, val_main_v5, row, column]
  split
  · exact congrArg (fun c => u (ix3 b _ c)) (Fin.ext (by simp only []; omega))
  · exact congrArg (fun c => uc (ix3 b _ c)) (Fin.ext (by simp only []; omega))

/-- The reference's scalar λ. -/
theorem lambda_at (i : S_.Idx) : val_main_v35 (F := Ideal) l i = lambda fun a x => l (ix2 a x) := by
  pointwise [val_main_v35, val_main_v34, val_main_v33, val_main_v32, val_main_v31, val_main_v30, val_main_v29, val_main_v28,
    val_main_v27, val_main_v26, val_main_v25, val_main_v24, val_main_v23, val_main_v22, val_main_v21, val_main_v20,
    val_main_cst_0, val_main_cst_1, val_main_cst_2, lambda]

/-- The score of key `j` for query `n`, in half `f` of head `h`. -/
theorem score_at (b : Fin 16) (h : Fin 4) (f : Fin 2) (n : Fin 2048) (j : Fin 2304) :
    val_main_v36 (F := Ideal) u uc (ix5 b h f n j) = score f (query u b h n) (row 16 u uc b h j) := by
  pointwise [val_main_v36]
  simp only [query_at, key_at, score]

/-- A maximum over the last of five axes, read at an index. -/
theorem reduce_at (s : FVec Ideal S16x4x2x2048x2304 .f32) (z : FVec Ideal S_ .f32) (b : Fin 16) (h : Fin 4) (f : Fin 2)
    (n : Fin 2048) :
    Host.reduce FloatOps.maximumf s z reducesTo_S16x4x2x2048x2304_S16x4x2x2048_d4 h_S_ (ix4 b h f n)
      = Finset.univ.fold max (z (Shape.Idx.first h_S_)) fun j : Fin 2304 => s (ix5 b h f n j) := by
  pointwise []

/-- The largest score of a row. -/
theorem top_at (b : Fin 16) (h : Fin 4) (f : Fin 2) (n : Fin 2048) :
    val_main_v39 (F := Ideal) u uc (ix4 b h f n) = top fun j => score f (query u b h n) (row 16 u uc b h j) := by
  rw [val_main_v39_apply, val_main_v38_apply]
  unfold val_main_v37
  rw [reduce_at]
  simp only [score_at]
  unfold top
  refine (max_eq_right ?_)
  show Ideal.ofBits .f32 0xFF800000#32 ≤ _
  rw [negInf]
  exact bot_le

/-- The exponential weight of a key. -/
theorem weight_at (b : Fin 16) (h : Fin 4) (f : Fin 2) (n : Fin 2048) (j : Fin 2304) :
    val_main_v43 (F := Ideal) u uc (ix5 b h f n j) = wt (fun j => score f (query u b h n) (row 16 u uc b h j)) j := by
  have e : idx_main_v40 (idx_main_v41 (ix5 b h f n j)) = ix4 b h f n := by
    funext a; apply Fin.ext
    fin_cases a <;> rfl
  rw [val_main_v43_apply, val_main_v42_apply, val_main_v41_apply, val_main_v40_apply, e, score_at, top_at]
  rfl

/-- The probability of a key. -/
theorem prob_at (b : Fin 16) (h : Fin 4) (f : Fin 2) (n : Fin 2048) (j : Fin 2304) :
    val_main_v47 (F := Ideal) u uc (ix5 b h f n j) = prob (fun j => score f (query u b h n) (row 16 u uc b h j)) j := by
  have e : idx_main_v45 (idx_main_v46 (ix5 b h f n j)) = ix4 b h f n := by
    funext a; apply Fin.ext
    fin_cases a <;> rfl
  have e' : ∀ k, idx_main_v44 (ix4 b h f n) k = ix5 b h f n k := fun k => by
    funext a; apply Fin.ext
    fin_cases a <;> rfl
  have z : val_main_cst_5 (F := Ideal) (Shape.Idx.first h_S_) = 0 := Ideal.ofBits_zero_f32
  rw [val_main_v47_apply, val_main_v46_apply, val_main_v45_apply, e, val_main_v44_apply, z, zero_add]
  simp only [e', weight_at]
  rfl

/-- The difference of a key's two probabilities. -/
theorem difference_at (b : Fin 16) (h : Fin 4) (n : Fin 2048) (j : Fin 2304) :
    val_main_v54 (F := Ideal) u uc l (ix4 b h n j)
      = val_main_v47 (F := Ideal) u uc (ix5 b h 0 n j)
        - lambda (fun a x => l (ix2 a x)) * val_main_v47 (F := Ideal) u uc (ix5 b h 1 n j) := by
  have e0 : idx_main_v48 (idx_main_v49 (ix4 b h n j)) = ix5 b h 0 n j := by
    funext a; apply Fin.ext
    fin_cases a <;> simp [idx_main_v48, idx_main_v49] <;> omega
  have e1 : idx_main_v50 (idx_main_v51 (ix4 b h n j)) = ix5 b h 1 n j := by
    funext a; apply Fin.ext
    fin_cases a <;> simp [idx_main_v50, idx_main_v51] <;> omega
  rw [val_main_v54_apply, val_main_v53_apply, val_main_v52_apply, val_main_v51_apply, val_main_v50_apply, val_main_v49_apply,
    val_main_v48_apply, e0, e1, lambda_at]
  rfl

/-- One channel of a head's attention, before its norm. -/
def attended (b : Fin 16) (h : Fin 4) (n : Fin 2048) (d : Fin 128) : EReal :=
  referenceDiff (fun j => score 0 (query u b h n) (row 16 u uc b h j)) (fun j => score 1 (query u b h n) (row 16 u uc b h j))
    (lambda fun a x => l (ix2 a x)) (fun j => row 20 u uc b h j d)

/-- The difference of the two halves' attention, as the reference computes it. -/
theorem attended_at (b : Fin 16) (h : Fin 4) (n : Fin 2048) (d : Fin 128) :
    val_main_v55 (F := Ideal) u uc l (ix4 b h n d) = attended u uc l b h n d := by
  have el : ∀ k, lidx_main_v55 (ix4 b h n d) k = ix4 b h n k := fun k => by
    funext a; apply Fin.ext
    fin_cases a <;> rfl
  have er : ∀ k, ridx_main_v55 (ix4 b h n d) k = ix4 b h k d := fun k => by
    funext a; apply Fin.ext
    fin_cases a <;> rfl
  rw [val_main_v55_apply]
  simp only [el, er, difference_at, prob_at, value_at, attended, referenceDiff]

/-- The sum of a head's squares. -/
theorem squares_at (b : Fin 16) (h : Fin 4) (n : Fin 2048) :
    val_main_v57 (F := Ideal) u uc l (ix3 b h n) = ∑ x, attended u uc l b h n x * attended u uc l b h n x := by
  have e : ∀ k, idx_main_v57 (ix3 b h n) k = ix4 b h n k := fun k => by
    funext a; apply Fin.ext
    fin_cases a <;> rfl
  have z : val_main_cst_6 (F := Ideal) (Shape.Idx.first h_S_) = 0 := Ideal.ofBits_zero_f32
  rw [val_main_v57_apply, z, zero_add]
  refine Finset.sum_congr rfl fun x _ => ?_
  rw [e, val_main_v56_apply, attended_at]
  rfl

/-- THE REFERENCE AT AN INDEX: token `n`, channel `d` of head `h`, in batch `b`. -/
theorem result_at (b : Fin 16) (h : Fin 4) (n : Fin 2048) (d : Fin 128) (k : Fin 512) (hk : k.val = h.val * 128 + d.val) :
    val_main_v72 (F := Ideal) u uc l g (ix3 b n k) = headNorm (attended u uc l b h n) (fun x => g (ix1 x)) d := by
  have e : idx_main_v71 (idx_main_v72 (ix3 b n k)) = ix4 b h n d := by
    funext a; apply Fin.ext
    fin_cases a <;> simp [idx_main_v71, idx_main_v72] <;> omega
  have e1 : idx_main_v58 (idx_main_v64 (ix4 b h n d)) = ix3 b h n := by
    funext a; apply Fin.ext
    fin_cases a <;> rfl
  have e2 : idx_main_v66 (idx_main_v67 (ix4 b h n d)) = ix1 d := by
    funext a; apply Fin.ext
    fin_cases a; rfl
  rw [val_main_v72_apply, val_main_v71_apply, e, val_main_v70_apply, val_main_v69_apply, val_main_v68_apply, val_main_v67_apply,
    val_main_v66_apply, val_main_v65_apply, val_main_v64_apply, val_main_v63_apply, val_main_v62_apply, val_main_v61_apply,
    val_main_v60_apply, val_main_v59_apply, val_main_v58_apply, e1, e2, squares_at, attended_at]
  rfl

end Cert.DiffRefIdeal.At
-- ==== Proof.DiffFinite.lean ====
module

public import proofs.«01_k».proof.Proof.Gen.Pre_diff_finite
public import proofs.«01_k».proof.Proof.DiffRow
public import Idealize.ShloMosaic.Lib.ReduceAll
public import Idealize.ShloMosaic.Lib.Pointwise

@[expose] public section

set_option maxRecDepth 16384

noncomputable section

open Idealize.ShloMosaic Idealize.ShloMosaic.TcCoe Idealize.SL.Sem

/-! What the precondition of the attention gives: every entry of its three arguments is a real number. -/
namespace Cert.Pre_diff_finite.At

open Cert.Pre_diff_finite Cert.DiffRow

/-- An extended real whose absolute value is below infinity is finite. -/
theorem finite_of_abs (x : EReal) (h : Ideal.cmp .olt (max x (-x) : EReal) (Ideal.ofBits .f32 0x7F800000#32) = 1#1) : Finite x := by
  have ht : Ideal.ofBits .f32 0x7F800000#32 = (⊤ : EReal) := by simp [Ideal.ofBits, Ideal.ieee]
  rw [ht] at h
  have h : max x (-x) < (⊤ : EReal) := by
    by_contra hn
    simp [Ideal.cmp, hn] at h
  induction x with
  | bot => exact absurd h (by simp)
  | top => exact absurd h (by simp)
  | coe r => exact ⟨r, rfl⟩

variable (x0 : FVec Ideal S16x2048x3200 .f32) (x1 : FVec Ideal S16x256x3200 .f32) (x2 : FVec Ideal S4x64 .f32)
  (x3 : FVec Ideal S128 .f32)

/-- The precondition is the three arguments' finiteness. -/
theorem finite_of_pre [Cert.Pre_diff_finite.Facts] (h : fn (F := Ideal) x0 x1 x2 x3 = fun _ => 1#1) :
    (∀ i, Finite (x0 i)) ∧ (∀ i, Finite (x1 i)) ∧ ∀ i, Finite (x2 i) := by
  have h := congrFun h ix0
  unfold fn at h
  simp only [andi, IntOp.andi_eq_one] at h
  exact ⟨fun i => finite_of_abs _ (Host.reduce_andi_all _ _ _ _ _ h.1.1 i),
    fun i => finite_of_abs _ (Host.reduce_andi_all _ _ _ _ _ h.1.2 i),
    fun i => finite_of_abs _ (Host.reduce_andi_all _ _ _ _ _ h.2 i)⟩

end Cert.Pre_diff_finite.At
-- ==== Proof.DiffFinal.lean ====
module

public import proofs.«01_k».proof.Proof.DiffBlock
public import proofs.«01_k».proof.Proof.DiffRead
public import proofs.«01_k».proof.Proof.DiffFinite
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The attention kernel's result array is the reference's. -/
namespace Cert.DiffIdeal.Final

open Cert.DiffIdeal Cert.DiffIdeal.Gen Cert.DiffIdeal.Part Cert.DiffIdeal.Block Cert.DiffRow
open Cert.DiffRefIdeal.At (query row column attended)

variable (m : (ℓ : Loc nD τ sig) → Buf (Elt Ideal) ℓ)

/-- The latent stream's projections. -/
abbrev u (c : Dev nD) : FVec Ideal S16x2048x3200 .f32 := m ((c : Thread nD τ).loc main_arg0)
/-- The context stream's projections. -/
abbrev uc (c : Dev nD) : FVec Ideal S16x256x3200 .f32 := m ((c : Thread nD τ).loc main_arg1)
/-- λ's four vectors. -/
abbrev lam (c : Dev nD) : FVec Ideal S4x64 .f32 := m ((c : Thread nD τ).loc main_arg2)
/-- The norm's weight. -/
abbrev weight (c : Dev nD) : FVec Ideal S128 .f32 := m ((c : Thread nD τ).loc main_arg3)

/-- The grid has 128 points: two blocks of 1024 queries for each of four heads of each of 16 batches. -/
theorem points : cfg0.N = 128 := rfl

/-- The batch of a grid point. -/
def batch (t : Fin cfg0.N) : Fin 16 := ⟨t.val / 8, by have : t.val < 128 := t.isLt; omega⟩
/-- The head of a grid point. -/
def head (t : Fin cfg0.N) : Fin 4 := ⟨t.val / 2 % 4, by omega⟩
/-- The token of a grid point's block row. -/
def token (t : Fin cfg0.N) (r : Fin 1024) : Fin 2048 := ⟨t.val % 2 * 1024 + r.val, by omega⟩

/-- A grid point's query window holds the query rows of its batch, head and tokens. -/
theorem query_block (c : Dev nD) (t : Fin cfg0.N) (r : Fin 1024) (d : Fin 128) :
    iblk m c 0 t (ix3 0 r d) = query (u m c) (batch t) (head t) (token t r) d := by
  unfold query column batch head token
  blk_ext [iblk, V, idx t]

/-- A grid point's two key windows, one after the other, are the key rows of its batch and head: the stream's, then the context's. -/
theorem key_block (c : Dev nD) (t : Fin cfg0.N) (j : Fin 2304) (d : Fin 128) :
    joined (iblk m c 1 t) (iblk m c 3 t) (ix2 j d) = row 16 (u m c) (uc m c) (batch t) (head t) j d := by
  unfold joined row column batch head
  split <;> rename_i h
  · rw [dif_pos (show j.val < 2048 from h)]
    blk_ext [iblk, V, idx t]
  · rw [dif_neg (show ¬ j.val < 2048 from h)]
    blk_ext [iblk, V, idx t]

/-- A grid point's two value windows, one after the other, are the value rows of its batch and head. -/
theorem value_block (c : Dev nD) (t : Fin cfg0.N) (j : Fin 2304) (d : Fin 128) :
    joined (iblk m c 2 t) (iblk m c 4 t) (ix2 j d) = row 20 (u m c) (uc m c) (batch t) (head t) j d := by
  unfold joined row column batch head
  split <;> rename_i h
  · rw [dif_pos (show j.val < 2048 from h)]
    blk_ext [iblk, V, idx t]
  · rw [dif_neg (show ¬ j.val < 2048 from h)]
    blk_ext [iblk, V, idx t]

/-- Every grid point sees the whole array of λ's four vectors. -/
theorem lambda_block (c : Dev nD) (t : Fin cfg0.N) (a : Fin 4) (x : Fin 64) : iblk m c 5 t (ix2 a x) = lam m c (ix2 a x) := by
  blk_ext [iblk, V, idx t]

/-- Every grid point sees the norm's whole weight. -/
theorem weight_block (c : Dev nD) (t : Fin cfg0.N) (x : Fin 128) : iblk m c 6 t (ix2 0 x) = weight m c (ix1 x) := by
  have e : ((win0_6.blk t).view.emb (ix2 (0 : Fin 1) x)) = ix2 (0 : Fin 1) x := by
    blk_ext [idx t]
  blk_simp [iblk]
  refine (congrArg (V m c main_v0) e).trans ?_
  entry_read
  pointwise []

/-- Where the output block's entry lies in the result. -/
theorem place (t : Fin cfg0.N) (y : S1x1024x128.Idx) :
    (win0_7.blk t).view.emb y
      = ix3 (batch t) (token t (y 1)) ⟨(head t).val * 128 + (y 2).val, by
          have : (y 2).val < 128 := (y 2).isLt
          omega⟩ := by
  unfold batch token head
  blk_ext [idx t]

/-- A point's entry is the reference's, the scores, λ and the values being finite. -/
theorem entry_eq (c : Dev nD) (t : Fin cfg0.N) (r : Fin 1024) (d : Fin 128) (hu : ∀ i, Finite (u m c i))
    (huc : ∀ i, Finite (uc m c i)) (hl : ∀ i, Finite (lam m c i)) :
    entry (iblk m c 5 t) (iblk m c 0 t) (joined (iblk m c 1 t) (iblk m c 3 t)) (joined (iblk m c 2 t) (iblk m c 4 t))
        (iblk m c 6 t) r d
      = headNorm (attended (u m c) (uc m c) (lam m c) (batch t) (head t) (token t r)) (fun x => weight m c (ix1 x)) d := by
  have hrow : ∀ a j x, Finite (row a (u m c) (uc m c) (batch t) (head t) j x) := fun a j x => by
    unfold row
    split
    · exact hu _
    · exact huc _
  unfold entry
  simp only [query_block, key_block, value_block, lambda_block, weight_block]
  congr 1
  funext x
  exact kernelDiff_eq (fun j => finite_score (fun d => hu _) fun d => hrow _ _ _) (fun j => finite_score (fun d => hu _) fun d => hrow _ _ _)
    (finite_lambda fun a x => hl _) fun j => hrow _ _ _

/-- THE RESULT ARRAY: on finite arguments the kernel leaves the reference's result. -/
theorem final [Cert.Pre_diff_finite.Facts] (c : Dev nD)
    (hpre : Cert.Pre_diff_finite.fn (F := Ideal) (u m c) (uc m c) (lam m c) (weight m c) = fun _ => 1#1) :
    (dats m 0 c).arrAt 7 (cfgs 0).N
      = Cert.DiffRefIdeal.Read.val_main_v72 (F := Ideal) (u m c) (uc m c) (lam m c) (weight m c) := by
  obtain ⟨hu, huc, hl⟩ := Cert.Pre_diff_finite.At.finite_of_pre _ _ _ _ hpre
  refine (dats m 0 c).arrAt_eq_of_covers 7 _ (by decide +kernel) fun t hf y => ?_
  blk_simp
  rw [after0_7]
  refine (out_at m c t y).trans ?_
  refine (entry_eq m c t (y 1) (y 2) hu huc hl).trans ?_
  refine Eq.trans ?_ (congrArg (Cert.DiffRefIdeal.Read.val_main_v72 (F := Ideal) (u m c) (uc m c) (lam m c) (weight m c)) (place t y)).symm
  exact (Cert.DiffRefIdeal.At.result_at (u m c) (uc m c) (lam m c) (weight m c) (batch t) (head t) (token t (y 1)) (y 2) _ rfl).symm

end Cert.DiffIdeal.Final
-- ==== Proof.FfnRow.lean ====
module

public import Idealize.ShloMosaic.Lib.Pointwise

@[expose] public section

set_option maxRecDepth 16384

noncomputable section

open Idealize.ShloMosaic Idealize.ShloMosaic.TcCoe Idealize.SL.Sem

/-! One token's half feed-forward update, as functions of its row of 1024 channels. -/
namespace Cert.FfnRow

/-- The row under its modulation. -/
def modulated (x shift scale : Fin 1024 → EReal) (y : Fin 1024) : EReal :=
  x y * (Ideal.ofBits .f32 0x3F800000#32 + scale y) + shift y

/-- The gate's logistic activation times the other half. -/
def act (g u : EReal) : EReal :=
  g * Ideal.div (Ideal.ofBits .f32 0x3F800000#32) (Ideal.ofBits .f32 0x3F800000#32 + Ideal.exp (-g)) * u

/-- Hidden channel `k`, out of 2816: the two halves of the first product meet in `act`. -/
def channel (h : Fin 1024 → EReal) (w : Fin 1024 → Fin 5632 → EReal) (k : Fin 2816) : EReal :=
  act (∑ x, h x * w x ⟨k.val, by omega⟩) (∑ x, h x * w x ⟨2816 + k.val, by omega⟩)

/-- The second product. -/
def forward (h : Fin 1024 → EReal) (w : Fin 1024 → Fin 5632 → EReal) (v : Fin 2816 → Fin 1024 → EReal) (d : Fin 1024) : EReal :=
  ∑ k, channel h w k * v k d

/-- The scaled row plus the gated half of the update. -/
def stream (x gate f : Fin 1024 → EReal) (d : Fin 1024) : EReal :=
  Ideal.ofBits .f32 0x3FB504F3#32 * x d + gate d * (Ideal.ofBits .f32 0x3F000000#32 * f d)

/-- The mean of a row. -/
def mean (z : Fin 1024 → EReal) : EReal := Ideal.div (∑ x, z x) (Ideal.ofBits .f32 0x44800000#32)

/-- The layer norm of a row, with its weight and bias. -/
def layerNorm (z g b : Fin 1024 → EReal) (d : Fin 1024) : EReal :=
  (z d - mean z) * Ideal.rsqrt (mean (fun x => (z x - mean z) * (z x - mean z)) + Ideal.ofBits .f32 0x3727C5AC#32) * g d + b d

/-- The whole update of a row. -/
def update (x shift scale gate : Fin 1024 → EReal) (w : Fin 1024 → Fin 5632 → EReal) (v : Fin 2816 → Fin 1024 → EReal)
    (g b : Fin 1024 → EReal) (d : Fin 1024) : EReal :=
  layerNorm (stream x gate (forward (modulated x shift scale) w v)) g b d

/-- A sum of eleven, added from the left. -/
theorem sum_eleven (f : Fin 11 → EReal) :
    ∑ j, f j = f 0 + f 1 + f 2 + f 3 + f 4 + f 5 + f 6 + f 7 + f 8 + f 9 + f 10 := by
  simp only [Fin.sum_univ_castSucc, Fin.sum_univ_zero, zero_add]
  rfl

/-- The eleven chunks of 256 hidden channels the kernel adds one after another are the one sum over 2816. -/
theorem eleven (f : Fin 2816 → EReal) :
    ∑ k, f k = (∑ k : Fin 256, f ⟨0 + k.val, by omega⟩) + (∑ k : Fin 256, f ⟨256 + k.val, by omega⟩)
      + (∑ k : Fin 256, f ⟨512 + k.val, by omega⟩) + (∑ k : Fin 256, f ⟨768 + k.val, by omega⟩)
      + (∑ k : Fin 256, f ⟨1024 + k.val, by omega⟩) + (∑ k : Fin 256, f ⟨1280 + k.val, by omega⟩)
      + (∑ k : Fin 256, f ⟨1536 + k.val, by omega⟩) + (∑ k : Fin 256, f ⟨1792 + k.val, by omega⟩)
      + (∑ k : Fin 256, f ⟨2048 + k.val, by omega⟩) + (∑ k : Fin 256, f ⟨2304 + k.val, by omega⟩)
      + (∑ k : Fin 256, f ⟨2560 + k.val, by omega⟩) := by
  rw [Fin.sum_univ_tiles 11 256 rfl f, sum_eleven]
  rfl

end Cert.FfnRow
-- ==== Proof.FfnPart.lean ====
module

public import proofs.«01_k».proof.Proof.Gen.FfnIdeal.Value
public import proofs.«01_k».proof.Proof.FfnRow
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

/-! The feed-forward kernel's body, chunk by chunk: the printed values of each chunk are the same functions,
    read at an index as the row functions of `Cert.FfnRow`. -/
namespace Cert.FfnIdeal.Part

open Cert.FfnIdeal Cert.FfnIdeal.Gen Cert.FfnRow

variable (h : FVec Ideal S512x1024 .bf16) (acc : FVec Ideal S512x1024 .f32) (g0 u0 g1 u1 : FVec Ideal S1024x256 .bf16)
    (d0 d1 : FVec Ideal S256x1024 .bf16)

/-- A chunk's 256 hidden channels, from the modulated rows and the chunk's columns of the two weight halves. -/
def chunk (h : FVec Ideal S512x1024 .bf16) (wg wu : FVec Ideal S1024x256 .bf16) : FVec Ideal S512x256 .bf16 := k0_pay8 h wg wu

/-- A chunk's term of the second product. -/
def term (h : FVec Ideal S512x1024 .bf16) (wg wu : FVec Ideal S1024x256 .bf16) (wd : FVec Ideal S256x1024 .bf16) :
    FVec Ideal S512x1024 .f32 :=
  matmul dot_S512x256_S256x1024_S512x1024_1_0_0_1_n_n none (chunk h wg wu) (k0_pay6 wd) (constant S512x1024 .f32 0x00000000#32)

/-- The first accumulated value: the terms of chunks 0 and 1. -/
theorem sum01 (x0 : FVec Ideal S1x512x1024 .f32) (a b : FVec Ideal S1x1x1024 .f32) :
    k0_pay7 (F := Ideal) (k0_pay4 x0 a b) (k0_pay5 x0 a b g0 u0) (k0_pay6 d0) (constant S512x1024 .f32 0x00000000#32) g1 u1 d1
      = addf (term (k0_pay4 x0 a b) g0 u0 d0) (term (k0_pay4 x0 a b) g1 u1 d1) := by
  rfl

/-- The next adds the terms of chunks 2 and 3. -/
theorem sum23 : k0_pay9 (F := Ideal) h acc (k0_pay8 h g0 u0) d0 g1 u1 d1 = addf (addf acc (term h g0 u0 d0)) (term h g1 u1 d1) := by
  rfl

/-- The next adds the terms of chunks 4 and 5. -/
theorem sum45 : k0_pay12 (F := Ideal) h acc (k0_pay10 h u0) (k0_pay11 h g0) d0 g1 u1 d1
    = addf (addf acc (term h g0 u0 d0)) (term h g1 u1 d1) := by
  rfl

/-- The next adds the terms of chunks 6 and 7. -/
theorem sum67 : k0_pay16 (F := Ideal) h acc (k0_pay13 h g0) (k0_pay14 h u0) (k0_pay15 h g0) d0 g1 u1 d1
    = addf (addf acc (term h g0 u0 d0)) (term h g1 u1 d1) := by
  rfl

/-- The next adds the terms of chunks 8 and 9. -/
theorem sum89 : k0_pay20 (F := Ideal) h acc (k0_pay17 h g0) (k0_pay18 h u0) (k0_pay19 h g0) d0 g1 u1 d1
    = addf (addf acc (term h g0 u0 d0)) (term h g1 u1 d1) := by
  rfl

/-- A chunk's hidden channel: the activation of the row's two products. -/
theorem chunk_at (r : Fin 512) (k : Fin 256) :
    chunk h g0 u0 (ix2 r k) = act (∑ x, h (ix2 r x) * g0 (ix2 x k)) (∑ x, h (ix2 r x) * u0 (ix2 x k)) := by
  unfold chunk
  pointwise [k0_pay8, act]
  rw [zero_sub]

/-- A chunk's term of an output channel: the sum over its 256 hidden channels. -/
theorem term_at (r : Fin 512) (d : Fin 1024) :
    term h g0 u0 d0 (ix2 r d)
      = ∑ k : Fin 256, act (∑ x, h (ix2 r x) * g0 (ix2 x k)) (∑ x, h (ix2 r x) * u0 (ix2 x k)) * d0 (ix2 k d) := by
  unfold term
  pointwise [k0_pay6]
  simp only [chunk_at]

/-- The kernel's modulated row. -/
theorem modulated_at (x0 : FVec Ideal S1x512x1024 .f32) (a b : FVec Ideal S1x1x1024 .f32) (r : Fin 512) (y : Fin 1024) :
    k0_pay4 (F := Ideal) x0 a b (ix2 r y)
      = modulated (fun y => x0 (ix3 0 r y)) (fun y => a (ix3 0 0 y)) (fun y => b (ix3 0 0 y)) y := by
  pointwise [k0_pay4, k0_pay2, modulated]

/-- The last chunk, the residual and the norm. -/
theorem norm_at (x0 : FVec Ideal S1x512x1024 .f32) (gate : FVec Ideal S1x1x1024 .f32) (wt bias : FVec Ideal S1x1024 .f32)
    (r : Fin 512) (d : Fin 1024) :
    k0_pay1 (F := Ideal) (k0_pay23 bias) (k0_pay24 (k0_pay2 x0) (k0_pay3 gate) h acc (k0_pay21 h g0) (k0_pay22 u0)
        (constant S512x256 .f32 0x00000000#32) d0) (k0_pay25 wt) (ix3 0 r d)
      = layerNorm (stream (fun y => x0 (ix3 0 r y)) (fun y => gate (ix3 0 0 y))
          fun y => acc (ix2 r y) + term h g0 u0 d0 (ix2 r y)) (fun y => wt (ix2 0 y)) (fun y => bias (ix2 0 y)) d := by
  simp only [term_at]
  pointwise [k0_pay1, k0_pay23, k0_pay24, k0_pay25, k0_pay2, k0_pay3, k0_pay21, k0_pay22, layerNorm, stream, mean, act]
  simp only [stream, zero_sub]

end Cert.FfnIdeal.Part
-- ==== Proof.FfnBlock.lean ====
module

public import proofs.«01_k».proof.Proof.FfnPart

@[expose] public section

set_option maxRecDepth 16384

noncomputable section

open Idealize.ShloMosaic Idealize.ShloMosaic.TcCoe Idealize.SL.Sem

/-! What a grid point's body leaves in its block: the update of each of the block's 512 rows. -/
namespace Cert.FfnIdeal.Block

open Cert.FfnIdeal Cert.FfnIdeal.Gen Cert.FfnIdeal.Part Cert.FfnRow

/-- A chunk's term of the second product, at column `d`, from the weights' columns and rows from `k0` on. -/
theorem term_forward (h : FVec Ideal S512x1024 .bf16) (h' : Fin 1024 → EReal) (w : FVec Ideal S1024x5632 .bf16) (v : FVec Ideal S2816x1024 .bf16)
    (g u : FVec Ideal S1024x256 .bf16) (d0 : FVec Ideal S256x1024 .bf16) (k0 : Nat) (hk : k0 + 256 ≤ 2816) (r : Fin 512)
    (hh : ∀ x, h (ix2 r x) = h' x)
    (hg : ∀ x k, g (ix2 x k) = w (ix2 x ⟨k0 + k.val, by omega⟩)) (hu : ∀ x k, u (ix2 x k) = w (ix2 x ⟨2816 + (k0 + k.val), by omega⟩))
    (hd : ∀ k d, d0 (ix2 k d) = v (ix2 ⟨k0 + k.val, by omega⟩ d)) (d : Fin 1024) :
    term h g u d0 (ix2 r d)
      = ∑ k : Fin 256, channel h' (fun x k => w (ix2 x k)) ⟨k0 + k.val, by omega⟩ * v (ix2 ⟨k0 + k.val, by omega⟩ d) := by
  rw [term_at]
  unfold channel
  simp only [hh, hg, hu, hd]

/-- 256 columns of the first weight, loaded from column `o` on. -/
theorem columns (w : FVec Ideal S1024x5632 .bf16) (o : Nat) (ho : ∀ a, (![0, o] : Fin 2 → Nat) a + S1024x256.size a ≤ S1024x5632.size a)
    (x : Fin 1024) (k : Fin 256) (n : Fin 5632) (hn : n.val = o + k.val) :
    View.ld (Val := Elt Ideal) (S := S1024x5632) (e' := .bf16) w (Rect.unit (s := S1024x5632) ![0, o] S1024x256.size ho) (ix2 x k) = w (ix2 x n) := by
  refine congrArg w ?_
  funext a
  apply Fin.ext
  fin_cases a <;> simp [LoadRect.idx, hn]

/-- 256 rows of the second weight, loaded from row `o` on. -/
theorem rows (v : FVec Ideal S2816x1024 .bf16) (o : Nat) (ho : ∀ a, (![o, 0] : Fin 2 → Nat) a + S256x1024.size a ≤ S2816x1024.size a)
    (k : Fin 256) (d : Fin 1024) (n : Fin 2816) (hn : n.val = o + k.val) :
    View.ld (Val := Elt Ideal) (S := S2816x1024) (e' := .bf16) v (Rect.unit (s := S2816x1024) ![o, 0] S256x1024.size ho) (ix2 k d) = v (ix2 n d) := by
  refine congrArg v ?_
  funext a
  apply Fin.ext
  fin_cases a <;> simp [LoadRect.idx, hn]

/-- One of the nine modulation rows, loaded. -/
theorem loadedRow (x1 : FVec Ideal S1x9x1024 .f32) (o : Nat) (ho : ∀ a, (![0, o, 0] : Fin 3 → Nat) a + S1x1x1024.size a ≤ S1x9x1024.size a)
    (n : Fin 9) (hn : n.val = o) (y : Fin 1024) :
    View.ld (Val := Elt Ideal) (S := S1x9x1024) (e' := .f32) x1 (Rect.unit (s := S1x9x1024) ![0, o, 0] S1x1x1024.size ho) (ix3 0 0 y) = x1 (ix3 0 n y) := by
  refine congrArg x1 ?_
  funext a
  apply Fin.ext
  fin_cases a <;> simp [LoadRect.idx, hn]

/-- A vector sum, at an index. -/
theorem add_at (a b : FVec Ideal S512x1024 .f32) (i : S512x1024.Idx) : addf a b i = a i + b i := rfl

/-- The block's entry at row `r`, channel `d`: the update of row `r`. -/
theorem out_at (x0 : FVec Ideal S1x512x1024 .f32) (x1 : FVec Ideal S1x9x1024 .f32) (x2 : FVec Ideal S1024x5632 .bf16)
    (x3 : FVec Ideal S2816x1024 .bf16) (x4 x5 : FVec Ideal S1x1024 .f32) (r : Fin 512) (d : Fin 1024) :
    out0_6 (F := Ideal) x0 x1 x2 x3 x4 x5 (ix3 0 r d)
      = update (fun y => x0 (ix3 0 r y)) (fun y => x1 (ix3 0 6 y)) (fun y => x1 (ix3 0 7 y)) (fun y => x1 (ix3 0 8 y))
          (fun x k => x2 (ix2 x k)) (fun k d => x3 (ix2 k d)) (fun y => x4 (ix2 0 y)) (fun y => x5 (ix2 0 y)) d := by
  have e0 : View.ld (Val := Elt Ideal) (S := S1x512x1024) (e' := .f32) x0 r0_0 = x0 := by
    funext y
    refine congrArg x0 ?_
    funext a
    apply Fin.ext
    fin_cases a <;> simp [LoadRect.idx]
  have e4 : View.ld (Val := Elt Ideal) (S := S1x1024) (e' := .f32) x4 r0_37 = x4 := by
    funext y
    refine congrArg x4 ?_
    funext a
    apply Fin.ext
    fin_cases a <;> simp [LoadRect.idx]
  have e5 : View.ld (Val := Elt Ideal) (S := S1x1024) (e' := .f32) x5 r0_37 = x5 := by
    funext y
    refine congrArg x5 ?_
    funext a
    apply Fin.ext
    fin_cases a <;> simp [LoadRect.idx]
  unfold_out out0_6
  canon_tiles x hx
  rw [sum01, sum23, sum45, sum67, sum89, e0, e4, e5]
  obtain rfl : x = ix3 0 r d := by
    funext a
    apply Fin.ext
    fin_cases a
    · exact hx0.symm
    · exact hx1.symm
    · exact hx2.symm
  rw [norm_at]
  have hh : ∀ y, k0_pay4 (F := Ideal) x0 (View.ld x1 r0_1) (View.ld x1 r0_2) (ix2 r y)
      = modulated (fun y => x0 (ix3 0 r y)) (fun y => x1 (ix3 0 6 y)) (fun y => x1 (ix3 0 7 y)) y := fun y => by
    rw [modulated_at]
    congr 1 <;> funext y
    · exact loadedRow x1 6 _ 6 rfl y
    · exact loadedRow x1 7 _ 7 rfl y
  unfold update
  congr 2
  · funext y
    exact loadedRow x1 8 _ 8 rfl y
  · funext y
    unfold forward
    rw [eleven]
    simp only [add_at]
    refine congrArg₂ (· + ·) ?_ (term_forward _ _ x2 x3 _ _ _ 2560 (by omega) r hh (fun x k => columns x2 _ _ x k _ (by simp)) (fun x k => columns x2 _ _ x k _ (by simp; try omega)) (fun k d => rows x3 _ _ k d _ (by simp)) y)
    refine congrArg₂ (· + ·) ?_ (term_forward _ _ x2 x3 _ _ _ 2304 (by omega) r hh (fun x k => columns x2 _ _ x k _ (by simp)) (fun x k => columns x2 _ _ x k _ (by simp; try omega)) (fun k d => rows x3 _ _ k d _ (by simp)) y)
    refine congrArg₂ (· + ·) ?_ (term_forward _ _ x2 x3 _ _ _ 2048 (by omega) r hh (fun x k => columns x2 _ _ x k _ (by simp)) (fun x k => columns x2 _ _ x k _ (by simp; try omega)) (fun k d => rows x3 _ _ k d _ (by simp)) y)
    refine congrArg₂ (· + ·) ?_ (term_forward _ _ x2 x3 _ _ _ 1792 (by omega) r hh (fun x k => columns x2 _ _ x k _ (by simp)) (fun x k => columns x2 _ _ x k _ (by simp; try omega)) (fun k d => rows x3 _ _ k d _ (by simp)) y)
    refine congrArg₂ (· + ·) ?_ (term_forward _ _ x2 x3 _ _ _ 1536 (by omega) r hh (fun x k => columns x2 _ _ x k _ (by simp)) (fun x k => columns x2 _ _ x k _ (by simp; try omega)) (fun k d => rows x3 _ _ k d _ (by simp)) y)
    refine congrArg₂ (· + ·) ?_ (term_forward _ _ x2 x3 _ _ _ 1280 (by omega) r hh (fun x k => columns x2 _ _ x k _ (by simp)) (fun x k => columns x2 _ _ x k _ (by simp; try omega)) (fun k d => rows x3 _ _ k d _ (by simp)) y)
    refine congrArg₂ (· + ·) ?_ (term_forward _ _ x2 x3 _ _ _ 1024 (by omega) r hh (fun x k => columns x2 _ _ x k _ (by simp)) (fun x k => columns x2 _ _ x k _ (by simp; try omega)) (fun k d => rows x3 _ _ k d _ (by simp)) y)
    refine congrArg₂ (· + ·) ?_ (term_forward _ _ x2 x3 _ _ _ 768 (by omega) r hh (fun x k => columns x2 _ _ x k _ (by simp)) (fun x k => columns x2 _ _ x k _ (by simp; try omega)) (fun k d => rows x3 _ _ k d _ (by simp)) y)
    refine congrArg₂ (· + ·) ?_ (term_forward _ _ x2 x3 _ _ _ 512 (by omega) r hh (fun x k => columns x2 _ _ x k _ (by simp)) (fun x k => columns x2 _ _ x k _ (by simp; try omega)) (fun k d => rows x3 _ _ k d _ (by simp)) y)
    refine congrArg₂ (· + ·) ?_ (term_forward _ _ x2 x3 _ _ _ 256 (by omega) r hh (fun x k => columns x2 _ _ x k _ (by simp)) (fun x k => columns x2 _ _ x k _ (by simp; try omega)) (fun k d => rows x3 _ _ k d _ (by simp)) y)
    exact (term_forward _ _ x2 x3 _ _ _ 0 (by omega) r hh (fun x k => columns x2 _ _ x k _ (by simp)) (fun x k => columns x2 _ _ x k _ (by simp; try omega)) (fun k d => rows x3 _ _ k d _ (by simp)) y)

end Cert.FfnIdeal.Block
-- ==== Proof.FfnRead.lean ====
module

public import proofs.«01_k».proof.Proof.Gen.FfnRefIdeal.Read
public import proofs.«01_k».proof.Proof.FfnRow
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

/-! The reference of the feed-forward update read at an index, as the row functions of `Cert.FfnRow`. -/
namespace Cert.FfnRefIdeal.At

open Cert.FfnRefIdeal Cert.FfnRefIdeal.Gen Cert.FfnRefIdeal.Read Cert.FfnRow

variable (x : FVec Ideal S16x2048x1024 .f32) (mods : FVec Ideal S24x9x1024 .f32) (w : FVec Ideal S2x1024x5632 .f32)
  (v : FVec Ideal S2x2816x1024 .f32) (g bias : FVec Ideal S3x1024 .f32)

/-- Row `k` of the nine modulation rows of batch entry `b`. -/
def modRow (k : Fin 9) (b : Fin 16) (y : Fin 1024) : EReal := mods (ix3 ⟨b.val, by omega⟩ k y)

/-- The modulated row of a token. -/
abbrev rowIn (b : Fin 16) (n : Fin 2048) : Fin 1024 → EReal :=
  modulated (fun y => x (ix3 b n y)) (modRow mods 6 b) (modRow mods 7 b)

/-- The row before its norm. -/
abbrev rowSum (b : Fin 16) (n : Fin 2048) : Fin 1024 → EReal :=
  stream (fun y => x (ix3 b n y)) (modRow mods 8 b) (forward (rowIn x mods b n) (fun y k => w (ix3 1 y k)) fun k d => v (ix3 1 k d))

/-- The token's modulated input. -/
theorem modulated_at (b : Fin 16) (n : Fin 2048) (y : Fin 1024) :
    val_main_v13 (F := Ideal) x mods (ix3 b n y) = rowIn x mods b n y := by
  simp only [val_main_v13_apply, val_main_v12_apply, val_main_v11_apply, val_main_v10_apply, val_main_v9_apply, val_main_v8_apply,
    val_main_v5_apply, val_main_v4_apply, val_main_v3_apply, val_main_v2_apply, val_main_v1_apply, val_main_v0_apply, val_main_cst_apply]
  pointwise [modulated, modRow]
  refine congrArg₂ (· + ·) (congrArg (fun z => x (ix3 b n y) * (1 + z)) (congrArg mods ?_)) (congrArg mods ?_) <;>
    (funext a; apply Fin.ext; fin_cases a <;> simp [idx_main_v0, idx_main_v1, idx_main_v2, idx_main_v3, idx_main_v4, idx_main_v5,
      idx_main_v10, idx_main_v12] <;> omega)

/-- The gate's row. -/
theorem gate_at (b : Fin 16) (n : Fin 2048) (y : Fin 1024) :
    val_main_v28 (F := Ideal) mods (ix3 b n y) = modRow mods 8 b y := by
  simp only [val_main_v28_apply, val_main_v7_apply, val_main_v6_apply, val_main_v1_apply, val_main_v0_apply]
  pointwise [modRow]
  refine congrArg mods ?_
  funext a
  apply Fin.ext
  fin_cases a <;> simp [idx_main_v0, idx_main_v1, idx_main_v6, idx_main_v7, idx_main_v28] <;> omega

/-- The first weight. -/
theorem weight_at (y : Fin 1024) (k : Fin 5632) : val_main_v15 (F := Ideal) w (ix2 y k) = w (ix3 1 y k) := by
  pointwise [val_main_v15, val_main_v14]

/-- The second weight. -/
theorem down_at (k : Fin 2816) (d : Fin 1024) : val_main_v22 (F := Ideal) v (ix2 k d) = v (ix3 1 k d) := by
  pointwise [val_main_v22, val_main_v21]

/-- The first product. -/
theorem product_at (b : Fin 16) (n : Fin 2048) (k : Fin 5632) :
    val_main_v16 (F := Ideal) x mods w (ix3 b n k) = ∑ y, rowIn x mods b n y * w (ix3 1 y k) := by
  rw [val_main_v16_apply]
  refine Finset.sum_congr rfl fun y _ => ?_
  rw [show lidx_main_v16 (ix3 b n k) y = ix3 b n y by funext a; apply Fin.ext; fin_cases a <;> rfl,
    show ridx_main_v16 (ix3 b n k) y = ix2 y k by funext a; apply Fin.ext; fin_cases a <;> rfl, modulated_at, weight_at]

/-- A hidden channel. -/
theorem channel_at (b : Fin 16) (n : Fin 2048) (k : Fin 2816) :
    val_main_v20 (F := Ideal) x mods w (ix3 b n k) = channel (rowIn x mods b n) (fun y k => w (ix3 1 y k)) k := by
  have e17 : val_main_v17 (F := Ideal) x mods w (ix3 b n k) = ∑ y, rowIn x mods b n y * w (ix3 1 y ⟨k.val, by omega⟩) := by
    rw [val_main_v17_apply, ← product_at]
    refine congrArg _ ?_
    funext a; apply Fin.ext; fin_cases a <;> rfl
  have e18 : val_main_v18 (F := Ideal) x mods w (ix3 b n k) = ∑ y, rowIn x mods b n y * w (ix3 1 y ⟨2816 + k.val, by omega⟩) := by
    rw [val_main_v18_apply, ← product_at]
    refine congrArg _ ?_
    funext a; apply Fin.ext; fin_cases a <;> rfl
  rw [val_main_v20_apply, val_main_v19_apply, val_main_call0_v5_apply, val_main_call0_v4_apply, val_main_call0_v3_apply,
    val_main_call0_v2_apply, val_main_call0_v1_apply, val_main_call0_v0_apply, e17, e18]
  rfl

/-- The second product. -/
theorem forward_at (b : Fin 16) (n : Fin 2048) (d : Fin 1024) :
    val_main_v23 (F := Ideal) x mods w v (ix3 b n d) = forward (rowIn x mods b n) (fun y k => w (ix3 1 y k)) (fun k d => v (ix3 1 k d)) d := by
  rw [val_main_v23_apply]
  refine Finset.sum_congr rfl fun k _ => ?_
  rw [show lidx_main_v23 (ix3 b n d) k = ix3 b n k by funext a; apply Fin.ext; fin_cases a <;> rfl,
    show ridx_main_v23 (ix3 b n d) k = ix2 k d by funext a; apply Fin.ext; fin_cases a <;> rfl, channel_at, down_at]

/-- The row before its norm. -/
theorem stream_at (b : Fin 16) (n : Fin 2048) (d : Fin 1024) :
    val_main_v30 (F := Ideal) x mods w v (ix3 b n d) = rowSum x mods w v b n d := by
  rw [val_main_v30_apply, val_main_v29_apply, val_main_v27_apply, val_main_v26_apply, val_main_v25_apply, val_main_v24_apply,
    gate_at, forward_at]
  rfl

/-- The row's mean. -/
theorem mean_at (b : Fin 16) (n : Fin 2048) :
    val_main_v34 (F := Ideal) x mods w v (ix3 b n 0) = mean (rowSum x mods w v b n) := by
  rw [val_main_v34_apply, val_main_v33_apply, val_main_v32_apply, val_main_v31_apply, val_main_cst_2_apply]
  show Ideal.div (Ideal.ofBits .f32 0x00000000#32 + _) _ = _
  rw [Ideal.ofBits_zero_f32, zero_add]
  refine congrArg (Ideal.div · _) (Finset.sum_congr rfl fun y _ => ?_)
  rw [← stream_at]
  refine congrArg _ ?_
  funext a; apply Fin.ext; fin_cases a <;> rfl

/-- The row's mean square about its mean. -/
theorem variance_at (b : Fin 16) (n : Fin 2048) :
    val_main_v41 (F := Ideal) x mods w v (ix3 b n 0)
      = mean fun y => (rowSum x mods w v b n y - mean (rowSum x mods w v b n)) * (rowSum x mods w v b n y - mean (rowSum x mods w v b n)) := by
  rw [val_main_v41_apply, val_main_v40_apply, val_main_v39_apply, val_main_v38_apply, val_main_cst_4_apply]
  show Ideal.div (Ideal.ofBits .f32 0x00000000#32 + _) _ = _
  rw [Ideal.ofBits_zero_f32, zero_add]
  refine congrArg (Ideal.div · _) (Finset.sum_congr rfl fun y _ => ?_)
  rw [show idx_main_v38 (idx_main_v39 (ix3 b n 0)) y = ix3 b n y by funext a; apply Fin.ext; fin_cases a <;> rfl,
    val_main_v37_apply, val_main_v36_apply, val_main_v35_apply,
    show idx_main_v35 (ix3 b n y) = ix3 b n 0 by funext a; apply Fin.ext; fin_cases a <;> rfl, stream_at, mean_at]
  rfl

/-- The norm's weight. -/
theorem scale_at (b : Fin 16) (n : Fin 2048) (d : Fin 1024) : val_main_v52 (F := Ideal) g (ix3 b n d) = g (ix2 2 d) := by
  pointwise [val_main_v52, val_main_v51, val_main_v50, val_main_v49]

/-- The norm's bias. -/
theorem bias_at (b : Fin 16) (n : Fin 2048) (d : Fin 1024) : val_main_v57 (F := Ideal) bias (ix3 b n d) = bias (ix2 2 d) := by
  pointwise [val_main_v57, val_main_v56, val_main_v55, val_main_v54]

/-- The reference's result: the update of the token's row. -/
theorem result_at (b : Fin 16) (n : Fin 2048) (d : Fin 1024) :
    val_main_v58 (F := Ideal) x mods w v g bias (ix3 b n d)
      = update (fun y => x (ix3 b n y)) (modRow mods 6 b) (modRow mods 7 b) (modRow mods 8 b) (fun y k => w (ix3 1 y k))
          (fun k d => v (ix3 1 k d)) (fun y => g (ix2 2 y)) (fun y => bias (ix2 2 y)) d := by
  rw [val_main_v58_apply, val_main_v53_apply, val_main_v48_apply, val_main_v43_apply, val_main_v42_apply, val_main_v47_apply,
    val_main_v46_apply, val_main_v45_apply, val_main_v44_apply, scale_at, bias_at, stream_at,
    show idx_main_v42 (ix3 b n d) = ix3 b n 0 by funext a; apply Fin.ext; fin_cases a <;> rfl,
    show idx_main_v47 (ix3 b n d) = ix3 b n 0 by funext a; apply Fin.ext; fin_cases a <;> rfl, mean_at, variance_at]
  rfl

end Cert.FfnRefIdeal.At
-- ==== Proof.FfnFinal.lean ====
module

public import proofs.«01_k».proof.Proof.FfnBlock
public import proofs.«01_k».proof.Proof.FfnRead
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The feed-forward kernel's result array is the reference's. -/
namespace Cert.FfnIdeal.Final

open Cert.FfnIdeal Cert.FfnIdeal.Gen Cert.FfnIdeal.Block Cert.FfnRow
open Cert.FfnRefIdeal.At (modRow)

variable (m : (ℓ : Loc nD τ sig) → Buf (Elt Ideal) ℓ)

/-- The stream. -/
abbrev x (c : Dev nD) : FVec Ideal S16x2048x1024 .f32 := m ((c : Thread nD τ).loc main_arg0)
/-- The modulations. -/
abbrev mods (c : Dev nD) : FVec Ideal S24x9x1024 .f32 := m ((c : Thread nD τ).loc main_arg1)
/-- The first weights. -/
abbrev first (c : Dev nD) : FVec Ideal S2x1024x5632 .f32 := m ((c : Thread nD τ).loc main_arg2)
/-- The second weights. -/
abbrev second (c : Dev nD) : FVec Ideal S2x2816x1024 .f32 := m ((c : Thread nD τ).loc main_arg3)
/-- The norms' weights. -/
abbrev scales (c : Dev nD) : FVec Ideal S3x1024 .f32 := m ((c : Thread nD τ).loc main_arg4)
/-- The norms' biases. -/
abbrev biases (c : Dev nD) : FVec Ideal S3x1024 .f32 := m ((c : Thread nD τ).loc main_arg5)

/-- Which block each window stages at a grid point. -/
theorem idx : ∀ t : Fin cfg0.N,
    win0_0.index t = ![t.val / 4, t.val % 4, 0]
    ∧ win0_1.index t = ![t.val / 4, 0, 0]
    ∧ win0_2.index t = ![0, 0]
    ∧ win0_3.index t = ![0, 0]
    ∧ win0_4.index t = ![0, 0]
    ∧ win0_5.index t = ![0, 0]
    ∧ win0_6.index t = ![t.val / 4, t.val % 4, 0] :=
  (by decide +kernel : ∀ t : Fin grid0.N, _)

/-- The batch entry of a grid point. -/
def batch (t : Fin cfg0.N) : Fin 16 := ⟨t.val / 4, by have : t.val < 64 := t.isLt; omega⟩
/-- The token of a grid point's block row. -/
def token (t : Fin cfg0.N) (r : Fin 512) : Fin 2048 := ⟨t.val % 4 * 512 + r.val, by omega⟩

/-- The stream's block. -/
theorem stream_block (c : Dev nD) (t : Fin cfg0.N) (r : Fin 512) (y : Fin 1024) :
    iblk m c 0 t (ix3 0 r y) = x m c (ix3 (batch t) (token t r) y) := by
  unfold batch token
  blk_ext [iblk, V, idx t]

/-- The modulations' block: the nine rows of the point's batch entry. -/
theorem mods_block (c : Dev nD) (t : Fin cfg0.N) (k : Fin 9) (y : Fin 1024) :
    iblk m c 1 t (ix3 0 k y) = modRow (mods m c) k (batch t) y := by
  unfold modRow batch
  blk_ext [iblk, V, idx t]

/-- The first weight's block: the second of the two weights, whole. -/
theorem first_block (c : Dev nD) (t : Fin cfg0.N) (y : Fin 1024) (k : Fin 5632) :
    iblk m c 2 t (ix2 y k) = first m c (ix3 1 y k) := by
  have e : ((win0_2.blk t).view.emb (ix2 y k)) = ix2 y k := by
    blk_ext [idx t]
  blk_simp [iblk]
  refine (congrArg (V m c main_v3) e).trans ?_
  entry_read
  pointwise []

/-- The second weight's block: the second of the two weights, whole. -/
theorem second_block (c : Dev nD) (t : Fin cfg0.N) (k : Fin 2816) (d : Fin 1024) :
    iblk m c 3 t (ix2 k d) = second m c (ix3 1 k d) := by
  have e : ((win0_3.blk t).view.emb (ix2 k d)) = ix2 k d := by
    blk_ext [idx t]
  blk_simp [iblk]
  refine (congrArg (V m c main_v5) e).trans ?_
  entry_read
  pointwise []

/-- The norm's weight. -/
theorem scale_block (c : Dev nD) (t : Fin cfg0.N) (y : Fin 1024) : iblk m c 4 t (ix2 0 y) = scales m c (ix2 2 y) := by
  have e : ((win0_4.blk t).view.emb (ix2 (0 : Fin 1) y)) = ix2 (0 : Fin 1) y := by
    blk_ext [idx t]
  blk_simp [iblk]
  refine (congrArg (V m c main_v10) e).trans ?_
  entry_read
  pointwise []

/-- The norm's bias. -/
theorem bias_block (c : Dev nD) (t : Fin cfg0.N) (y : Fin 1024) : iblk m c 5 t (ix2 0 y) = biases m c (ix2 2 y) := by
  have e : ((win0_5.blk t).view.emb (ix2 (0 : Fin 1) y)) = ix2 (0 : Fin 1) y := by
    blk_ext [idx t]
  blk_simp [iblk]
  refine (congrArg (V m c main_v11) e).trans ?_
  entry_read
  pointwise []

/-- Where the output block's entry lies in the result. -/
theorem place (t : Fin cfg0.N) (r : Fin 512) (d : Fin 1024) :
    (win0_6.blk t).view.emb (ix3 (0 : Fin 1) r d) = ix3 (batch t) (token t r) d := by
  unfold batch token
  blk_ext [idx t]

/-- THE RESULT ARRAY: the kernel leaves the reference's result. -/
theorem final (c : Dev nD) :
    (dats m 0 c).arrAt 6 (cfgs 0).N
      = Cert.FfnRefIdeal.Read.val_main_v58 (F := Ideal) (x m c) (mods m c) (first m c) (second m c) (scales m c) (biases m c) := by
  refine (dats m 0 c).arrAt_eq_of_covers 6 _ (by decide +kernel) fun t hf y => ?_
  obtain ⟨r, d, rfl⟩ : ∃ (r : Fin 512) (d : Fin 1024), y = ix3 0 r d := by
    refine ⟨y 1, y 2, ?_⟩
    funext a
    apply Fin.ext
    fin_cases a
    · have : (y 0).val < 1 := (y 0).isLt
      show (y 0).val = 0
      omega
    · rfl
    · rfl
  blk_simp
  rw [after0_6]
  refine (out_at _ _ _ _ _ _ r d).trans ?_
  refine Eq.trans ?_ (congrArg (Cert.FfnRefIdeal.Read.val_main_v58 (F := Ideal) (x m c) (mods m c) (first m c) (second m c) (scales m c)
    (biases m c)) (place t r d)).symm
  rw [Cert.FfnRefIdeal.At.result_at]
  simp only [stream_block, mods_block, first_block, second_block, scale_block, bias_block]

end Cert.FfnIdeal.Final
-- ==== Proof.ProjBlock.lean ====
module

public import proofs.«01_k».proof.Proof.Gen.ProjIdeal.Value
public import proofs.«01_k».proof.Proof.FfnRow
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! What a grid point of the first layer's input projection leaves in its block: each of the block's 512 rows, modulated, times the weight. -/
namespace Cert.ProjIdeal.Block

open Cert.ProjIdeal Cert.ProjIdeal.Gen Cert.FfnRow

variable (m : (ℓ : Loc nD τ sig) → Buf (Elt Ideal) ℓ)

/-- The entry of row `r`, column `n`, from the point's blocks of tokens, modulations and weight. -/
def entry (x0 : FVec Ideal S1x512x1024 .f32) (x1 : FVec Ideal S1x9x1024 .f32) (x2 : FVec Ideal S1024x3456 .bf16) (r : Fin 512) (n : Fin 3456) : EReal :=
  ∑ y, modulated (fun y => x0 (ix3 0 r y)) (fun y => x1 (ix3 0 3 y)) (fun y => x1 (ix3 0 4 y)) y * x2 (ix2 y n)

/-- The modulated rows, as the kernel computes them. -/
theorem rows_at (x0 : FVec Ideal S1x512x1024 .f32) (a b : FVec Ideal S1x1x1024 .f32) (r : Fin 512) (y : Fin 1024) :
    k0_pay6 (F := Ideal) x0 a b (ix2 r y) = modulated (fun y => x0 (ix3 0 r y)) (fun y => b (ix3 0 0 y)) (fun y => a (ix3 0 0 y)) y := by
  pointwise [k0_pay6, modulated]

/-- A chunk of 512 columns of the product. -/
theorem wide_at (h : FVec Ideal S512x1024 .bf16) (w : FVec Ideal S1024x512 .bf16) (x : S1x512x512.Idx) :
    k0_pay2 (F := Ideal) h w x = ∑ y, h (ix2 (x 1) y) * w (ix2 y (x 2)) := by
  pointwise [k0_pay2]

/-- The last chunk, of 384 columns. -/
theorem narrow_at (h : FVec Ideal S512x1024 .bf16) (w : FVec Ideal S1024x384 .bf16) (x : S1x512x384.Idx) :
    k0_pay5 (F := Ideal) h w x = ∑ y, h (ix2 (x 1) y) * w (ix2 y (x 2)) := by
  pointwise [k0_pay5]

/-- A chunk's sum is the entry, where the chunk's column is the weight's column `n`. -/
theorem chunk_entry (x0 : FVec Ideal S1x512x1024 .f32) (x1 : FVec Ideal S1x9x1024 .f32) (x2 : FVec Ideal S1024x3456 .bf16) (r r' : Fin 512) (hr : r'.val = r.val)
    (n : Fin 3456) (w : Fin 1024 → EReal) (hw : ∀ y, w y = x2 (ix2 y n)) (a b : FVec Ideal S1x1x1024 .f32)
    (ha : ∀ y, a (ix3 0 0 y) = x1 (ix3 0 4 y)) (hb : ∀ y, b (ix3 0 0 y) = x1 (ix3 0 3 y)) :
    ∑ y, k0_pay6 (F := Ideal) x0 a b (ix2 r y) * w y = entry x0 x1 x2 r' n := by
  obtain rfl : r' = r := Fin.ext hr
  simp only [rows_at, hw, ha, hb, entry]

/-- The modulation row `k`, loaded. -/
theorem loaded (x1 : FVec Ideal S1x9x1024 .f32) (o : Nat) (ho : ∀ a, (![0, o, 0] : Fin 3 → Nat) a + S1x1x1024.size a ≤ S1x9x1024.size a)
    (n : Fin 9) (hn : n.val = o) (y : Fin 1024) :
    View.ld (Val := Elt Ideal) (S := S1x9x1024) (e' := .f32) x1 (Rect.unit (s := S1x9x1024) ![0, o, 0] S1x1x1024.size ho) (ix3 0 0 y) = x1 (ix3 0 n y) := by
  refine congrArg x1 ?_
  funext a
  apply Fin.ext
  fin_cases a <;> simp [LoadRect.idx, hn]

/-- THE OUTPUT BLOCK: at every grid point, each entry is `entry` of that point's blocks. -/
theorem out_at (c : Dev nD) (t : Fin cfg0.N) (y : S1x512x3456.Idx) :
    outsAt0 m c t y = entry (iblk m c 0 t) (iblk m c 1 t) (iblk m c 2 t) (y 1) (y 2) := by
  unfold outsAt0; frame_out
  canon_tiles x h using View.cover_of_tiledBy _ ![1, 512, 128] (by sl_kernel_rfl) y
  case' piece0 => refine (narrow_at _ _ x).trans ?_
  case' piece1 => refine (wide_at _ _ x).trans ?_
  case' piece2 => refine (wide_at _ _ x).trans ?_
  case' piece3 => refine (wide_at _ _ x).trans ?_
  case' piece4 => refine (wide_at (k0_pay6 _ _ _) _ x).trans ?_
  case' piece5 => refine (wide_at (k0_pay6 _ _ _) _ x).trans ?_
  case' piece6 => refine (wide_at (k0_pay6 _ _ _) _ x).trans ?_
  all_goals
    refine chunk_entry _ _ _ _ _ h1 _ _ (fun z => ?_) _ _ (fun z => loaded _ 4 _ 4 rfl z) (fun z => loaded _ 3 _ 3 rfl z)
    refine congrArg (iblk m c 2 t) ?_
    funext a
    apply Fin.ext
    fin_cases a <;> simp [LoadRect.idx] <;> omega

end Cert.ProjIdeal.Block
-- ==== Proof.ProjRead.lean ====
module

public import proofs.«01_k».proof.Proof.Gen.ProjRefIdeal.Read
public import proofs.«01_k».proof.Proof.FfnRow
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

/-! The reference of the first layer's input projection read at an index. -/
namespace Cert.ProjRefIdeal.At

open Cert.ProjRefIdeal Cert.ProjRefIdeal.Gen Cert.ProjRefIdeal.Read Cert.FfnRow

variable (x : FVec Ideal S16x2048x1024 .f32) (mods : FVec Ideal S24x9x1024 .f32) (w : FVec Ideal S1024x3456 .f32)

/-- Row `k` of the nine modulation rows of batch entry `b`. -/
def modRow (k : Fin 9) (b : Fin 16) (y : Fin 1024) : EReal := mods (ix3 ⟨b.val, by omega⟩ k y)

/-- The token's modulated row. -/
theorem modulated_at (b : Fin 16) (n : Fin 2048) (y : Fin 1024) :
    val_main_v11 (F := Ideal) x mods (ix3 b n y) = modulated (fun y => x (ix3 b n y)) (modRow mods 3 b) (modRow mods 4 b) y := by
  simp only [val_main_v11_apply, val_main_v10_apply, val_main_v9_apply, val_main_v8_apply, val_main_v7_apply, val_main_v6_apply,
    val_main_v5_apply, val_main_v4_apply, val_main_v3_apply, val_main_v2_apply, val_main_v1_apply, val_main_v0_apply, val_main_cst_apply]
  pointwise [modulated, modRow]
  refine congrArg₂ (· + ·) (congrArg (fun z => x (ix3 b n y) * (1 + z)) (congrArg mods ?_)) (congrArg mods ?_) <;>
    (funext a; apply Fin.ext; fin_cases a <;> simp [idx_main_v0, idx_main_v1, idx_main_v2, idx_main_v3, idx_main_v6, idx_main_v8,
      idx_main_v9, idx_main_v10] <;> omega)

/-- The reference's result: the modulated row times the weight's column. -/
theorem result_at (b : Fin 16) (n : Fin 2048) (k : Fin 3456) :
    val_main_v12 (F := Ideal) x mods w (ix3 b n k)
      = ∑ y, modulated (fun y => x (ix3 b n y)) (modRow mods 3 b) (modRow mods 4 b) y * w (ix2 y k) := by
  rw [val_main_v12_apply]
  refine Finset.sum_congr rfl fun y _ => ?_
  rw [show lidx_main_v12 (ix3 b n k) y = ix3 b n y by funext a; apply Fin.ext; fin_cases a <;> rfl,
    show ridx_main_v12 (ix3 b n k) y = ix2 y k by funext a; apply Fin.ext; fin_cases a <;> rfl, modulated_at]

end Cert.ProjRefIdeal.At
-- ==== Proof.ProjFinal.lean ====
module

public import proofs.«01_k».proof.Proof.ProjBlock
public import proofs.«01_k».proof.Proof.ProjRead
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The input projection's result array is the reference's. -/
namespace Cert.ProjIdeal.Final

open Cert.ProjIdeal Cert.ProjIdeal.Gen Cert.ProjIdeal.Block Cert.FfnRow
open Cert.ProjRefIdeal.At (modRow)

variable (m : (ℓ : Loc nD τ sig) → Buf (Elt Ideal) ℓ)

/-- The stream. -/
abbrev x (c : Dev nD) : FVec Ideal S16x2048x1024 .f32 := m ((c : Thread nD τ).loc main_arg0)
/-- The modulations. -/
abbrev mods (c : Dev nD) : FVec Ideal S24x9x1024 .f32 := m ((c : Thread nD τ).loc main_arg1)
/-- The weight. -/
abbrev weight (c : Dev nD) : FVec Ideal S1024x3456 .f32 := m ((c : Thread nD τ).loc main_arg2)

/-- Which block each window stages at a grid point. -/
theorem idx : ∀ t : Fin cfg0.N,
    win0_0.index t = ![t.val / 4, t.val % 4, 0]
    ∧ win0_1.index t = ![t.val / 4, 0, 0]
    ∧ win0_2.index t = ![0, 0]
    ∧ win0_3.index t = ![t.val / 4, t.val % 4, 0] :=
  (by decide +kernel : ∀ t : Fin grid0.N, _)

/-- The batch entry of a grid point. -/
def batch (t : Fin cfg0.N) : Fin 16 := ⟨t.val / 4, by have : t.val < 64 := t.isLt; omega⟩
/-- The token of a grid point's block row. -/
def token (t : Fin cfg0.N) (r : Fin 512) : Fin 2048 := ⟨t.val % 4 * 512 + r.val, by omega⟩

/-- The stream's block. -/
theorem stream_block (c : Dev nD) (t : Fin cfg0.N) (r : Fin 512) (y : Fin 1024) :
    iblk m c 0 t (ix3 0 r y) = x m c (ix3 (batch t) (token t r) y) := by
  unfold batch token
  blk_ext [iblk, V, idx t]

/-- The modulations' block: the nine rows of the point's batch entry. -/
theorem mods_block (c : Dev nD) (t : Fin cfg0.N) (k : Fin 9) (y : Fin 1024) :
    iblk m c 1 t (ix3 0 k y) = modRow (mods m c) k (batch t) y := by
  unfold modRow batch
  blk_ext [iblk, V, idx t]

/-- The weight's block: the whole weight. -/
theorem weight_block (c : Dev nD) (t : Fin cfg0.N) (y : Fin 1024) (k : Fin 3456) :
    iblk m c 2 t (ix2 y k) = weight m c (ix2 y k) := by
  have e : ((win0_2.blk t).view.emb (ix2 y k)) = ix2 y k := by
    blk_ext [idx t]
  blk_simp [iblk]
  refine (congrArg (V m c main_v0) e).trans ?_
  entry_read
  pointwise []

/-- Where the output block's entry lies in the result. -/
theorem place (t : Fin cfg0.N) (r : Fin 512) (d : Fin 3456) :
    (win0_3.blk t).view.emb (ix3 (0 : Fin 1) r d) = ix3 (batch t) (token t r) d := by
  unfold batch token
  blk_ext [idx t]

/-- THE RESULT ARRAY: the kernel leaves the reference's result. -/
theorem final (c : Dev nD) :
    (dats m 0 c).arrAt 3 (cfgs 0).N = Cert.ProjRefIdeal.Read.val_main_v12 (F := Ideal) (x m c) (mods m c) (weight m c) := by
  refine (dats m 0 c).arrAt_eq_of_covers 3 _ (by decide +kernel) fun t hf y => ?_
  obtain ⟨r, d, rfl⟩ : ∃ (r : Fin 512) (d : Fin 3456), y = ix3 0 r d := by
    refine ⟨y 1, y 2, ?_⟩
    funext a
    apply Fin.ext
    fin_cases a
    · have : (y 0).val < 1 := (y 0).isLt
      show (y 0).val = 0
      omega
    · rfl
    · rfl
  blk_simp
  rw [after0_3]
  refine (out_at m c t _).trans ?_
  refine Eq.trans ?_ (congrArg (Cert.ProjRefIdeal.Read.val_main_v12 (F := Ideal) (x m c) (mods m c) (weight m c)) (place t r d)).symm
  rw [Cert.ProjRefIdeal.At.result_at]
  show entry _ _ _ r d = _
  simp only [entry, stream_block, mods_block, weight_block]

end Cert.ProjIdeal.Final
-- ==== Proof.RopeRow.lean ====
module

public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

/-! One token's row of the second layer's input projection: the product's columns in the kernel's order, with the queries and keys turned
    by the rotary embedding. -/
namespace Cert.RopeRow

/-- The rotary embedding of one 64-channel head: its first half by the row angle, its second half by the column angle; in each half the
    first 16 channels pair with the last 16. -/
def axial (t : Fin 64 → EReal) (cr sr cc sc : Fin 16 → EReal) (e : Fin 64) : EReal :=
  if h1 : e.val < 16 then t e * cr ⟨e.val, h1⟩ - t ⟨e.val + 16, by omega⟩ * sr ⟨e.val, h1⟩
  else if h2 : e.val < 32 then t e * cr ⟨e.val - 16, by omega⟩ + t ⟨e.val - 16, by omega⟩ * sr ⟨e.val - 16, by omega⟩
  else if h3 : e.val < 48 then t e * cc ⟨e.val - 32, by omega⟩ - t ⟨e.val + 16, by omega⟩ * sc ⟨e.val - 32, by omega⟩
  else t e * cc ⟨e.val - 48, by omega⟩ + t ⟨e.val - 16, by omega⟩ * sc ⟨e.val - 48, by omega⟩

/-- The channels of head `h` among the 16 heads of queries and keys. -/
def headOf (p : Fin 3104 → EReal) (h : Fin 16) (e : Fin 64) : EReal := p ⟨1568 + h.val * 64 + e.val, by omega⟩

/-- A token's result row from its product row `p` and the cosines and sines of its two angles. -/
def row (p : Fin 3104 → EReal) (cr sr cc sc : Fin 16 → EReal) (k : Fin 3200) : EReal :=
  if h1 : k.val < 1536 then p ⟨k.val, by omega⟩
  else if h2 : k.val < 2560 then axial (headOf p ⟨(k.val - 1536) / 64, by omega⟩) cr sr cc sc ⟨(k.val - 1536) % 64, by omega⟩
  else if h3 : k.val < 3072 then p ⟨k.val + 32, by omega⟩
  else if h4 : k.val < 3104 then p ⟨k.val - 1536, by omega⟩
  else 0

/-- The kernel's cosine table: the four 16-channel groups of a head carry the row angle twice, then the column angle twice. -/
def cosAt (cr cc : Fin 16 → EReal) (n : Nat) : EReal :=
  if n % 64 < 32 then cr ⟨n % 16, by omega⟩ else cc ⟨n % 16, by omega⟩

/-- The kernel's sine table: as the cosines, with a minus sign on the first 16 channels of each half. -/
def sinAt (sr sc : Fin 16 → EReal) (n : Nat) : EReal :=
  if n % 64 < 16 then -sr ⟨n % 16, by omega⟩ else if n % 64 < 32 then sr ⟨n % 16, by omega⟩
  else if n % 64 < 48 then -sc ⟨n % 16, by omega⟩ else sc ⟨n % 16, by omega⟩

/-- The kernel's rotation of channel `n` of the 1024 channels of queries and keys: the channel times its cosine plus its partner, 16 further
    or 16 back, times its sine. -/
def turned (u : Fin 1024 → EReal) (c s : EReal) (n : Fin 1024) : EReal :=
  u n * c + (if n.val / 16 % 2 = 0 then u ⟨(n.val + 16) % 1024, by omega⟩ else u ⟨(n.val + 1008) % 1024, by omega⟩) * s

/-- The kernel's rotation is the rotary embedding of the channel's head. -/
theorem turned_eq (p : Fin 3104 → EReal) (cr sr cc sc : Fin 16 → EReal) (n : Fin 1024) :
    turned (fun n => p ⟨n.val + 1568, by omega⟩) (cosAt cr cc n.val) (sinAt sr sc n.val) n
      = axial (headOf p ⟨n.val / 64, by omega⟩) cr sr cc sc ⟨n.val % 64, by omega⟩ := by
  have hp : ∀ a b (ha : a < 3104) (hb : b < 3104), a = b → p ⟨a, ha⟩ = p ⟨b, hb⟩ := fun a b _ _ e => by subst e; rfl
  have hf : ∀ (f : Fin 16 → EReal) a b (ha : a < 16) (hb : b < 16), a = b → f ⟨a, ha⟩ = f ⟨b, hb⟩ := fun f a b _ _ e => by subst e; rfl
  unfold turned axial cosAt sinAt headOf
  simp only []
  by_cases h1 : n.val % 64 < 16
  · rw [if_pos (show n.val / 16 % 2 = 0 by omega), if_pos (show n.val % 64 < 32 by omega), if_pos h1, dif_pos h1, mul_neg, ← sub_eq_add_neg]
    exact congrArg₂ (· - ·) (congrArg₂ (· * ·) (hp _ _ _ _ (by omega)) (hf _ _ _ _ _ (by omega)))
      (congrArg₂ (· * ·) (hp _ _ _ _ (by omega)) (hf _ _ _ _ _ (by omega)))
  · by_cases h2 : n.val % 64 < 32
    · rw [if_neg (show ¬ n.val / 16 % 2 = 0 by omega), if_pos h2, if_neg h1, if_pos h2, dif_neg h1, dif_pos h2]
      exact congrArg₂ (· + ·) (congrArg₂ (· * ·) (hp _ _ _ _ (by omega)) (hf _ _ _ _ _ (by omega)))
        (congrArg₂ (· * ·) (hp _ _ _ _ (by omega)) (hf _ _ _ _ _ (by omega)))
    · by_cases h3 : n.val % 64 < 48
      · rw [if_pos (show n.val / 16 % 2 = 0 by omega), if_neg h2, if_neg h1, if_neg h2, if_pos h3, dif_neg h1, dif_neg h2, dif_pos h3, mul_neg,
          ← sub_eq_add_neg]
        exact congrArg₂ (· - ·) (congrArg₂ (· * ·) (hp _ _ _ _ (by omega)) (hf _ _ _ _ _ (by omega)))
          (congrArg₂ (· * ·) (hp _ _ _ _ (by omega)) (hf _ _ _ _ _ (by omega)))
      · rw [if_neg (show ¬ n.val / 16 % 2 = 0 by omega), if_neg h2, if_neg h1, if_neg h2, if_neg h3, dif_neg h1, dif_neg h2, dif_neg h3]
        exact congrArg₂ (· + ·) (congrArg₂ (· * ·) (hp _ _ _ _ (by omega)) (hf _ _ _ _ _ (by omega)))
          (congrArg₂ (· * ·) (hp _ _ _ _ (by omega)) (hf _ _ _ _ _ (by omega)))

end Cert.RopeRow
-- ==== Proof.RopeBlock.lean ====
module

public import proofs.«01_k».proof.Proof.Gen.RopeIdeal.Value
public import proofs.«01_k».proof.Proof.FfnRow
public import proofs.«01_k».proof.Proof.RopeRow
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

/-! What a grid point of the second layer's input projection leaves in its block: each of the block's 512 rows, modulated, times the
    weight, with the channels of queries and keys rotated. -/
namespace Cert.RopeIdeal.Block

open Cert.RopeIdeal Cert.RopeIdeal.Gen Cert.FfnRow Cert.RopeRow

variable (m : (ℓ : Loc nD τ sig) → Buf (Elt Ideal) ℓ)

/-- The product of row `r` with column `n` of the weight, from the point's blocks of tokens, modulations and weight. -/
def product (x0 : FVec Ideal S1x512x1024 .f32) (x1 : FVec Ideal S1x9x1024 .f32) (x2 : FVec Ideal S1024x3200 .bf16) (r : Fin 512) (n : Fin 3200) : EReal :=
  ∑ y, modulated (fun y => x0 (ix3 0 r y)) (fun y => x1 (ix3 0 3 y)) (fun y => x1 (ix3 0 4 y)) y * x2 (ix2 y n)

/-- The entry of row `r`, column `n`: the product, rotated in the columns 1536 to 2559 by the point's blocks of cosines and sines. -/
def entry (x0 : FVec Ideal S1x512x1024 .f32) (x1 : FVec Ideal S1x9x1024 .f32) (x2 : FVec Ideal S1024x3200 .bf16) (x3 x4 : FVec Ideal S512x1024 .f32)
    (r : Fin 512) (n : Fin 3200) : EReal :=
  if h : 1536 ≤ n.val ∧ n.val < 2560 then
    turned (fun k => product x0 x1 x2 r ⟨k.val + 1536, by omega⟩) (x3 (ix2 r ⟨n.val - 1536, by omega⟩)) (x4 (ix2 r ⟨n.val - 1536, by omega⟩))
      ⟨n.val - 1536, by omega⟩
  else product x0 x1 x2 r n

/-- The modulated rows, as the kernel computes them. -/
theorem rows_at (x0 : FVec Ideal S1x512x1024 .f32) (a b : FVec Ideal S1x1x1024 .f32) (r : Fin 512) (y : Fin 1024) :
    k0_pay2 (F := Ideal) x0 a b (ix2 r y) = modulated (fun y => x0 (ix3 0 r y)) (fun y => b (ix3 0 0 y)) (fun y => a (ix3 0 0 y)) y := by
  pointwise [k0_pay2, modulated]

/-- A chunk of 512 columns of the product. -/
theorem wide_at (h : FVec Ideal S512x1024 .bf16) (w : FVec Ideal S1024x512 .bf16) (x : S1x512x512.Idx) :
    k0_pay8 (F := Ideal) h w x = ∑ y, h (ix2 (x 1) y) * w (ix2 y (x 2)) := by
  pointwise [k0_pay8]

/-- The last chunk, of 128 columns. -/
theorem narrow_at (h : FVec Ideal S512x1024 .bf16) (w : FVec Ideal S1024x128 .bf16) (x : S1x512x128.Idx) :
    k0_pay1 (F := Ideal) h (k0_pay9 w) (constant S512x128 .f32 0x00000000#32) x = ∑ y, h (ix2 (x 1) y) * w (ix2 y (x 2)) := by
  pointwise [k0_pay1, k0_pay9]

/-- The kernel's test of bit 4 of a channel's number. -/
theorem bit_at : ∀ n : Fin 1024, (BitVec.ofNat 32 n.val &&& 16#32 = 0#32) ↔ n.val / 16 % 2 = 0 := by decide +kernel

/-- The chunk of queries and keys, rotated. -/
theorem rope_at (h : FVec Ideal S512x1024 .bf16) (w : FVec Ideal S1024x1024 .bf16) (c s : FVec Ideal S512x1024 .f32) (x : S1x512x1024.Idx) :
    k0_pay7 (F := Ideal) h w c s x
      = turned (fun n => ∑ y, h (ix2 (x 1) y) * w (ix2 y n)) (c (ix2 (x 1) (x 2))) (s (ix2 (x 1) (x 2))) (x 2) := by
  pointwise [k0_pay7, turned]
  refine congrArg (_ + ·) (congrArg (· * _) ?_)
  have e := bit_at (x 2)
  by_cases hb : (x 2).val / 16 % 2 = 0
  · rw [if_pos hb, show IntOp.cmpi CmpIPredicate.eq (IntOp.andi (BitVec.ofNat 32 (x 2).val) 16#32) 0#32 = 1#1 by
      simp [IntOp.cmpi, IntOp.andi, e.2 hb]]
    refine (if_pos rfl).trans ?_
    exact Finset.sum_congr rfl fun y _ => congrArg (_ * ·) (congrArg w (congrArg (ix2 y) (Fin.ext (by simp only []; omega))))
  · rw [if_neg hb, show IntOp.cmpi CmpIPredicate.eq (IntOp.andi (BitVec.ofNat 32 (x 2).val) 16#32) 0#32 = 0#1 by
      show BitVec.ofBool (BitVec.ofNat 32 (x 2).val &&& 16#32 == 0#32) = 0#1
      rw [beq_eq_false_iff_ne.2 (mt e.1 hb)]
      rfl]
    refine (if_neg (by decide)).trans ?_
    exact Finset.sum_congr rfl fun y _ => congrArg (_ * ·) (congrArg w (congrArg (ix2 y) (Fin.ext (by simp only []; omega))))

/-- The modulation row `k`, loaded. -/
theorem loaded (x1 : FVec Ideal S1x9x1024 .f32) (o : Nat) (ho : ∀ a, (![0, o, 0] : Fin 3 → Nat) a + S1x1x1024.size a ≤ S1x9x1024.size a)
    (n : Fin 9) (hn : n.val = o) (y : Fin 1024) :
    View.ld (Val := Elt Ideal) (S := S1x9x1024) (e' := .f32) x1 (Rect.unit (s := S1x9x1024) ![0, o, 0] S1x1x1024.size ho) (ix3 0 0 y) = x1 (ix3 0 n y) := by
  refine congrArg x1 ?_
  funext a
  apply Fin.ext
  fin_cases a <;> simp [LoadRect.idx, hn]

/-- A chunk's sum is the product, where the chunk's column is the weight's column `n`. -/
theorem chunk_product (x0 : FVec Ideal S1x512x1024 .f32) (x1 : FVec Ideal S1x9x1024 .f32) (x2 : FVec Ideal S1024x3200 .bf16) (r r' : Fin 512)
    (hr : r'.val = r.val) (n : Fin 3200) (w : Fin 1024 → EReal) (hw : ∀ y, w y = x2 (ix2 y n)) (a b : FVec Ideal S1x1x1024 .f32)
    (ha : ∀ y, a (ix3 0 0 y) = x1 (ix3 0 4 y)) (hb : ∀ y, b (ix3 0 0 y) = x1 (ix3 0 3 y)) :
    ∑ y, k0_pay2 (F := Ideal) x0 a b (ix2 r y) * w y = product x0 x1 x2 r' n := by
  obtain rfl : r' = r := Fin.ext hr
  simp only [rows_at, hw, ha, hb, product]

/-- Outside the columns of queries and keys a chunk's sum is the entry. -/
theorem chunk_entry (x0 : FVec Ideal S1x512x1024 .f32) (x1 : FVec Ideal S1x9x1024 .f32) (x2 : FVec Ideal S1024x3200 .bf16) (x3 x4 : FVec Ideal S512x1024 .f32)
    (r r' : Fin 512) (hr : r'.val = r.val) (n : Fin 3200) (hn : ¬ (1536 ≤ n.val ∧ n.val < 2560)) (w : Fin 1024 → EReal)
    (hw : ∀ y, w y = x2 (ix2 y n)) (a b : FVec Ideal S1x1x1024 .f32)
    (ha : ∀ y, a (ix3 0 0 y) = x1 (ix3 0 4 y)) (hb : ∀ y, b (ix3 0 0 y) = x1 (ix3 0 3 y)) :
    ∑ y, k0_pay2 (F := Ideal) x0 a b (ix2 r y) * w y = entry x0 x1 x2 x3 x4 r' n := by
  rw [entry, dif_neg hn]
  exact chunk_product x0 x1 x2 r r' hr n w hw a b ha hb

/-- In the columns of queries and keys the rotated chunk is the entry. -/
theorem turned_entry (x0 : FVec Ideal S1x512x1024 .f32) (x1 : FVec Ideal S1x9x1024 .f32) (x2 : FVec Ideal S1024x3200 .bf16) (x3 x4 : FVec Ideal S512x1024 .f32)
    (r r' : Fin 512) (hr : r'.val = r.val) (n : Fin 3200) (k : Fin 1024) (hn : n.val = 1536 + k.val) (w : FVec Ideal S1024x1024 .bf16)
    (hw : ∀ y (j : Fin 1024), w (ix2 y j) = x2 (ix2 y ⟨j.val + 1536, by omega⟩)) (a b : FVec Ideal S1x1x1024 .f32)
    (ha : ∀ y, a (ix3 0 0 y) = x1 (ix3 0 4 y)) (hb : ∀ y, b (ix3 0 0 y) = x1 (ix3 0 3 y)) :
    turned (fun j => ∑ y, k0_pay2 (F := Ideal) x0 a b (ix2 r y) * w (ix2 y j)) (x3 (ix2 r k)) (x4 (ix2 r k)) k = entry x0 x1 x2 x3 x4 r' n := by
  obtain rfl : r' = r := Fin.ext hr
  rw [entry, dif_pos (by omega)]
  rw [show (⟨n.val - 1536, by omega⟩ : Fin 1024) = k from Fin.ext (by simp only []; omega)]
  refine congrArg (fun u => turned u _ _ _) (funext fun j => ?_)
  exact chunk_product x0 x1 x2 r' r' rfl _ _ (fun y => hw y j) a b ha hb

/-- THE OUTPUT BLOCK: at every grid point, each entry is `entry` of that point's blocks. -/
theorem out_at (c : Dev nD) (t : Fin cfg0.N) (y : S1x512x3200.Idx) :
    outsAt0 m c t y = entry (iblk m c 0 t) (iblk m c 1 t) (iblk m c 2 t) (iblk m c 3 t) (iblk m c 4 t) (y 1) (y 2) := by
  unfold outsAt0; frame_out
  canon_tiles x h using View.cover_of_tiledBy _ ![1, 512, 128] (by sl_kernel_rfl) y
  case' piece2 =>
    refine (rope_at (k0_pay2 _ _ _) _ _ _ x).trans ?_
    refine turned_entry _ _ _ _ _ _ _ h1 _ _ h2 _ (fun z j => ?_) _ _ (fun z => loaded _ 4 _ 4 rfl z) (fun z => loaded _ 3 _ 3 rfl z)
  case' piece0 =>
    refine (narrow_at (k0_pay2 _ _ _) _ x).trans ?_
  case' piece1 => refine (wide_at (k0_pay2 _ _ _) _ x).trans ?_
  case' piece3 => refine (wide_at (k0_pay2 _ _ _) _ x).trans ?_
  case' piece4 => refine (wide_at (k0_pay2 _ _ _) _ x).trans ?_
  case' piece5 => refine (wide_at (k0_pay2 _ _ _) _ x).trans ?_
  case' piece0 | piece1 | piece3 | piece4 | piece5 =>
    refine chunk_entry _ _ _ _ _ _ _ h1 _ (by omega) _ (fun z => ?_) _ _ (fun z => loaded _ 4 _ 4 rfl z) (fun z => loaded _ 3 _ 3 rfl z)
  all_goals
    refine congrArg (iblk m c 2 t) ?_
    funext a
    apply Fin.ext
    fin_cases a <;> simp [LoadRect.idx] <;> omega

end Cert.RopeIdeal.Block
-- ==== Proof.RopeRead.lean ====
module

public import proofs.«01_k».proof.Proof.Gen.RopeRefIdeal.Read
public import proofs.«01_k».proof.Proof.FfnRow
public import proofs.«01_k».proof.Proof.RopeRow
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

/-! The reference of the second layer's input projection read at an index, as the row functions of `Cert.RopeRow`. -/
namespace Cert.RopeRefIdeal.At

open Cert.RopeRefIdeal Cert.RopeRefIdeal.Gen Cert.RopeRefIdeal.Read Cert.FfnRow Cert.RopeRow

variable (x : FVec Ideal S16x2048x1024 .f32) (mods : FVec Ideal S24x9x1024 .f32) (w : FVec Ideal S1024x3104 .f32)

/-- Row `k` of the nine modulation rows of batch entry `b`. -/
def modRow (k : Fin 9) (b : Fin 16) (y : Fin 1024) : EReal := mods (ix3 ⟨b.val, by omega⟩ k y)

/-- The token's modulated row. -/
theorem modulated_at (b : Fin 16) (n : Fin 2048) (y : Fin 1024) :
    val_main_v11 (F := Ideal) x mods (ix3 b n y) = modulated (fun y => x (ix3 b n y)) (modRow mods 3 b) (modRow mods 4 b) y := by
  simp only [val_main_v11_apply, val_main_v10_apply, val_main_v9_apply, val_main_v8_apply, val_main_v7_apply, val_main_v6_apply,
    val_main_v5_apply, val_main_v4_apply, val_main_v3_apply, val_main_v2_apply, val_main_v1_apply, val_main_v0_apply, val_main_cst_apply]
  pointwise [modulated, modRow]
  refine congrArg₂ (· + ·) (congrArg (fun z => x (ix3 b n y) * (1 + z)) (congrArg mods ?_)) (congrArg mods ?_) <;>
    (funext a; apply Fin.ext; fin_cases a <;> simp [idx_main_v0, idx_main_v1, idx_main_v2, idx_main_v3, idx_main_v6, idx_main_v8,
      idx_main_v9, idx_main_v10] <;> omega)

/-- The token's product row. -/
def product (b : Fin 16) (n : Fin 2048) (k : Fin 3104) : EReal :=
  ∑ y, modulated (fun y => x (ix3 b n y)) (modRow mods 3 b) (modRow mods 4 b) y * w (ix2 y k)

/-- The reference's product: the modulated row times the weight's column. -/
theorem product_at (b : Fin 16) (n : Fin 2048) (k : Fin 3104) :
    val_main_v12 (F := Ideal) x mods w (ix3 b n k) = product x mods w b n k := by
  rw [val_main_v12_apply]
  refine Finset.sum_congr rfl fun y _ => ?_
  rw [show lidx_main_v12 (ix3 b n k) y = ix3 b n y by funext a; apply Fin.ext; fin_cases a <;> rfl,
    show ridx_main_v12 (ix3 b n k) y = ix2 y k by funext a; apply Fin.ext; fin_cases a <;> rfl, modulated_at]

/-- The cosine of the row angle of position `n`, frequency `j`. -/
def cosRow (n : Fin 2048) (j : Fin 16) : EReal := val_main_v32 (F := Ideal) (ix2 n j)
/-- The sine of the row angle. -/
def sinRow (n : Fin 2048) (j : Fin 16) : EReal := val_main_v33 (F := Ideal) (ix2 n j)
/-- The cosine of the column angle. -/
def cosCol (n : Fin 2048) (j : Fin 16) : EReal := val_main_v65 (F := Ideal) (ix2 n j)
/-- The sine of the column angle. -/
def sinCol (n : Fin 2048) (j : Fin 16) : EReal := val_main_v66 (F := Ideal) (ix2 n j)

/-- The keys' row angles are the queries'. -/
theorem angleRow : val_main_v103 (F := Ideal) = val_main_v31 (F := Ideal) := rfl
/-- The keys' column angles are the queries'. -/
theorem angleCol : val_main_v136 (F := Ideal) = val_main_v64 (F := Ideal) := rfl
/-- The keys' row cosines are the queries'. -/
theorem cosRow_key : val_main_v104 (F := Ideal) = val_main_v32 (F := Ideal) := congrArg Host.cos angleRow
/-- The keys' row sines are the queries'. -/
theorem sinRow_key : val_main_v105 (F := Ideal) = val_main_v33 (F := Ideal) := congrArg Host.sin angleRow
/-- The keys' column cosines are the queries'. -/
theorem cosCol_key : val_main_v137 (F := Ideal) = val_main_v65 (F := Ideal) := congrArg Host.cos angleCol
/-- The keys' column sines are the queries'. -/
theorem sinCol_key : val_main_v138 (F := Ideal) = val_main_v66 (F := Ideal) := congrArg Host.sin angleCol

/-- The rotary embedding as the reference joins it from two halves of two quarters each. -/
theorem halves (t : Fin 64 → EReal) (cr sr cc sc : Fin 16 → EReal) (e : Fin 64) :
    (if h : e.val < 32 then
        if h' : e.val < 16 then t e * cr ⟨e.val, h'⟩ - t ⟨16 + e.val, by omega⟩ * sr ⟨e.val, h'⟩
        else t ⟨16 + (e.val - 16), by omega⟩ * cr ⟨e.val - 16, by omega⟩ + t ⟨e.val - 16, by omega⟩ * sr ⟨e.val - 16, by omega⟩
      else
        if h' : e.val - 32 < 16 then
          t ⟨32 + (e.val - 32), by omega⟩ * cc ⟨e.val - 32, by omega⟩ - t ⟨32 + (16 + (e.val - 32)), by omega⟩ * sc ⟨e.val - 32, by omega⟩
        else
          t ⟨32 + (16 + (e.val - 32 - 16)), by omega⟩ * cc ⟨e.val - 32 - 16, by omega⟩
            + t ⟨32 + (e.val - 32 - 16), by omega⟩ * sc ⟨e.val - 32 - 16, by omega⟩) = axial t cr sr cc sc e := by
  have ht : ∀ a b (ha : a < 64) (hb : b < 64), a = b → t ⟨a, ha⟩ = t ⟨b, hb⟩ := fun a b _ _ e => by subst e; rfl
  have hf : ∀ (f : Fin 16 → EReal) a b (ha : a < 16) (hb : b < 16), a = b → f ⟨a, ha⟩ = f ⟨b, hb⟩ := fun f a b _ _ e => by subst e; rfl
  have he : t e = t ⟨e.val, e.isLt⟩ := rfl
  unfold axial
  rw [he]
  by_cases h1 : e.val < 16
  · rw [dif_pos (show e.val < 32 by omega), dif_pos h1, dif_pos h1]
    exact congrArg₂ (· - ·) rfl (congrArg₂ (· * ·) (ht _ _ _ _ (by omega)) rfl)
  · by_cases h2 : e.val < 32
    · rw [dif_pos h2, dif_neg h1, dif_neg h1, dif_pos h2]
      exact congrArg₂ (· + ·) (congrArg₂ (· * ·) (ht _ _ _ _ (by omega)) rfl) rfl
    · by_cases h3 : e.val < 48
      · rw [dif_neg h2, dif_pos (show e.val - 32 < 16 by omega), dif_neg h1, dif_neg h2, dif_pos h3]
        exact congrArg₂ (· - ·) (congrArg₂ (· * ·) (ht _ _ _ _ (by omega)) rfl) (congrArg₂ (· * ·) (ht _ _ _ _ (by omega)) rfl)
      · rw [dif_neg h2, dif_neg (show ¬ e.val - 32 < 16 by omega), dif_neg h1, dif_neg h2, dif_neg h3]
        exact congrArg₂ (· + ·) (congrArg₂ (· * ·) (ht _ _ _ _ (by omega)) (hf _ _ _ _ _ (by omega)))
          (congrArg₂ (· * ·) (ht _ _ _ _ (by omega)) (hf _ _ _ _ _ (by omega)))

/-- A query head's channel. -/
theorem query_at (b : Fin 16) (h : Fin 8) (n : Fin 2048) (e : Fin 64) :
    val_main_v17 (F := Ideal) x mods w (ix4 b h n e) = headOf (product x mods w b n) ⟨h.val, by omega⟩ e := by
  unfold headOf
  rw [← product_at]
  pointwise [val_main_v17, val_main_v16, val_main_v15]
  exact congrArg (fun k => val_main_v12 (F := Ideal) x mods w (ix3 b n k)) (Fin.ext (by simp only []; omega))

/-- A key head's channel. -/
theorem key_at (b : Fin 16) (h : Fin 8) (n : Fin 2048) (e : Fin 64) :
    val_main_v89 (F := Ideal) x mods w (ix4 b h n e) = headOf (product x mods w b n) ⟨8 + h.val, by omega⟩ e := by
  unfold headOf
  rw [← product_at]
  pointwise [val_main_v89, val_main_v88, val_main_v87]
  exact congrArg (fun k => val_main_v12 (F := Ideal) x mods w (ix3 b n k)) (Fin.ext (by simp only []; omega))

/-- A query head, rotated. -/
theorem query_turned (b : Fin 16) (h : Fin 8) (n : Fin 2048) (e : Fin 64) :
    val_main_v84 (F := Ideal) x mods w (ix4 b h n e)
      = axial (headOf (product x mods w b n) ⟨h.val, by omega⟩) (cosRow n) (sinRow n) (cosCol n) (sinCol n) e := by
  rw [← show (fun e => val_main_v17 (F := Ideal) x mods w (ix4 b h n e)) = _ from funext fun e => query_at x mods w b h n e]
  refine Eq.trans ?_ (halves _ _ _ _ _ e)
  unfold cosRow sinRow cosCol sinCol
  pointwise [val_main_v84, val_main_v83, val_main_v82, val_main_v81, val_main_v80, val_main_v79, val_main_v78, val_main_v77, val_main_v76,
    val_main_v75, val_main_v74, val_main_v73, val_main_v72, val_main_v71, val_main_v70, val_main_v69, val_main_v68, val_main_v67, val_main_v51,
    val_main_v50, val_main_v49, val_main_v48, val_main_v47, val_main_v46, val_main_v45, val_main_v44, val_main_v43, val_main_v42,
    val_main_v41, val_main_v40, val_main_v39, val_main_v38, val_main_v37, val_main_v36, val_main_v35, val_main_v34, val_main_v18]

/-- A key head, rotated. -/
theorem key_turned (b : Fin 16) (h : Fin 8) (n : Fin 2048) (e : Fin 64) :
    val_main_v156 (F := Ideal) x mods w (ix4 b h n e)
      = axial (headOf (product x mods w b n) ⟨8 + h.val, by omega⟩) (cosRow n) (sinRow n) (cosCol n) (sinCol n) e := by
  rw [← show (fun e => val_main_v89 (F := Ideal) x mods w (ix4 b h n e)) = _ from funext fun e => key_at x mods w b h n e]
  refine Eq.trans ?_ (halves _ _ _ _ _ e)
  unfold cosRow sinRow cosCol sinCol
  rw [← cosRow_key, ← sinRow_key, ← cosCol_key, ← sinCol_key]
  pointwise [val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v90]

/-- The queries' columns. -/
theorem queries_at (b : Fin 16) (n : Fin 2048) (k : Fin 512) :
    val_main_v86 (F := Ideal) x mods w (ix3 b n k) = val_main_v84 (F := Ideal) x mods w (ix4 b ⟨k.val / 64, by omega⟩ n ⟨k.val % 64, by omega⟩) := by
  pointwise [val_main_v86, val_main_v85]

/-- The keys' columns. -/
theorem keys_at (b : Fin 16) (n : Fin 2048) (k : Fin 512) :
    val_main_v158 (F := Ideal) x mods w (ix3 b n k) = val_main_v156 (F := Ideal) x mods w (ix4 b ⟨k.val / 64, by omega⟩ n ⟨k.val % 64, by omega⟩) := by
  pointwise [val_main_v158, val_main_v157]

/-- The reference's result: the token's row. -/
theorem result_at (b : Fin 16) (n : Fin 2048) (k : Fin 3200) :
    val_main_v162 (F := Ideal) x mods w (ix3 b n k) = row (product x mods w b n) (cosRow n) (sinRow n) (cosCol n) (sinCol n) k := by
  have hx : ∀ (h h' : Fin 16) (e e' : Fin 64), h.val = h'.val → e.val = e'.val →
      axial (headOf (product x mods w b n) h) (cosRow n) (sinRow n) (cosCol n) (sinCol n) e
        = axial (headOf (product x mods w b n) h') (cosRow n) (sinRow n) (cosCol n) (sinCol n) e' := fun h h' e e' a c => by
    rw [Fin.ext a, Fin.ext c]
  unfold row
  pointwise [val_main_v162, val_main_v161, val_main_v160, val_main_v159, val_main_v14, val_main_cst_11]
  by_cases h1 : k.val < 1536
  · rw [dif_pos h1, dif_pos h1, product_at]
  rw [dif_neg h1, dif_neg h1]
  by_cases h2 : k.val - 1536 < 512
  · rw [dif_pos h2, dif_pos (show k.val < 2560 by omega), queries_at, query_turned]
  rw [dif_neg h2]
  by_cases h3 : k.val - 1536 - 512 < 512
  · rw [dif_pos h3, dif_pos (show k.val < 2560 by omega), keys_at, key_turned]
    exact hx _ _ _ _ (by simp only []; omega) (by simp only []; omega)
  rw [dif_neg h3, dif_neg (show ¬ k.val < 2560 by omega)]
  by_cases h4 : k.val - 1536 - 512 - 512 < 512
  · rw [dif_pos h4, dif_pos (show k.val < 3072 by omega), product_at]
    exact congrArg _ (Fin.ext (by simp only []; omega))
  rw [dif_neg h4, dif_neg (show ¬ k.val < 3072 by omega)]
  by_cases h5 : k.val - 1536 - 512 - 512 - 512 < 32
  · rw [dif_pos h5, dif_pos (show k.val < 3104 by omega), product_at]
    exact congrArg _ (Fin.ext (by simp only []; omega))
  rw [dif_neg h5, dif_neg (show ¬ k.val < 3104 by omega)]

end Cert.RopeRefIdeal.At
-- ==== Proof.RopeHost.lean ====
module

public import proofs.«01_k».proof.Proof.Gen.RopeIdeal.Value
public import proofs.«01_k».proof.Proof.RopeRead
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

/-! What the host operations before the kernel leave in its operands: the weight's columns in the kernel's order, and the tables of cosines
    and sines. The operations come in five stretches: the weight and the frequencies, the position divided by 64, the row angle, the
    position modulo 64, and the column angle with the tables. -/
namespace Cert.RopeIdeal.HostRead

open Cert.RopeIdeal Cert.RopeIdeal.Gen Cert.RopeRow
open Cert.RopeRefIdeal.Read (val_main_v19 val_main_v25 val_main_v31 val_main_v52 val_main_v58 val_main_v64 val_main_v32 val_main_v33 val_main_v65 val_main_v66)

variable (W : Valuation τ sig (Elt Ideal))

/-- Two stretches one after the other. -/
theorem after_append (l k : List (HloOp τ sig (Elt Ideal))) : StableHlo.after (l ++ k) W = StableHlo.after k (StableHlo.after l W) := by
  induction l generalizing W with
  | nil => rfl
  | cons op l ih => exact ih _

/-- The first stretch leaves the positions. -/
theorem first_v6 : StableHlo.after hostOps0 W (Proc.devRef .tc main_v6) = (iotaInDim S2048 32 0 : IVec S2048 32) := by
  entry_read
  rfl

/-- The first stretch leaves the divisor 64. -/
theorem first_c : StableHlo.after hostOps0 W (Proc.devRef .tc main_c) = (constantI S_ 32 64#32 : IVec S_ 32) := by
  entry_read
  rfl

/-- The first stretch leaves the frequencies. -/
theorem first_v12 : StableHlo.after hostOps0 W (Proc.devRef .tc main_v12) = val_main_v25 (F := Ideal) := by
  entry_read
  rfl

/-- The second stretch leaves the row of each position. -/
theorem second_v13 (h6 : W (Proc.devRef .tc main_v6) = (iotaInDim S2048 32 0 : IVec S2048 32))
    (hc : W (Proc.devRef .tc main_c) = (constantI S_ 32 64#32 : IVec S_ 32)) :
    StableHlo.after hostOps0_1 W (Proc.devRef .tc main_v13) = val_main_v19 (F := Ideal) := by
  entry_read
  rw [h6, hc]
  rfl

/-- The second stretch keeps the positions. -/
theorem second_v6 : StableHlo.after hostOps0_1 W (Proc.devRef .tc main_v6) = W (Proc.devRef .tc main_v6) := by
  entry_read
  rfl

/-- The second stretch keeps the frequencies. -/
theorem second_v12 : StableHlo.after hostOps0_1 W (Proc.devRef .tc main_v12) = W (Proc.devRef .tc main_v12) := by
  entry_read
  rfl

/-- The second stretch keeps the weight. -/
theorem second_v5 : StableHlo.after hostOps0_1 W (Proc.devRef .tc main_v5) = W (Proc.devRef .tc main_v5) := by
  entry_read
  rfl

/-- The third stretch leaves the row angles. -/
theorem third_v19 (h13 : W (Proc.devRef .tc main_v13) = val_main_v19 (F := Ideal)) (h12 : W (Proc.devRef .tc main_v12) = val_main_v25 (F := Ideal)) :
    StableHlo.after hostOps0_2 W (Proc.devRef .tc main_v19) = val_main_v31 (F := Ideal) := by
  entry_read
  rw [h13, h12]
  rfl

/-- The third stretch leaves the modulus 64. -/
theorem third_c : StableHlo.after hostOps0_2 W (Proc.devRef .tc main_c_2) = (constantI S_ 32 64#32 : IVec S_ 32) := by
  entry_read
  rfl

/-- The third stretch keeps the positions. -/
theorem third_v6 : StableHlo.after hostOps0_2 W (Proc.devRef .tc main_v6) = W (Proc.devRef .tc main_v6) := by
  entry_read
  rfl

/-- The third stretch keeps the frequencies. -/
theorem third_v12 : StableHlo.after hostOps0_2 W (Proc.devRef .tc main_v12) = W (Proc.devRef .tc main_v12) := by
  entry_read
  rfl

/-- The third stretch keeps the weight. -/
theorem third_v5 : StableHlo.after hostOps0_2 W (Proc.devRef .tc main_v5) = W (Proc.devRef .tc main_v5) := by
  entry_read
  rfl

/-- The fourth stretch leaves the column of each position. -/
theorem fourth_v20 (h6 : W (Proc.devRef .tc main_v6) = (iotaInDim S2048 32 0 : IVec S2048 32))
    (hc : W (Proc.devRef .tc main_c_2) = (constantI S_ 32 64#32 : IVec S_ 32)) :
    StableHlo.after hostOps0_3 W (Proc.devRef .tc main_v20) = val_main_v52 (F := Ideal) := by
  entry_read
  rw [h6, hc]
  rfl

/-- The fourth stretch keeps the frequencies. -/
theorem fourth_v12 : StableHlo.after hostOps0_3 W (Proc.devRef .tc main_v12) = W (Proc.devRef .tc main_v12) := by
  entry_read
  rfl

/-- The fourth stretch keeps the row angles. -/
theorem fourth_v19 : StableHlo.after hostOps0_3 W (Proc.devRef .tc main_v19) = W (Proc.devRef .tc main_v19) := by
  entry_read
  rfl

/-- The fourth stretch keeps the weight. -/
theorem fourth_v5 : StableHlo.after hostOps0_3 W (Proc.devRef .tc main_v5) = W (Proc.devRef .tc main_v5) := by
  entry_read
  rfl

/-- The last stretch keeps the weight. -/
theorem last_v5 : StableHlo.after hostOps0_4 W (Proc.devRef .tc main_v5) = W (Proc.devRef .tc main_v5) := by
  entry_read
  rfl

/-- Four tables side by side, repeated for the 16 heads. -/
def spread (a b c d : FVec Ideal S2048x16 .f32) : FVec Ideal S2048x1024 .f32 :=
  shapeCast S2048x1024 (broadcastInDim S1x2048x16x64 ![0, 1, 2, 3] bcast_S1x2048x1x64_S1x2048x16x64_0_1_2_3
    (shapeCast S1x2048x1x64 (concatenate S2048x64 1 [⟨S2048x16, a⟩, ⟨S2048x16, b⟩, ⟨S2048x16, c⟩, ⟨S2048x16, d⟩]
      concatenates_S2048x16_S2048x16_S2048x16_S2048x16_S2048x64_d1 : FVec Ideal S2048x64 .f32) shapeCasts_S2048x64_S1x2048x1x64))
    shapeCasts_S1x2048x16x64_S2048x1024

/-- The side by side tables depend on the four tables only. -/
theorem spread_congr {a b c d a' b' c' d' : FVec Ideal S2048x16 .f32} (ha : a = a') (hb : b = b') (hc : c = c') (hd : d = d') :
    spread a b c d = spread a' b' c' d' := by
  rw [ha, hb, hc, hd]

/-- The table of cosines: a head's 64 channels, 16 times. -/
def cosTable : FVec Ideal S2048x1024 .f32 :=
  spread (val_main_v32 (F := Ideal)) (val_main_v32 (F := Ideal)) (val_main_v65 (F := Ideal)) (val_main_v65 (F := Ideal))

/-- The table of sines. -/
def sinTable : FVec Ideal S2048x1024 .f32 :=
  spread (Host.negf (val_main_v33 (F := Ideal) : FVec Ideal S2048x16 .f32)) (val_main_v33 (F := Ideal))
    (Host.negf (val_main_v66 (F := Ideal) : FVec Ideal S2048x16 .f32)) (val_main_v66 (F := Ideal))

/-- The last stretch leaves the table of cosines. -/
theorem last_v39 (h20 : W (Proc.devRef .tc main_v20) = val_main_v52 (F := Ideal)) (h12 : W (Proc.devRef .tc main_v12) = val_main_v25 (F := Ideal))
    (h19 : W (Proc.devRef .tc main_v19) = val_main_v31 (F := Ideal)) :
    StableHlo.after hostOps0_4 W (Proc.devRef .tc main_v39) = cosTable := by
  have a : StableHlo.upto hostOps0_4 W 8 (Proc.devRef .tc main_v27) = val_main_v32 (F := Ideal) := by
    after_reads_simp
    rw [h19]
    rfl
  have b : StableHlo.upto hostOps0_4 W 8 (Proc.devRef .tc main_v28) = val_main_v65 (F := Ideal) := by
    after_reads_simp
    rw [h20, h12]
    rfl
  after_reads_simp
  exact spread_congr a a b b

/-- The last stretch leaves the table of sines. -/
theorem last_v42 (h20 : W (Proc.devRef .tc main_v20) = val_main_v52 (F := Ideal)) (h12 : W (Proc.devRef .tc main_v12) = val_main_v25 (F := Ideal))
    (h19 : W (Proc.devRef .tc main_v19) = val_main_v31 (F := Ideal)) :
    StableHlo.after hostOps0_4 W (Proc.devRef .tc main_v42) = sinTable := by
  have a : @Eq (FVec Ideal S2048x16 .f32) (StableHlo.upto hostOps0_4 W 15 (Proc.devRef .tc main_v31)) (Host.negf (val_main_v33 (F := Ideal) : FVec Ideal S2048x16 .f32)) := by
    after_reads_simp
    rw [h19]
    rfl
  have b : StableHlo.upto hostOps0_4 W 15 (Proc.devRef .tc main_v32) = val_main_v33 (F := Ideal) := by
    after_reads_simp
    rw [h19]
    rfl
  have c : @Eq (FVec Ideal S2048x16 .f32) (StableHlo.upto hostOps0_4 W 15 (Proc.devRef .tc main_v34)) (Host.negf (val_main_v66 (F := Ideal) : FVec Ideal S2048x16 .f32)) := by
    after_reads_simp
    rw [h20, h12]
    rfl
  have d : StableHlo.upto hostOps0_4 W 15 (Proc.devRef .tc main_v35) = val_main_v66 (F := Ideal) := by
    after_reads_simp
    rw [h20, h12]
    rfl
  after_reads_simp
  exact spread_congr a b c d

/-- Four groups of columns side by side. -/
def gather (a b : FVec Ideal S1024x1536 .f32) (c : FVec Ideal S1024x32 .f32) (d : FVec Ideal S1024x96 .f32) : FVec Ideal S1024x3200 .bf16 :=
  truncf .bf16 (concatenate S1024x3200 1 [⟨S1024x1536, a⟩, ⟨S1024x1536, b⟩, ⟨S1024x32, c⟩, ⟨S1024x96, d⟩]
    concatenates_S1024x1536_S1024x1536_S1024x32_S1024x96_S1024x3200_d1 : FVec Ideal S1024x3200 .f32) bitsLt_bf16_f32

/-- The side by side columns depend on the four groups only. -/
theorem gather_congr {a b a' b' : FVec Ideal S1024x1536 .f32} {c c' : FVec Ideal S1024x32 .f32} {d d' : FVec Ideal S1024x96 .f32}
    (ha : a = a') (hb : b = b') (hc : c = c') (hd : d = d') : gather a b c d = gather a' b' c' d' := by
  rw [ha, hb, hc, hd]

/-- The weight in the kernel's order. -/
def ordered (w : FVec Ideal S1024x3104 .f32) : FVec Ideal S1024x3200 .bf16 :=
  gather (extractStridedSlice S1024x1536 ![0, 0] w slices_S1024x3104_S1024x1536_0_0)
    (extractStridedSlice S1024x1536 ![0, 1568] w slices_S1024x3104_S1024x1536_0_1568)
    (extractStridedSlice S1024x32 ![0, 1536] w slices_S1024x3104_S1024x32_0_1536)
    (broadcastInDim S1024x96 ![] bcast_S_S1024x96 (constant S_ .f32 0x00000000#32 : FVec Ideal S_ .f32))

/-- The first stretch leaves the weight in the kernel's order. -/
theorem first_v5 : StableHlo.after hostOps0 W (Proc.devRef .tc main_v5) = ordered (W (Proc.devRef .tc main_arg2)) := by
  have a : StableHlo.upto hostOps0 W 5 (Proc.devRef .tc main_v0)
      = extractStridedSlice S1024x1536 ![0, 0] (W (Proc.devRef .tc main_arg2)) slices_S1024x3104_S1024x1536_0_0 := by
    after_reads_simp
  have b : StableHlo.upto hostOps0 W 5 (Proc.devRef .tc main_v1)
      = extractStridedSlice S1024x1536 ![0, 1568] (W (Proc.devRef .tc main_arg2)) slices_S1024x3104_S1024x1536_0_1568 := by
    after_reads_simp
  have c : StableHlo.upto hostOps0 W 5 (Proc.devRef .tc main_v2)
      = extractStridedSlice S1024x32 ![0, 1536] (W (Proc.devRef .tc main_arg2)) slices_S1024x3104_S1024x32_0_1536 := by
    after_reads_simp
  have d : StableHlo.upto hostOps0 W 5 (Proc.devRef .tc main_v3)
      = broadcastInDim S1024x96 ![] bcast_S_S1024x96 (constant S_ .f32 0x00000000#32 : FVec Ideal S_ .f32) := by
    after_reads_simp
  after_reads_simp
  exact gather_congr a b c d

/-- The ordered weight at an entry. -/
theorem ordered_at (w : FVec Ideal S1024x3104 .f32) (y : Fin 1024) (k : Fin 3200) :
    ordered w (ix2 y k) = if h1 : k.val < 1536 then w (ix2 y ⟨k.val, by omega⟩)
      else if h2 : k.val < 3072 then w (ix2 y ⟨k.val + 32, by omega⟩)
      else if h3 : k.val < 3104 then w (ix2 y ⟨k.val - 1536, by omega⟩) else 0 := by
  have hw : ∀ a b (ha : a < 3104) (hb : b < 3104), a = b → w (ix2 y ⟨a, ha⟩) = w (ix2 y ⟨b, hb⟩) := fun a b _ _ e => by subst e; rfl
  unfold ordered gather
  pointwise []
  by_cases h1 : k.val < 1536
  · rw [dif_pos h1, dif_pos h1]
  rw [dif_neg h1, dif_neg h1]
  by_cases h2 : k.val < 3072
  · rw [dif_pos (show k.val - 1536 < 1536 by omega), dif_pos h2]
    exact hw _ _ _ _ (by omega)
  rw [dif_neg (show ¬ k.val - 1536 < 1536 by omega), dif_neg h2]
  by_cases h3 : k.val < 3104
  · rw [dif_pos (show k.val - 1536 - 1536 < 32 by omega), dif_pos h3]
    exact hw _ _ _ _ (by omega)
  rw [dif_neg (show ¬ k.val - 1536 - 1536 < 32 by omega), dif_neg h3]

/-- The table of cosines at an entry. -/
theorem cosTable_at (n : Fin 2048) (k : Fin 1024) :
    cosTable (ix2 n k) = cosAt (fun j => val_main_v32 (F := Ideal) (ix2 n j)) (fun j => val_main_v65 (F := Ideal) (ix2 n j)) k.val := by
  have hf : ∀ (f : FVec Ideal S2048x16 .f32) a b (ha : a < 16) (hb : b < 16), a = b → f (ix2 n ⟨a, ha⟩) = f (ix2 n ⟨b, hb⟩) :=
    fun f a b _ _ e => by subst e; rfl
  unfold cosTable spread cosAt
  pointwise []
  by_cases h1 : k.val % 64 < 16
  · rw [dif_pos h1, if_pos (show k.val % 64 < 32 by omega)]
    exact hf _ _ _ _ _ (by omega)
  rw [dif_neg h1]
  by_cases h2 : k.val % 64 < 32
  · rw [dif_pos (show k.val % 64 - 16 < 16 by omega), if_pos h2]
    exact hf _ _ _ _ _ (by omega)
  rw [dif_neg (show ¬ k.val % 64 - 16 < 16 by omega), if_neg h2]
  by_cases h3 : k.val % 64 < 48
  · rw [dif_pos (show k.val % 64 - 16 - 16 < 16 by omega)]
    exact hf _ _ _ _ _ (by omega)
  rw [dif_neg (show ¬ k.val % 64 - 16 - 16 < 16 by omega)]
  exact hf _ _ _ _ _ (by omega)

/-- The table of sines at an entry. -/
theorem sinTable_at (n : Fin 2048) (k : Fin 1024) :
    sinTable (ix2 n k) = sinAt (fun j => val_main_v33 (F := Ideal) (ix2 n j)) (fun j => val_main_v66 (F := Ideal) (ix2 n j)) k.val := by
  have hf : ∀ (f : FVec Ideal S2048x16 .f32) a b (ha : a < 16) (hb : b < 16), a = b → f (ix2 n ⟨a, ha⟩) = f (ix2 n ⟨b, hb⟩) :=
    fun f a b _ _ e => by subst e; rfl
  unfold sinTable spread sinAt
  pointwise []
  by_cases h1 : k.val % 64 < 16
  · rw [dif_pos h1, if_pos h1]
    exact congrArg Neg.neg (hf _ _ _ _ _ (by omega))
  rw [dif_neg h1, if_neg h1]
  by_cases h2 : k.val % 64 < 32
  · rw [dif_pos (show k.val % 64 - 16 < 16 by omega), if_pos h2]
    exact hf _ _ _ _ _ (by omega)
  rw [dif_neg (show ¬ k.val % 64 - 16 < 16 by omega), if_neg h2]
  by_cases h3 : k.val % 64 < 48
  · rw [dif_pos (show k.val % 64 - 16 - 16 < 16 by omega), if_pos h3]
    exact congrArg Neg.neg (hf _ _ _ _ _ (by omega))
  rw [dif_neg (show ¬ k.val % 64 - 16 - 16 < 16 by omega), if_neg h3]
  exact hf _ _ _ _ _ (by omega)

variable (m : (ℓ : Loc nD τ sig) → Buf (Elt Ideal) ℓ)

/-- What each operand holds when the kernel starts, by stretches. -/
theorem stretches (c : Dev nD) : (fun b => V m c b) = fun b => StableHlo.after hostOps0_4 (StableHlo.after hostOps0_3 (StableHlo.after hostOps0_2
    (StableHlo.after hostOps0_1 (StableHlo.after hostOps0 (fun b => m (c, b)))))) (Proc.devRef .tc b) := by
  funext b
  show StableHlo.after (hostOps0 ++ (hostOps0_1 ++ (hostOps0_2 ++ (hostOps0_3 ++ (hostOps0_4 ++ []))))) _ _ = _
  simp only [after_append, List.append_nil]

/-- The kernel's weight operand. -/
theorem weight_at (c : Dev nD) : V m c main_v5 = ordered (m ((c : Thread nD τ).loc main_arg2)) := by
  refine (congrFun (stretches m c) main_v5).trans ?_
  show StableHlo.after hostOps0_4 _ (Proc.devRef .tc main_v5) = _
  rw [last_v5, fourth_v5, third_v5, second_v5, first_v5]

/-- The kernel's cosine operand. -/
theorem cos_at (c : Dev nD) : V m c main_v39 = cosTable := by
  refine (congrFun (stretches m c) main_v39).trans ?_
  refine last_v39 _ ?_ ?_ ?_
  · exact fourth_v20 _ (by rw [third_v6, second_v6, first_v6]) (third_c _)
  · rw [fourth_v12, third_v12, second_v12, first_v12]
  · rw [fourth_v19]
    exact third_v19 _ (second_v13 _ (first_v6 _) (first_c _)) (by rw [second_v12, first_v12])

/-- The kernel's sine operand. -/
theorem sin_at (c : Dev nD) : V m c main_v42 = sinTable := by
  refine (congrFun (stretches m c) main_v42).trans ?_
  refine last_v42 _ ?_ ?_ ?_
  · exact fourth_v20 _ (by rw [third_v6, second_v6, first_v6]) (third_c _)
  · rw [fourth_v12, third_v12, second_v12, first_v12]
  · rw [fourth_v19]
    exact third_v19 _ (second_v13 _ (first_v6 _) (first_c _)) (by rw [second_v12, first_v12])

end Cert.RopeIdeal.HostRead
-- ==== Proof.RopeFinal.lean ====
module

public import proofs.«01_k».proof.Proof.RopeBlock
public import proofs.«01_k».proof.Proof.RopeRead
public import proofs.«01_k».proof.Proof.RopeHost
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The second layer's input projection: its result array is the reference's. -/
namespace Cert.RopeIdeal.Final

open Cert.RopeIdeal Cert.RopeIdeal.Gen Cert.RopeIdeal.Block Cert.FfnRow Cert.RopeRow
open Cert.RopeRefIdeal.At (modRow cosRow sinRow cosCol sinCol)

variable (m : (ℓ : Loc nD τ sig) → Buf (Elt Ideal) ℓ)

/-- The stream. -/
abbrev x (c : Dev nD) : FVec Ideal S16x2048x1024 .f32 := m ((c : Thread nD τ).loc main_arg0)
/-- The modulations. -/
abbrev mods (c : Dev nD) : FVec Ideal S24x9x1024 .f32 := m ((c : Thread nD τ).loc main_arg1)
/-- The weight. -/
abbrev weight (c : Dev nD) : FVec Ideal S1024x3104 .f32 := m ((c : Thread nD τ).loc main_arg2)

/-- Which block each window stages at a grid point. -/
theorem idx : ∀ t : Fin cfg0.N,
    win0_0.index t = ![t.val / 4, t.val % 4, 0]
    ∧ win0_1.index t = ![t.val / 4, 0, 0]
    ∧ win0_2.index t = ![0, 0]
    ∧ win0_3.index t = ![t.val % 4, 0]
    ∧ win0_4.index t = ![t.val % 4, 0]
    ∧ win0_5.index t = ![t.val / 4, t.val % 4, 0] :=
  (by decide +kernel : ∀ t : Fin grid0.N, _)

/-- The batch entry of a grid point. -/
def batch (t : Fin cfg0.N) : Fin 16 := ⟨t.val / 4, by have : t.val < 64 := t.isLt; omega⟩
/-- The token of a grid point's block row. -/
def token (t : Fin cfg0.N) (r : Fin 512) : Fin 2048 := ⟨t.val % 4 * 512 + r.val, by omega⟩

/-- The stream's block. -/
theorem stream_block (c : Dev nD) (t : Fin cfg0.N) (r : Fin 512) (y : Fin 1024) :
    iblk m c 0 t (ix3 0 r y) = x m c (ix3 (batch t) (token t r) y) := by
  unfold batch token
  blk_ext [iblk, V, idx t]

/-- The modulations' block: the nine rows of the point's batch entry. -/
theorem mods_block (c : Dev nD) (t : Fin cfg0.N) (k : Fin 9) (y : Fin 1024) :
    iblk m c 1 t (ix3 0 k y) = modRow (mods m c) k (batch t) y := by
  unfold modRow batch
  blk_ext [iblk, V, idx t]

/-- The weight's block. -/
theorem weight_block (c : Dev nD) (t : Fin cfg0.N) (y : Fin 1024) (k : Fin 3200) :
    iblk m c 2 t (ix2 y k) = if h1 : k.val < 1536 then weight m c (ix2 y ⟨k.val, by omega⟩)
      else if h2 : k.val < 3072 then weight m c (ix2 y ⟨k.val + 32, by omega⟩)
      else if h3 : k.val < 3104 then weight m c (ix2 y ⟨k.val - 1536, by omega⟩) else 0 := by
  have e : ((win0_2.blk t).view.emb (ix2 y k)) = ix2 y k := by
    blk_ext [idx t]
  blk_simp [iblk]
  refine (congrArg (V m c main_v5) e).trans ?_
  rw [HostRead.weight_at]
  exact HostRead.ordered_at _ y k

/-- The cosines' block. -/
theorem cos_block (c : Dev nD) (t : Fin cfg0.N) (r : Fin 512) (n : Fin 1024) :
    iblk m c 3 t (ix2 r n) = cosAt (cosRow (token t r)) (cosCol (token t r)) n.val := by
  have e : ((win0_3.blk t).view.emb (ix2 r n)) = ix2 (token t r) n := by
    unfold token
    blk_ext [idx t]
  blk_simp [iblk]
  refine (congrArg (V m c main_v39) e).trans ?_
  rw [HostRead.cos_at]
  exact HostRead.cosTable_at _ _

/-- The sines' block. -/
theorem sin_block (c : Dev nD) (t : Fin cfg0.N) (r : Fin 512) (n : Fin 1024) :
    iblk m c 4 t (ix2 r n) = sinAt (sinRow (token t r)) (sinCol (token t r)) n.val := by
  have e : ((win0_4.blk t).view.emb (ix2 r n)) = ix2 (token t r) n := by
    unfold token
    blk_ext [idx t]
  blk_simp [iblk]
  refine (congrArg (V m c main_v42) e).trans ?_
  rw [HostRead.sin_at]
  exact HostRead.sinTable_at _ _

/-- Where the output block's entry lies in the result. -/
theorem place (t : Fin cfg0.N) (r : Fin 512) (d : Fin 3200) :
    (win0_5.blk t).view.emb (ix3 (0 : Fin 1) r d) = ix3 (batch t) (token t r) d := by
  unfold batch token
  blk_ext [idx t]

/-- The product over a point's blocks is the reference's product at the column that the kernel's order puts there, and zero in the padding. -/
theorem product_block (c : Dev nD) (t : Fin cfg0.N) (r : Fin 512) (k : Fin 3200) :
    product (iblk m c 0 t) (iblk m c 1 t) (iblk m c 2 t) r k
      = if h1 : k.val < 1536 then Cert.RopeRefIdeal.At.product (x m c) (mods m c) (weight m c) (batch t) (token t r) ⟨k.val, by omega⟩
        else if h2 : k.val < 3072 then
          Cert.RopeRefIdeal.At.product (x m c) (mods m c) (weight m c) (batch t) (token t r) ⟨k.val + 32, by omega⟩
        else if h3 : k.val < 3104 then
          Cert.RopeRefIdeal.At.product (x m c) (mods m c) (weight m c) (batch t) (token t r) ⟨k.val - 1536, by omega⟩
        else 0 := by
  unfold product Cert.RopeRefIdeal.At.product
  simp only [stream_block, mods_block, weight_block]
  by_cases h1 : k.val < 1536
  · simp only [dif_pos h1]
  simp only [dif_neg h1]
  by_cases h2 : k.val < 3072
  · simp only [dif_pos h2]
  simp only [dif_neg h2]
  by_cases h3 : k.val < 3104
  · simp only [dif_pos h3]
  simp only [dif_neg h3, mul_zero, Finset.sum_const_zero]

/-- The point's entry is the row's. -/
theorem entry_block (c : Dev nD) (t : Fin cfg0.N) (r : Fin 512) (k : Fin 3200) :
    entry (iblk m c 0 t) (iblk m c 1 t) (iblk m c 2 t) (iblk m c 3 t) (iblk m c 4 t) r k
      = row (Cert.RopeRefIdeal.At.product (x m c) (mods m c) (weight m c) (batch t) (token t r)) (cosRow (token t r)) (sinRow (token t r))
          (cosCol (token t r)) (sinCol (token t r)) k := by
  unfold entry row
  by_cases h : 1536 ≤ k.val ∧ k.val < 2560
  · rw [dif_pos h, dif_neg (show ¬ k.val < 1536 by omega), dif_pos h.2, cos_block, sin_block]
    refine Eq.trans ?_ (turned_eq (Cert.RopeRefIdeal.At.product (x m c) (mods m c) (weight m c) (batch t) (token t r)) (cosRow (token t r))
      (sinRow (token t r)) (cosCol (token t r)) (sinCol (token t r)) ⟨k.val - 1536, by omega⟩)
    refine congrArg (fun u => turned u _ _ _) (funext fun n => ?_)
    rw [product_block, dif_neg (show ¬ n.val + 1536 < 1536 by omega), dif_pos (show n.val + 1536 < 3072 by omega)]
  · rw [dif_neg h, product_block]
    by_cases h1 : k.val < 1536
    · rw [dif_pos h1, dif_pos h1]
    rw [dif_neg h1, dif_neg h1, dif_neg (show ¬ k.val < 2560 by omega)]

/-- THE RESULT ARRAY: the kernel leaves the reference's result. -/
theorem final (c : Dev nD) :
    (dats m 0 c).arrAt 5 (cfgs 0).N = Cert.RopeRefIdeal.Read.val_main_v162 (F := Ideal) (x m c) (mods m c) (weight m c) := by
  refine (dats m 0 c).arrAt_eq_of_covers 5 _ (by decide +kernel) fun t hf y => ?_
  obtain ⟨r, d, rfl⟩ : ∃ (r : Fin 512) (d : Fin 3200), y = ix3 0 r d := by
    refine ⟨y 1, y 2, ?_⟩
    funext a
    apply Fin.ext
    fin_cases a
    · have : (y 0).val < 1 := (y 0).isLt
      show (y 0).val = 0
      omega
    · rfl
    · rfl
  blk_simp
  rw [after0_5]
  refine (out_at m c t _).trans ?_
  refine Eq.trans ?_ (congrArg (Cert.RopeRefIdeal.Read.val_main_v162 (F := Ideal) (x m c) (mods m c) (weight m c)) (place t r d)).symm
  rw [Cert.RopeRefIdeal.At.result_at]
  exact entry_block m c t r d

end Cert.RopeIdeal.Final
-- ==== Proof.MixRow.lean ====
module

public import proofs.«01_k».proof.Proof.FfnRow

@[expose] public section

set_option maxRecDepth 16384

noncomputable section

open Idealize.ShloMosaic Idealize.ShloMosaic.TcCoe Idealize.SL.Sem

/-! One token's output projection and norm, as functions of its row of 1024 channels and its two halves of 512 mixed channels. -/
namespace Cert.MixRow

open Cert.FfnRow (layerNorm)

/-- The output projection of the two halves, `a` and `b`. -/
def mixed (a b : Fin 512 → EReal) (w : Fin 1024 → Fin 1024 → EReal) (d : Fin 1024) : EReal :=
  (∑ k, a k * w ⟨k.val, by omega⟩ d) + ∑ k, b k * w ⟨512 + k.val, by omega⟩ d

/-- The scaled row plus the gated projection. -/
def stream (x gate y : Fin 1024 → EReal) (d : Fin 1024) : EReal :=
  Ideal.ofBits .f32 0x3FB504F3#32 * x d + gate d * y d

/-- The whole update of a row. -/
def update (x gate : Fin 1024 → EReal) (a b : Fin 512 → EReal) (w : Fin 1024 → Fin 1024 → EReal) (g bias : Fin 1024 → EReal)
    (d : Fin 1024) : EReal :=
  layerNorm (stream x gate (mixed a b w)) g bias d

/-- A sum over 1024 is the sum of its two halves. -/
theorem halves (f : Fin 1024 → EReal) :
    ∑ k, f k = (∑ k : Fin 512, f ⟨k.val, by omega⟩) + ∑ k : Fin 512, f ⟨512 + k.val, by omega⟩ :=
  Fin.sum_univ_add (a := 512) (b := 512) f

end Cert.MixRow
-- ==== Proof.MixBlock.lean ====
module

public import proofs.«01_k».proof.Proof.Gen.MixIdeal.Value
public import proofs.«01_k».proof.Proof.MixRow
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

/-! What a grid point of the output projection leaves in its block: the update of each of the block's 512 rows. -/
namespace Cert.MixIdeal.Block

open Cert.MixIdeal Cert.MixIdeal.Gen Cert.MixRow
open Cert.FfnRow (layerNorm mean)

/-- A row less its mean, as the kernel computes it. -/
theorem centred_at (x0 : FVec Ideal S1x512x1024 .f32) (a b : FVec Ideal S1x512x512 .f32) (w v : FVec Ideal S512x1024 .bf16)
    (gate : FVec Ideal S1x1x1024 .f32) (z : Fin 1024 → EReal) (r : Fin 512)
    (hz : ∀ d, z d = stream (fun y => x0 (ix3 0 r y)) (fun y => gate (ix3 0 0 y))
      (fun d => (∑ k, a (ix3 0 r k) * w (ix2 k d)) + ∑ k, b (ix3 0 r k) * v (ix2 k d)) d) (d : Fin 1024) :
    k0_pay4 (F := Ideal) x0 a w b v gate (ix2 r d) = z d - mean z := by
  obtain rfl := funext hz
  pointwise [k0_pay4, mean, stream]

/-- The kernel's norm of a row. -/
theorem norm_at (g bias : FVec Ideal S1x1024 .f32) (s q : FVec Ideal S512x1024 .f32) (r : Fin 512) (d : Fin 1024) :
    k0_pay1 (F := Ideal) (k0_pay2 g) (k0_pay3 bias) s q (ix3 0 r d)
      = s (ix2 r d) * Ideal.rsqrt (mean (fun y => q (ix2 r y)) + Ideal.ofBits .f32 0x3727C5AC#32) * g (ix2 0 d) + bias (ix2 0 d) := by
  pointwise [k0_pay1, k0_pay2, k0_pay3, mean]

/-- 512 rows of the weight, loaded from row `o` on. -/
theorem rows (v : FVec Ideal S1024x1024 .bf16) (o : Nat) (ho : ∀ a, (![o, 0] : Fin 2 → Nat) a + S512x1024.size a ≤ S1024x1024.size a)
    (k : Fin 512) (d : Fin 1024) (n : Fin 1024) (hn : n.val = o + k.val) :
    View.ld (Val := Elt Ideal) (S := S1024x1024) (e' := .bf16) v (Rect.unit (s := S1024x1024) ![o, 0] S512x1024.size ho) (ix2 k d) = v (ix2 n d) := by
  refine congrArg v ?_
  funext a
  apply Fin.ext
  fin_cases a <;> simp [LoadRect.idx, hn]

/-- One of the nine modulation rows, loaded. -/
theorem loadedRow (x1 : FVec Ideal S1x9x1024 .f32) (o : Nat) (ho : ∀ a, (![0, o, 0] : Fin 3 → Nat) a + S1x1x1024.size a ≤ S1x9x1024.size a)
    (n : Fin 9) (hn : n.val = o) (y : Fin 1024) :
    View.ld (Val := Elt Ideal) (S := S1x9x1024) (e' := .f32) x1 (Rect.unit (s := S1x9x1024) ![0, o, 0] S1x1x1024.size ho) (ix3 0 0 y) = x1 (ix3 0 n y) := by
  refine congrArg x1 ?_
  funext a
  apply Fin.ext
  fin_cases a <;> simp [LoadRect.idx, hn]

/-- THE OUTPUT BLOCK: the entry at row `r`, channel `d` is the update of row `r`. -/
theorem out_at (x0 : FVec Ideal S1x512x1024 .f32) (x1 : FVec Ideal S1x9x1024 .f32) (x2 x3 : FVec Ideal S1x512x512 .f32)
    (x4 : FVec Ideal S1024x1024 .bf16) (x5 x6 : FVec Ideal S1x1024 .f32) (r : Fin 512) (d : Fin 1024) :
    out0_7 (F := Ideal) x0 x1 x2 x3 x4 x5 x6 (ix3 0 r d)
      = update (fun y => x0 (ix3 0 r y)) (fun y => x1 (ix3 0 5 y)) (fun k => x2 (ix3 0 r k)) (fun k => x3 (ix3 0 r k))
          (fun k d => x4 (ix2 k d)) (fun y => x5 (ix2 0 y)) (fun y => x6 (ix2 0 y)) d := by
  have e0 : View.ld (Val := Elt Ideal) (S := S1x512x1024) (e' := .f32) x0 r0_0 = x0 := by
    funext y
    refine congrArg x0 ?_
    funext a
    apply Fin.ext
    fin_cases a <;> simp [LoadRect.idx]
  have e2 : ∀ z : FVec Ideal S1x512x512 .f32, View.ld (Val := Elt Ideal) (S := S1x512x512) (e' := .f32) z r0_1 = z := fun z => by
    funext y
    refine congrArg z ?_
    funext a
    apply Fin.ext
    fin_cases a <;> simp [LoadRect.idx]
  have e5 : ∀ z : FVec Ideal S1x1024 .f32, View.ld (Val := Elt Ideal) (S := S1x1024) (e' := .f32) z r0_5 = z := fun z => by
    funext y
    refine congrArg z ?_
    funext a
    apply Fin.ext
    fin_cases a <;> simp [LoadRect.idx]
  unfold out0_7
  canon_tiles x hx
  rw [e0, e2, e2, e5, e5]
  obtain rfl : x = ix3 0 r d := by
    funext a
    apply Fin.ext
    fin_cases a
    · exact hx0.symm
    · exact hx1.symm
    · exact hx2.symm
  rw [norm_at]
  have hc := centred_at x0 x2 x3 (View.ld (Val := Elt Ideal) (S := S1024x1024) (e' := .bf16) x4 r0_2) (View.ld (Val := Elt Ideal) (S := S1024x1024) (e' := .bf16) x4 r0_3) (View.ld (Val := Elt Ideal) (S := S1x9x1024) (e' := .f32) x1 r0_4)
    (stream (fun y => x0 (ix3 0 r y)) (fun y => x1 (ix3 0 5 y)) (mixed (fun k => x2 (ix3 0 r k)) (fun k => x3 (ix3 0 r k)) fun k d => x4 (ix2 k d)))
    r (fun d => by
      have hg : View.ld (Val := Elt Ideal) (S := S1x9x1024) (e' := .f32) x1 r0_4 (ix3 0 0 d) = x1 (ix3 0 5 d) := loadedRow x1 5 _ 5 rfl d
      have hw : ∀ k : Fin 512, View.ld (Val := Elt Ideal) (S := S1024x1024) (e' := .bf16) x4 r0_2 (ix2 k d) = x4 (ix2 ⟨k.val, by omega⟩ d) := fun k =>
        rows x4 0 _ k d _ (by simp)
      have hv : ∀ k : Fin 512, View.ld (Val := Elt Ideal) (S := S1024x1024) (e' := .bf16) x4 r0_3 (ix2 k d) = x4 (ix2 ⟨512 + k.val, by omega⟩ d) := fun k =>
        rows x4 512 _ k d _ rfl
      simp only [stream, mixed, hg, hw, hv])
  have hq : ∀ y, k0_pay5 (F := Ideal) x0 x2 (View.ld (Val := Elt Ideal) (S := S1024x1024) (e' := .bf16) x4 r0_2) x3 (View.ld (Val := Elt Ideal) (S := S1024x1024) (e' := .bf16) x4 r0_3) (View.ld (Val := Elt Ideal) (S := S1x9x1024) (e' := .f32) x1 r0_4) (ix2 r y)
      = k0_pay4 (F := Ideal) x0 x2 (View.ld (Val := Elt Ideal) (S := S1024x1024) (e' := .bf16) x4 r0_2) x3 (View.ld (Val := Elt Ideal) (S := S1024x1024) (e' := .bf16) x4 r0_3) (View.ld (Val := Elt Ideal) (S := S1x9x1024) (e' := .f32) x1 r0_4) (ix2 r y)
        * k0_pay4 (F := Ideal) x0 x2 (View.ld (Val := Elt Ideal) (S := S1024x1024) (e' := .bf16) x4 r0_2) x3 (View.ld (Val := Elt Ideal) (S := S1024x1024) (e' := .bf16) x4 r0_3) (View.ld (Val := Elt Ideal) (S := S1x9x1024) (e' := .f32) x1 r0_4) (ix2 r y) := fun y => rfl
  simp only [hq, hc]
  rfl

end Cert.MixIdeal.Block
-- ==== Proof.MixRead.lean ====
module

public import proofs.«01_k».proof.Proof.Gen.MixRefIdeal.Read
public import proofs.«01_k».proof.Proof.MixRow
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

/-! The reference of the output projection read at an index, as the row functions of `Cert.MixRow`. -/
namespace Cert.MixRefIdeal.At

open Cert.MixRefIdeal Cert.MixRefIdeal.Gen Cert.MixRefIdeal.Read Cert.MixRow
open Cert.FfnRow (mean layerNorm)

variable (x : FVec Ideal S16x2048x1024 .f32) (mods : FVec Ideal S24x9x1024 .f32) (ya yb : FVec Ideal S16x2048x512 .f32)
  (w : FVec Ideal S1024x1024 .f32) (g bias : FVec Ideal S3x1024 .f32)

/-- Row `k` of the nine modulation rows of batch entry `b`. -/
def modRow (k : Fin 9) (b : Fin 16) (y : Fin 1024) : EReal := mods (ix3 ⟨b.val, by omega⟩ k y)

/-- The row before its norm. -/
abbrev rowSum (b : Fin 16) (n : Fin 2048) : Fin 1024 → EReal :=
  stream (fun y => x (ix3 b n y)) (modRow mods 5 b) (mixed (fun k => ya (ix3 b n k)) (fun k => yb (ix3 b n k)) fun k d => w (ix2 k d))

/-- The gate's row. -/
theorem gate_at (b : Fin 16) (n : Fin 2048) (y : Fin 1024) :
    val_main_v8 (F := Ideal) mods (ix3 b n y) = modRow mods 5 b y := by
  simp only [val_main_v8_apply, val_main_v7_apply, val_main_v6_apply, val_main_v1_apply, val_main_v0_apply]
  pointwise [modRow]
  refine congrArg mods ?_
  funext a
  apply Fin.ext
  fin_cases a <;> simp [idx_main_v0, idx_main_v1, idx_main_v6, idx_main_v7, idx_main_v8] <;> omega

/-- The first half of the joined channels. -/
theorem joined_left (b : Fin 16) (n : Fin 2048) (k : Fin 512) (j : Fin 1024) (hj : j.val = k.val) :
    val_main_v2 (F := Ideal) ya yb (ix3 b n j) = ya (ix3 b n k) := by
  pointwise [val_main_v2]
  rw [dif_pos (by omega)]
  congr

/-- The second half of the joined channels. -/
theorem joined_right (b : Fin 16) (n : Fin 2048) (k : Fin 512) (j : Fin 1024) (hj : j.val = 512 + k.val) :
    val_main_v2 (F := Ideal) ya yb (ix3 b n j) = yb (ix3 b n k) := by
  pointwise [val_main_v2]
  rw [dif_neg (by omega)]
  congr
  omega

/-- The product. -/
theorem product_at (b : Fin 16) (n : Fin 2048) (d : Fin 1024) :
    val_main_v3 (F := Ideal) ya yb w (ix3 b n d) = mixed (fun k => ya (ix3 b n k)) (fun k => yb (ix3 b n k)) (fun k d => w (ix2 k d)) d := by
  have e : ∀ k : Fin 1024, val_main_v2 (F := Ideal) ya yb (lidx_main_v3 (ix3 b n d) k) * w (ridx_main_v3 (ix3 b n d) k)
      = val_main_v2 (F := Ideal) ya yb (ix3 b n k) * w (ix2 k d) := fun k => by
    rw [show lidx_main_v3 (ix3 b n d) k = ix3 b n k by funext a; apply Fin.ext; fin_cases a <;> rfl,
      show ridx_main_v3 (ix3 b n d) k = ix2 k d by funext a; apply Fin.ext; fin_cases a <;> rfl]
  rw [val_main_v3_apply]
  simp only [e]
  rw [halves]
  unfold mixed
  refine congrArg₂ (· + ·) (Finset.sum_congr rfl fun k _ => ?_) (Finset.sum_congr rfl fun k _ => ?_)
  · rw [joined_left ya yb b n k _ rfl]
  · rw [joined_right ya yb b n k _ rfl]

/-- The row before its norm. -/
theorem stream_at (b : Fin 16) (n : Fin 2048) (d : Fin 1024) :
    val_main_v10 (F := Ideal) x mods ya yb w (ix3 b n d) = rowSum x mods ya yb w b n d := by
  rw [val_main_v10_apply, val_main_v9_apply, val_main_v5_apply, val_main_v4_apply, gate_at, product_at]
  rfl

/-- The row's mean. -/
theorem mean_at (b : Fin 16) (n : Fin 2048) :
    val_main_v14 (F := Ideal) x mods ya yb w (ix3 b n 0) = mean (rowSum x mods ya yb w b n) := by
  rw [val_main_v14_apply, val_main_v13_apply, val_main_v12_apply, val_main_v11_apply, val_main_cst_1_apply]
  show Ideal.div (Ideal.ofBits .f32 0x00000000#32 + _) _ = _
  rw [Ideal.ofBits_zero_f32, zero_add]
  refine congrArg (Ideal.div · _) (Finset.sum_congr rfl fun y _ => ?_)
  rw [← stream_at]
  refine congrArg _ ?_
  funext a; apply Fin.ext; fin_cases a <;> rfl

/-- The row's mean square about its mean. -/
theorem variance_at (b : Fin 16) (n : Fin 2048) :
    val_main_v21 (F := Ideal) x mods ya yb w (ix3 b n 0)
      = mean fun y => (rowSum x mods ya yb w b n y - mean (rowSum x mods ya yb w b n)) * (rowSum x mods ya yb w b n y - mean (rowSum x mods ya yb w b n)) := by
  rw [val_main_v21_apply, val_main_v20_apply, val_main_v19_apply, val_main_v18_apply, val_main_cst_3_apply]
  show Ideal.div (Ideal.ofBits .f32 0x00000000#32 + _) _ = _
  rw [Ideal.ofBits_zero_f32, zero_add]
  refine congrArg (Ideal.div · _) (Finset.sum_congr rfl fun y _ => ?_)
  rw [show idx_main_v18 (idx_main_v19 (ix3 b n 0)) y = ix3 b n y by funext a; apply Fin.ext; fin_cases a <;> rfl,
    val_main_v17_apply, val_main_v16_apply, val_main_v15_apply,
    show idx_main_v15 (ix3 b n y) = ix3 b n 0 by funext a; apply Fin.ext; fin_cases a <;> rfl, stream_at, mean_at]
  rfl

/-- The weight of the norm. -/
theorem scale_at (b : Fin 16) (n : Fin 2048) (d : Fin 1024) : val_main_v32 (F := Ideal) g (ix3 b n d) = g (ix2 1 d) := by
  pointwise [val_main_v32, val_main_v31, val_main_v30, val_main_v29]

/-- The bias of the norm. -/
theorem bias_at (b : Fin 16) (n : Fin 2048) (d : Fin 1024) : val_main_v37 (F := Ideal) bias (ix3 b n d) = bias (ix2 1 d) := by
  pointwise [val_main_v37, val_main_v36, val_main_v35, val_main_v34]

/-- The reference's result: the update of the token's row. -/
theorem result_at (b : Fin 16) (n : Fin 2048) (d : Fin 1024) :
    val_main_v38 (F := Ideal) x mods ya yb w g bias (ix3 b n d)
      = update (fun y => x (ix3 b n y)) (modRow mods 5 b) (fun k => ya (ix3 b n k)) (fun k => yb (ix3 b n k)) (fun k d => w (ix2 k d))
          (fun y => g (ix2 1 y)) (fun y => bias (ix2 1 y)) d := by
  rw [val_main_v38_apply, val_main_v33_apply, val_main_v28_apply, val_main_v23_apply, val_main_v22_apply, val_main_v27_apply,
    val_main_v26_apply, val_main_v25_apply, val_main_v24_apply, scale_at, bias_at, stream_at,
    show idx_main_v22 (ix3 b n d) = ix3 b n 0 by funext a; apply Fin.ext; fin_cases a <;> rfl,
    show idx_main_v27 (ix3 b n d) = ix3 b n 0 by funext a; apply Fin.ext; fin_cases a <;> rfl, mean_at, variance_at]
  rfl

end Cert.MixRefIdeal.At
-- ==== Proof.MixFinal.lean ====
module

public import proofs.«01_k».proof.Proof.MixBlock
public import proofs.«01_k».proof.Proof.MixRead
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The output projection's result array is the reference's. -/
namespace Cert.MixIdeal.Final

open Cert.MixIdeal Cert.MixIdeal.Gen Cert.MixIdeal.Block Cert.MixRow
open Cert.MixRefIdeal.At (modRow)

variable (m : (ℓ : Loc nD τ sig) → Buf (Elt Ideal) ℓ)

/-- The stream. -/
abbrev x (c : Dev nD) : FVec Ideal S16x2048x1024 .f32 := m ((c : Thread nD τ).loc main_arg0)
/-- The modulations. -/
abbrev mods (c : Dev nD) : FVec Ideal S24x9x1024 .f32 := m ((c : Thread nD τ).loc main_arg1)
/-- The first half of the mixed channels. -/
abbrev left (c : Dev nD) : FVec Ideal S16x2048x512 .f32 := m ((c : Thread nD τ).loc main_arg2)
/-- The second half of the mixed channels. -/
abbrev right (c : Dev nD) : FVec Ideal S16x2048x512 .f32 := m ((c : Thread nD τ).loc main_arg3)
/-- The weight. -/
abbrev weight (c : Dev nD) : FVec Ideal S1024x1024 .f32 := m ((c : Thread nD τ).loc main_arg4)
/-- The norms' weights. -/
abbrev scales (c : Dev nD) : FVec Ideal S3x1024 .f32 := m ((c : Thread nD τ).loc main_arg5)
/-- The norms' biases. -/
abbrev biases (c : Dev nD) : FVec Ideal S3x1024 .f32 := m ((c : Thread nD τ).loc main_arg6)

/-- Which block each window stages at a grid point. -/
theorem idx : ∀ t : Fin cfg0.N,
    win0_0.index t = ![t.val / 4, t.val % 4, 0]
    ∧ win0_1.index t = ![t.val / 4, 0, 0]
    ∧ win0_2.index t = ![t.val / 4, t.val % 4, 0]
    ∧ win0_3.index t = ![t.val / 4, t.val % 4, 0]
    ∧ win0_4.index t = ![0, 0]
    ∧ win0_5.index t = ![0, 0]
    ∧ win0_6.index t = ![0, 0]
    ∧ win0_7.index t = ![t.val / 4, t.val % 4, 0] :=
  (by decide +kernel : ∀ t : Fin grid0.N, _)

/-- The batch entry of a grid point. -/
def batch (t : Fin cfg0.N) : Fin 16 := ⟨t.val / 4, by have : t.val < 64 := t.isLt; omega⟩
/-- The token of a grid point's block row. -/
def token (t : Fin cfg0.N) (r : Fin 512) : Fin 2048 := ⟨t.val % 4 * 512 + r.val, by omega⟩

/-- The stream's block. -/
theorem stream_block (c : Dev nD) (t : Fin cfg0.N) (r : Fin 512) (y : Fin 1024) :
    iblk m c 0 t (ix3 0 r y) = x m c (ix3 (batch t) (token t r) y) := by
  unfold batch token
  blk_ext [iblk, V, idx t]

/-- The modulations' block: the nine rows of the point's batch entry. -/
theorem mods_block (c : Dev nD) (t : Fin cfg0.N) (k : Fin 9) (y : Fin 1024) :
    iblk m c 1 t (ix3 0 k y) = modRow (mods m c) k (batch t) y := by
  unfold modRow batch
  blk_ext [iblk, V, idx t]

/-- The first half's block. -/
theorem left_block (c : Dev nD) (t : Fin cfg0.N) (r : Fin 512) (k : Fin 512) :
    iblk m c 2 t (ix3 0 r k) = left m c (ix3 (batch t) (token t r) k) := by
  unfold batch token
  blk_ext [iblk, V, idx t]

/-- The second half's block. -/
theorem right_block (c : Dev nD) (t : Fin cfg0.N) (r : Fin 512) (k : Fin 512) :
    iblk m c 3 t (ix3 0 r k) = right m c (ix3 (batch t) (token t r) k) := by
  unfold batch token
  blk_ext [iblk, V, idx t]

/-- The weight's block: the whole weight. -/
theorem weight_block (c : Dev nD) (t : Fin cfg0.N) (k : Fin 1024) (d : Fin 1024) :
    iblk m c 4 t (ix2 k d) = weight m c (ix2 k d) := by
  have e : ((win0_4.blk t).view.emb (ix2 k d)) = ix2 k d := by
    blk_ext [idx t]
  blk_simp [iblk]
  refine (congrArg (V m c main_v0) e).trans ?_
  entry_read
  pointwise []

/-- The norm's weight. -/
theorem scale_block (c : Dev nD) (t : Fin cfg0.N) (y : Fin 1024) : iblk m c 5 t (ix2 0 y) = scales m c (ix2 1 y) := by
  have e : ((win0_5.blk t).view.emb (ix2 (0 : Fin 1) y)) = ix2 (0 : Fin 1) y := by
    blk_ext [idx t]
  blk_simp [iblk]
  refine (congrArg (V m c main_v5) e).trans ?_
  entry_read
  pointwise []

/-- The norm's bias. -/
theorem bias_block (c : Dev nD) (t : Fin cfg0.N) (y : Fin 1024) : iblk m c 6 t (ix2 0 y) = biases m c (ix2 1 y) := by
  have e : ((win0_6.blk t).view.emb (ix2 (0 : Fin 1) y)) = ix2 (0 : Fin 1) y := by
    blk_ext [idx t]
  blk_simp [iblk]
  refine (congrArg (V m c main_v6) e).trans ?_
  entry_read
  pointwise []

/-- Where the output block's entry lies in the result. -/
theorem place (t : Fin cfg0.N) (r : Fin 512) (d : Fin 1024) :
    (win0_7.blk t).view.emb (ix3 (0 : Fin 1) r d) = ix3 (batch t) (token t r) d := by
  unfold batch token
  blk_ext [idx t]

/-- THE RESULT ARRAY: the kernel leaves the reference's result. -/
theorem final (c : Dev nD) :
    (dats m 0 c).arrAt 7 (cfgs 0).N
      = Cert.MixRefIdeal.Read.val_main_v38 (F := Ideal) (x m c) (mods m c) (left m c) (right m c) (weight m c) (scales m c) (biases m c) := by
  refine (dats m 0 c).arrAt_eq_of_covers 7 _ (by decide +kernel) fun t hf y => ?_
  obtain ⟨r, d, rfl⟩ : ∃ (r : Fin 512) (d : Fin 1024), y = ix3 0 r d := by
    refine ⟨y 1, y 2, ?_⟩
    funext a
    apply Fin.ext
    fin_cases a
    · have : (y 0).val < 1 := (y 0).isLt
      show (y 0).val = 0
      omega
    · rfl
    · rfl
  blk_simp
  rw [after0_7]
  refine (out_at _ _ _ _ _ _ _ r d).trans ?_
  refine Eq.trans ?_ (congrArg (Cert.MixRefIdeal.Read.val_main_v38 (F := Ideal) (x m c) (mods m c) (left m c) (right m c) (weight m c) (scales m c)
    (biases m c)) (place t r d)).symm
  rw [Cert.MixRefIdeal.At.result_at]
  simp only [stream_block, mods_block, left_block, right_block, weight_block, scale_block, bias_block]

end Cert.MixIdeal.Final
-- ==== Proof.JoinRow.lean ====
module

public import proofs.«01_k».proof.Proof.MixRow
public import proofs.«01_k».proof.Proof.DiffRow

@[expose] public section

set_option maxRecDepth 16384

noncomputable section

open Idealize.ShloMosaic Idealize.ShloMosaic.TcCoe Idealize.SL.Sem

/-! One token's group norm over heads of 64 channels, as a function of its row of 512 channels: as the reference
    computes it, and as the kernel does, with a selector matrix and a split into three parts. -/
namespace Cert.JoinRow

open Cert.DiffRow (Finite coe_sum)

/-- Channel `j` of the head channel `k` belongs to. -/
def chan (k : Fin 512) (j : Fin 64) : Fin 512 := ⟨k.val / 64 * 64 + j.val, by omega⟩

/-- The mean of a row over the head of channel `k`. -/
def headMean (s : Fin 512 → EReal) (k : Fin 512) : EReal :=
  Ideal.div (∑ j, s (chan k j)) (Ideal.ofBits .f32 0x42800000#32)

/-- The mean square of a row about its mean, over the head of channel `k`. -/
def headVar (s : Fin 512 → EReal) (k : Fin 512) : EReal :=
  Ideal.div (∑ j, (s (chan k j) - headMean s k) * (s (chan k j) - headMean s k)) (Ideal.ofBits .f32 0x42800000#32)

/-- The group norm with its weight and bias, the bonus added and the gate multiplied. -/
def normed (s gn gb bonus gate : Fin 512 → EReal) (k : Fin 512) : EReal :=
  ((s k - headMean s k) * Ideal.rsqrt (headVar s k + Ideal.ofBits .f32 0x3A27C5AC#32) * gn k + gb k + bonus k) * gate k

/-- The selector: 1/64 between two channels of one head, 0 else. -/
def sel (k n : Fin 512) : EReal :=
  if k.val / 64 = n.val / 64 then Ideal.ofBits .f32 0x3C800000#32 else Ideal.ofBits .f32 0x00000000#32

/-- The product of a row with a matrix, the row in three parts: itself and two remainders. -/
def split (e : Fin 512 → Fin 512 → EReal) (x : Fin 512 → EReal) (n : Fin 512) : EReal :=
  (∑ k, x k * e k n) + (∑ k, (x k - x k) * e k n) + ∑ k, (x k - x k - (x k - x k)) * e k n

/-- A row less its product with a matrix. -/
def centred (e : Fin 512 → Fin 512 → EReal) (s : Fin 512 → EReal) (k : Fin 512) : EReal := s k - split e s k

/-- The group norm as the kernel computes it. -/
def selNormed (e : Fin 512 → Fin 512 → EReal) (s gn gb bonus gate : Fin 512 → EReal) (k : Fin 512) : EReal :=
  (centred e s k * Ideal.rsqrt (split e (fun y => centred e s y * centred e s y) k + Ideal.ofBits .f32 0x3A27C5AC#32) * gn k + gb k + bonus k) * gate k

/-- The selector's entry as a real number. -/
theorem one_64th : Ideal.ofBits .f32 0x3C800000#32 = ((1 / 64 : ℝ) : EReal) := by
  simp [Ideal.ofBits, Ideal.ieee]
  norm_num
  rw [← EReal.coe_mul]
  exact congrArg _ (by norm_num)

/-- The size of a head as a real number. -/
theorem sixtyFour : Ideal.ofBits .f32 0x42800000#32 = ((64 : ℝ) : EReal) := by
  simp [Ideal.ofBits, Ideal.ieee]
  norm_num
  rw [← EReal.coe_mul]
  exact congrArg _ (by norm_num)

/-- A sum over 512 channels in which only one head counts is the sum over that head. -/
theorem head_sum (f : Fin 512 → ℝ) (n : Fin 512) :
    ∑ k : Fin 512, (if k.val / 64 = n.val / 64 then f k else 0) = ∑ j, f (chan n j) := by
  rw [← Finset.sum_filter]
  refine (Finset.sum_bij (fun (j : Fin 64) _ => chan n j) ?_ ?_ ?_ ?_).symm
  · intro j _
    have := j.isLt
    simp only [Finset.mem_filter, Finset.mem_univ, true_and, chan]
    omega
  · intro i _ j _ h
    have h := congrArg Fin.val h
    simp only [chan] at h
    exact Fin.ext (by omega)
  · intro k hk
    simp only [Finset.mem_filter, Finset.mem_univ, true_and] at hk
    exact ⟨⟨k.val % 64, by omega⟩, Finset.mem_univ _, Fin.ext (by simp only [chan]; omega)⟩
  · intro j _
    rfl

/-- On a finite row the product with the selector is the head's mean. -/
theorem split_eq {x : Fin 512 → EReal} (hx : ∀ k, Finite (x k)) (n : Fin 512) : split sel x n = headMean x n := by
  choose r hr using hx
  obtain rfl : x = fun k => (r k : EReal) := funext hr
  have hs : ∀ k, sel k n = ((if k.val / 64 = n.val / 64 then (1 / 64 : ℝ) else 0 : ℝ) : EReal) := fun k => by
    unfold sel
    rw [one_64th, Ideal.ofBits_zero_f32]
    split <;> simp
  have h64 : (64 : ℝ) ≠ 0 := by norm_num
  simp only [split, headMean, hs, ← EReal.coe_sub, ← EReal.coe_mul, ← coe_sum, ← EReal.coe_add, sixtyFour, Ideal.div_coe h64]
  refine congrArg _ ?_
  simp only [sub_self, zero_mul, Finset.sum_const_zero, add_zero]
  rw [← head_sum, Finset.sum_mul]
  refine Finset.sum_congr rfl fun k _ => ?_
  split <;> ring

/-- The mean of a finite row's head is a real number. -/
theorem finite_headMean {x : Fin 512 → EReal} (hx : ∀ k, Finite (x k)) (n : Fin 512) : Finite (headMean x n) := by
  choose r hr using hx
  obtain rfl : x = fun k => (r k : EReal) := funext hr
  have h64 : (64 : ℝ) ≠ 0 := by norm_num
  simp only [headMean, ← coe_sum, sixtyFour, Ideal.div_coe h64]
  exact ⟨_, rfl⟩

/-- The channels of one head have one mean. -/
theorem headMean_chan (s : Fin 512 → EReal) (k : Fin 512) (j : Fin 64) : headMean s (chan k j) = headMean s k := by
  unfold headMean
  refine congrArg (Ideal.div · _) (Finset.sum_congr rfl fun i _ => congrArg s (Fin.ext ?_))
  have := j.isLt
  simp only [chan]
  omega

/-- THE EQUATION: on a finite row the kernel's group norm is the reference's. -/
theorem selNormed_eq {s : Fin 512 → EReal} (hs : ∀ k, Finite (s k)) (gn gb bonus gate : Fin 512 → EReal) (k : Fin 512) :
    selNormed sel s gn gb bonus gate k = normed s gn gb bonus gate k := by
  have hc : ∀ y, centred sel s y = s y - headMean s y := fun y => by rw [centred, split_eq hs]
  have hv : split sel (fun y => centred sel s y * centred sel s y) k = headVar s k := by
    rw [split_eq (fun y => by rw [hc]; exact ((hs y).sub (finite_headMean hs y)).mul ((hs y).sub (finite_headMean hs y)))]
    unfold headVar
    conv_lhs => unfold headMean
    refine congrArg (Ideal.div · _) (Finset.sum_congr rfl fun j _ => ?_)
    show centred sel s (chan k j) * centred sel s (chan k j) = _
    rw [hc, headMean_chan]
  rw [selNormed, hv, hc, normed]

end Cert.JoinRow
-- ==== Proof.JoinBlock.lean ====
module

public import proofs.«01_k».proof.Proof.Gen.JoinIdeal.Value
public import proofs.«01_k».proof.Proof.JoinRow
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

/-! What a grid point of the first output projection leaves in its block: the update of each of the block's 512 rows. -/
namespace Cert.JoinIdeal.Block

open Cert.JoinIdeal Cert.JoinIdeal.Gen Cert.JoinRow
open Cert.MixRow (stream mixed update)
open Cert.FfnRow (layerNorm mean)

/-- Three matrices stacked. -/
def stacked (p q s : FVec Ideal S512x512 .bf16) : FVec Ideal S1536x512 .bf16 :=
  concatenate S1536x512 0 [⟨S512x512, p⟩, ⟨S512x512, q⟩, ⟨S512x512, s⟩] concatenates_S512x512_S512x512_S512x512_S1536x512_d0

/-- The first of three stacked matrices. -/
theorem stacked_first (p q s : FVec Ideal S512x512 .bf16) (r j : Fin 512) (n : Fin 1536) (hn : n.val = r.val) :
    stacked p q s (ix2 n j) = p (ix2 r j) := by
  pointwise [stacked]
  rw [dif_pos (by omega)]
  congr

/-- The second of three stacked matrices. -/
theorem stacked_second (p q s : FVec Ideal S512x512 .bf16) (r j : Fin 512) (n : Fin 1536) (hn : n.val = 512 + r.val) :
    stacked p q s (ix2 n j) = q (ix2 r j) := by
  pointwise [stacked]
  rw [dif_neg (by omega), dif_pos (by omega)]
  congr
  omega

/-- The third of three stacked matrices. -/
theorem stacked_third (p q s : FVec Ideal S512x512 .bf16) (r j : Fin 512) (n : Fin 1536) (hn : n.val = 1024 + r.val) :
    stacked p q s (ix2 n j) = s (ix2 r j) := by
  pointwise [stacked]
  rw [dif_neg (by omega), dif_neg (by omega)]
  congr
  omega

/-- The three products of a stack with a matrix, added, as the kernel takes them. -/
def products (v : FVec Ideal S1536x512 .bf16) (e : FVec Ideal S512x512 .bf16) : FVec Ideal S512x512 .f32 :=
  have z : FVec Ideal S1536x512 .f32 := matmul dot_S1536x512_S512x512_S1536x512_1_0_0_1_n_n none v e (constant S1536x512 .f32 0x00000000#32)
  addf (addf (extractStridedSlice S512x512 ![0, 0] z slices_S1536x512_o0_0_S512x512)
    (extractStridedSlice S512x512 ![512, 0] z slices_S1536x512_o512_0_S512x512))
    (extractStridedSlice S512x512 ![1024, 0] z slices_S1536x512_o1024_0_S512x512)

/-- Their entry: three sums. -/
theorem products_at (v : FVec Ideal S1536x512 .bf16) (e : FVec Ideal S512x512 .bf16) (r k : Fin 512) :
    products v e (ix2 r k) = (∑ j : Fin 512, v (ix2 (⟨r.val, by omega⟩ : Fin 1536) j) * e (ix2 j k))
      + (∑ j : Fin 512, v (ix2 (⟨512 + r.val, by omega⟩ : Fin 1536) j) * e (ix2 j k))
      + ∑ j : Fin 512, v (ix2 (⟨1024 + r.val, by omega⟩ : Fin 1536) j) * e (ix2 j k) := by
  pointwise [products]

/-- A matrix in three parts, stacked, as the kernel splits it. -/
def parts (x : FVec Ideal S512x512 .f32) : FVec Ideal S1536x512 .bf16 :=
  stacked (truncf .bf16 x bitsLt_bf16_f32)
    (truncf .bf16 (subf x (extf .f32 (truncf .bf16 x bitsLt_bf16_f32) bitsLt_bf16_f32)) bitsLt_bf16_f32)
    (truncf .bf16 (subf (subf x (extf .f32 (truncf .bf16 x bitsLt_bf16_f32) bitsLt_bf16_f32))
      (extf .f32 (truncf .bf16 (subf x (extf .f32 (truncf .bf16 x bitsLt_bf16_f32) bitsLt_bf16_f32)) bitsLt_bf16_f32) bitsLt_bf16_f32)) bitsLt_bf16_f32)

/-- The product of the parts with a matrix, at an entry. -/
theorem split_at (x : FVec Ideal S512x512 .f32) (e : FVec Ideal S512x512 .bf16) (r k : Fin 512) :
    products (parts x) e (ix2 r k) = split (fun k n => e (ix2 k n)) (fun y => x (ix2 r y)) k := by
  rw [products_at]
  unfold parts split
  refine congrArg₂ (· + ·) (congrArg₂ (· + ·) ?_ ?_) ?_ <;> refine Finset.sum_congr rfl fun j _ => congrArg (· * e (ix2 j k)) ?_
  · rw [stacked_first _ _ _ r j _ rfl]; rfl
  · rw [stacked_second _ _ _ r j _ rfl]; rfl
  · rw [stacked_third _ _ _ r j _ rfl]; rfl

/-- The sum of the two scans' rows less its head's mean. -/
theorem centred_at (a b : FVec Ideal S1x1x512x512 .f32) (e : FVec Ideal S512x512 .bf16) (r k : Fin 512) :
    k0_pay4 (F := Ideal) a b e (ix2 r k) = centred (fun k n => e (ix2 k n)) (fun k => a (ix4 0 0 r k) + b (ix4 0 0 r k)) k := by
  have he : k0_pay3 (F := Ideal) e = e := by
    funext y
    obtain ⟨i, j, rfl⟩ : ∃ (i j : Fin 512), y = ix2 i j := ⟨y 0, y 1, by funext a; fin_cases a <;> rfl⟩
    pointwise [k0_pay3]
  have hs : ∀ y : Fin 512, addf (F := Ideal) (φ := .f32) (shapeCast S512x512 a shapeCasts_S1x1x512x512_S512x512) (shapeCast S512x512 b shapeCasts_S1x1x512x512_S512x512)
      (ix2 r y) = a (ix4 0 0 r y) + b (ix4 0 0 r y) := fun y => by
    pointwise []
  have h : k0_pay4 (F := Ideal) a b e = subf (F := Ideal) (φ := .f32)
      (addf (shapeCast S512x512 a shapeCasts_S1x1x512x512_S512x512) (shapeCast S512x512 b shapeCasts_S1x1x512x512_S512x512))
      (products (parts (addf (shapeCast S512x512 a shapeCasts_S1x1x512x512_S512x512) (shapeCast S512x512 b shapeCasts_S1x1x512x512_S512x512))) (k0_pay3 e)) := rfl
  rw [h, he]
  refine (congrArg₂ (· - ·) (hs k) (split_at _ _ r k)).trans ?_
  simp only [hs]
  rfl

/-- The reciprocal root of its head's variance. -/
theorem root_at (a b : FVec Ideal S1x1x512x512 .f32) (e : FVec Ideal S512x512 .bf16) (r k : Fin 512) (c : Fin 512 → EReal)
    (hc : ∀ y, k0_pay4 (F := Ideal) a b e (ix2 r y) = c y) :
    k0_pay5 (F := Ideal) a b e (ix2 r k)
      = Ideal.rsqrt (split (fun k n => e (ix2 k n)) (fun y => c y * c y) k + Ideal.ofBits .f32 0x3A27C5AC#32) := by
  have he : k0_pay3 (F := Ideal) e = e := by
    funext y
    obtain ⟨i, j, rfl⟩ : ∃ (i j : Fin 512), y = ix2 i j := ⟨y 0, y 1, by funext a; fin_cases a <;> rfl⟩
    pointwise [k0_pay3]
  have h : k0_pay5 (F := Ideal) a b e (ix2 r k)
      = Ideal.rsqrt (products (parts (mulf (k0_pay4 a b e) (k0_pay4 a b e))) (k0_pay3 e) (ix2 r k) + Ideal.ofBits .f32 0x3A27C5AC#32) := rfl
  rw [h, he, split_at]
  have hm : ∀ y, mulf (k0_pay4 (F := Ideal) a b e) (k0_pay4 a b e) (ix2 r y) = c y * c y := fun y => congrArg₂ (· * ·) (hc y) (hc y)
  simp only [hm]

/-- The row before its layer norm. -/
theorem stream_at (x : FVec Ideal S512x1024 .f32) (s q : FVec Ideal S512x512 .f32) (gn gb : FVec Ideal S1x512 .f32)
    (bonus gt : FVec Ideal S1x512x512 .f32) (w : FVec Ideal S512x1024 .bf16) (yb : FVec Ideal S1x512x512 .f32)
    (v : FVec Ideal S512x1024 .bf16) (gate : FVec Ideal S1x1x1024 .f32) (r : Fin 512) (d : Fin 1024) :
    k0_pay6 (F := Ideal) x s q gn gb bonus gt w yb v gate (ix2 r d)
      = stream (fun y => x (ix2 r y)) (fun y => gate (ix3 0 0 y))
          (fun d => (∑ k : Fin 512, ((s (ix2 r k) * q (ix2 r k) * gn (ix2 0 k) + gb (ix2 0 k) + bonus (ix3 0 r k)) * gt (ix3 0 r k)) * w (ix2 k d))
            + ∑ k : Fin 512, yb (ix3 0 r k) * v (ix2 k d)) d := by
  pointwise [k0_pay6, stream]

/-- The kernel's norm of a row. -/
theorem norm_at (z : FVec Ideal S512x1024 .f32) (g bias : FVec Ideal S1x1024 .f32) (r : Fin 512) (d : Fin 1024) :
    k0_pay1 (F := Ideal) z (k0_pay7 g) bias (ix3 0 r d)
      = layerNorm (fun y => z (ix2 r y)) (fun y => g (ix2 0 y)) (fun y => bias (ix2 0 y)) d := by
  pointwise [k0_pay1, k0_pay7, layerNorm, mean]

/-- 512 rows of the weight, loaded from row `o` on. -/
theorem rows (v : FVec Ideal S1024x1024 .bf16) (o : Nat) (ho : ∀ a, (![o, 0] : Fin 2 → Nat) a + S512x1024.size a ≤ S1024x1024.size a)
    (k : Fin 512) (d : Fin 1024) (n : Fin 1024) (hn : n.val = o + k.val) :
    View.ld (Val := Elt Ideal) (S := S1024x1024) (e' := .bf16) v (Rect.unit (s := S1024x1024) ![o, 0] S512x1024.size ho) (ix2 k d) = v (ix2 n d) := by
  refine congrArg v ?_
  funext a
  apply Fin.ext
  fin_cases a <;> simp [LoadRect.idx, hn]

/-- One of the nine modulation rows, loaded. -/
theorem loadedRow (x1 : FVec Ideal S1x9x1024 .f32) (o : Nat) (ho : ∀ a, (![0, o, 0] : Fin 3 → Nat) a + S1x1x1024.size a ≤ S1x9x1024.size a)
    (n : Fin 9) (hn : n.val = o) (y : Fin 1024) :
    View.ld (Val := Elt Ideal) (S := S1x9x1024) (e' := .f32) x1 (Rect.unit (s := S1x9x1024) ![0, o, 0] S1x1x1024.size ho) (ix3 0 0 y) = x1 (ix3 0 n y) := by
  refine congrArg x1 ?_
  funext a
  apply Fin.ext
  fin_cases a <;> simp [LoadRect.idx, hn]

/-- THE OUTPUT BLOCK: the entry at row `r`, channel `d` is the update of row `r`. -/
theorem out_at (x0 : FVec Ideal S1x512x1024 .f32) (x1 : FVec Ideal S1x9x1024 .f32) (x2 x3 : FVec Ideal S1x1x512x512 .f32)
    (x4 x5 : FVec Ideal S1x512x512 .f32) (x6 x7 : FVec Ideal S1x512 .f32) (x8 : FVec Ideal S512x512 .bf16) (x9 : FVec Ideal S1x512x512 .f32)
    (x10 : FVec Ideal S1024x1024 .bf16) (x11 x12 : FVec Ideal S1x1024 .f32) (r : Fin 512) (d : Fin 1024) :
    out0_13 (F := Ideal) x0 x1 x2 x3 x4 x5 x6 x7 x8 x9 x10 x11 x12 (ix3 0 r d)
      = update (fun y => x0 (ix3 0 r y)) (fun y => x1 (ix3 0 5 y))
          (selNormed (fun k n => x8 (ix2 k n)) (fun k => x2 (ix4 0 0 r k) + x3 (ix4 0 0 r k)) (fun k => x6 (ix2 0 k)) (fun k => x7 (ix2 0 k))
            (fun k => x4 (ix3 0 r k)) (fun k => x5 (ix3 0 r k)))
          (fun k => x9 (ix3 0 r k)) (fun k d => x10 (ix2 k d)) (fun y => x11 (ix2 0 y)) (fun y => x12 (ix2 0 y)) d := by
  have e0 : View.ld (Val := Elt Ideal) (S := S1x512x1024) (e' := .f32) x0 r0_0 = x0 := by
    funext y
    refine congrArg x0 ?_
    funext a
    apply Fin.ext
    fin_cases a <;> simp [LoadRect.idx]
  have e1 : ∀ z : FVec Ideal S1x1x512x512 .f32, View.ld (Val := Elt Ideal) (S := S1x1x512x512) (e' := .f32) z r0_1 = z := fun z => by
    funext y
    refine congrArg z ?_
    funext a
    apply Fin.ext
    fin_cases a <;> simp [LoadRect.idx]
  have e2 : View.ld (Val := Elt Ideal) (S := S512x512) (e' := .bf16) x8 r0_2 = x8 := by
    funext y
    refine congrArg x8 ?_
    funext a
    apply Fin.ext
    fin_cases a <;> simp [LoadRect.idx]
  have e3 : ∀ z : FVec Ideal S1x512 .f32, View.ld (Val := Elt Ideal) (S := S1x512) (e' := .f32) z r0_3 = z := fun z => by
    funext y
    refine congrArg z ?_
    funext a
    apply Fin.ext
    fin_cases a <;> simp [LoadRect.idx]
  have e4 : ∀ z : FVec Ideal S1x512x512 .f32, View.ld (Val := Elt Ideal) (S := S1x512x512) (e' := .f32) z r0_4 = z := fun z => by
    funext y
    refine congrArg z ?_
    funext a
    apply Fin.ext
    fin_cases a <;> simp [LoadRect.idx]
  have e8 : ∀ z : FVec Ideal S1x1024 .f32, View.ld (Val := Elt Ideal) (S := S1x1024) (e' := .f32) z r0_8 = z := fun z => by
    funext y
    refine congrArg z ?_
    funext a
    apply Fin.ext
    fin_cases a <;> simp [LoadRect.idx]
  have hx : ∀ y, k0_pay2 (F := Ideal) x0 (ix2 r y) = x0 (ix3 0 r y) := fun y => by
    pointwise [k0_pay2]
  unfold out0_13
  canon_tiles x hx'
  rw [e0, e1, e1, e2, e3, e3, e4, e4, e4, e8, e8]
  obtain rfl : x = ix3 0 r d := by
    funext a
    apply Fin.ext
    fin_cases a
    · exact hx'0.symm
    · exact hx'1.symm
    · exact hx'2.symm
  rw [norm_at]
  unfold update
  refine congrArg (layerNorm · _ _ d) ?_
  funext y
  rw [stream_at]
  have hg : ∀ y, View.ld (Val := Elt Ideal) (S := S1x9x1024) (e' := .f32) x1 r0_7 (ix3 0 0 y) = x1 (ix3 0 5 y) := fun y => loadedRow x1 5 _ 5 rfl y
  have hw : ∀ (k : Fin 512) (d : Fin 1024), View.ld (Val := Elt Ideal) (S := S1024x1024) (e' := .bf16) x10 r0_5 (ix2 k d) = x10 (ix2 ⟨k.val, by omega⟩ d) := fun k d =>
    rows x10 0 _ k d _ (by simp)
  have hv : ∀ (k : Fin 512) (d : Fin 1024), View.ld (Val := Elt Ideal) (S := S1024x1024) (e' := .bf16) x10 r0_6 (ix2 k d) = x10 (ix2 ⟨512 + k.val, by omega⟩ d) := fun k d =>
    rows x10 512 _ k d _ rfl
  simp only [stream, mixed, hg, hw, hv, hx, centred_at, root_at x2 x3 x8 r _ _ (centred_at x2 x3 x8 r), selNormed]

end Cert.JoinIdeal.Block
-- ==== Proof.JoinRead.lean ====
module

public import proofs.«01_k».proof.Proof.Gen.JoinRefIdeal.Read
public import proofs.«01_k».proof.Proof.JoinRow
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

/-! The reference of the first output projection read at an index, as the row functions of `Cert.JoinRow` and `Cert.MixRow`. -/
namespace Cert.JoinRefIdeal.At

open Cert.JoinRefIdeal Cert.JoinRefIdeal.Gen Cert.JoinRefIdeal.Read Cert.JoinRow
open Cert.MixRow (stream mixed update halves)
open Cert.FfnRow (mean layerNorm)

variable (x : FVec Ideal S16x2048x1024 .f32) (mods : FVec Ideal S24x9x1024 .f32) (y2 : FVec Ideal S2x16x2048x512 .f32)
  (bonus gate : FVec Ideal S16x2048x512 .f32) (gn gb : FVec Ideal S512 .f32) (yb : FVec Ideal S16x2048x512 .f32)
  (w : FVec Ideal S1024x1024 .f32) (g bias : FVec Ideal S3x1024 .f32)

/-- Row `k` of the nine modulation rows of batch entry `b`. -/
def modRow (k : Fin 9) (b : Fin 16) (y : Fin 1024) : EReal := mods (ix3 ⟨b.val, by omega⟩ k y)

/-- The sum of the two scans' outputs, a token's row. -/
def scans (b : Fin 16) (n : Fin 2048) (k : Fin 512) : EReal := y2 (ix4 0 b n k) + y2 (ix4 1 b n k)

/-- The token's normed, gated row. -/
abbrev left (b : Fin 16) (n : Fin 2048) : Fin 512 → EReal :=
  normed (scans y2 b n) (fun k => gn (ix1 k)) (fun k => gb (ix1 k)) (fun k => bonus (ix3 b n k)) (fun k => gate (ix3 b n k))

/-- The row before its norm. -/
abbrev rowSum (b : Fin 16) (n : Fin 2048) : Fin 1024 → EReal :=
  stream (fun y => x (ix3 b n y)) (modRow mods 5 b) (mixed (left y2 bonus gate gn gb b n) (fun k => yb (ix3 b n k)) fun k d => w (ix2 k d))

/-- The sum of the two scans' outputs. -/
theorem scans_at (b : Fin 16) (n : Fin 2048) (k : Fin 512) : val_main_v6 (F := Ideal) y2 (ix3 b n k) = scans y2 b n k := by
  rw [val_main_v6_apply, val_main_v5_apply, val_main_v4_apply, val_main_v3_apply, val_main_v2_apply]
  refine congrArg₂ (· + ·) (congrArg y2 ?_) (congrArg y2 ?_) <;>
  · funext a
    apply Fin.ext
    fin_cases a <;> simp [idx_main_v2, idx_main_v3, idx_main_v4, idx_main_v5] <;> omega

/-- The same, its channels in heads. -/
theorem heads_at (b : Fin 16) (n : Fin 2048) (h : Fin 8) (j : Fin 64) (k : Fin 512) (hk : k.val = h.val * 64 + j.val) :
    val_main_v7 (F := Ideal) y2 (ix4 b n h j) = scans y2 b n k := by
  rw [val_main_v7_apply, ← scans_at]
  refine congrArg _ ?_
  funext a
  apply Fin.ext
  fin_cases a <;> simp [idx_main_v7] <;> omega

/-- A head's mean. -/
theorem headMean_at (b : Fin 16) (n : Fin 2048) (h : Fin 8) (k : Fin 512) (hk : k.val / 64 = h.val) :
    val_main_v11 (F := Ideal) y2 (ix4 b n h 0) = headMean (scans y2 b n) k := by
  rw [val_main_v11_apply, val_main_v10_apply, val_main_v9_apply, val_main_v8_apply, val_main_cst_apply]
  show Ideal.div (Ideal.ofBits .f32 0x00000000#32 + _) _ = _
  rw [Ideal.ofBits_zero_f32, zero_add]
  refine congrArg (Ideal.div · _) (Finset.sum_congr rfl fun j _ => ?_)
  rw [← heads_at y2 b n h j (chan k j) (by simp only [chan]; omega)]
  refine congrArg _ ?_
  funext a; apply Fin.ext; fin_cases a <;> rfl

/-- A head's mean square about its mean. -/
theorem headVar_at (b : Fin 16) (n : Fin 2048) (h : Fin 8) (k : Fin 512) (hk : k.val / 64 = h.val) :
    val_main_v18 (F := Ideal) y2 (ix4 b n h 0) = headVar (scans y2 b n) k := by
  rw [val_main_v18_apply, val_main_v17_apply, val_main_v16_apply, val_main_v15_apply, val_main_cst_1_apply]
  show Ideal.div (Ideal.ofBits .f32 0x00000000#32 + _) _ = _
  rw [Ideal.ofBits_zero_f32, zero_add]
  refine congrArg (Ideal.div · _) (Finset.sum_congr rfl fun j _ => ?_)
  rw [show idx_main_v15 (idx_main_v16 (ix4 b n h 0)) j = ix4 b n h j by funext a; apply Fin.ext; fin_cases a <;> rfl,
    val_main_v14_apply, val_main_v13_apply, val_main_v12_apply,
    show idx_main_v12 (ix4 b n h j) = ix4 b n h 0 by funext a; apply Fin.ext; fin_cases a <;> rfl,
    heads_at y2 b n h j (chan k j) (by simp only [chan]; omega), headMean_at y2 b n h k hk]
  rfl

/-- The group norm before its weight. -/
theorem unit_at (b : Fin 16) (n : Fin 2048) (k : Fin 512) :
    val_main_v26 (F := Ideal) y2 (ix3 b n k)
      = (scans y2 b n k - headMean (scans y2 b n) k) * Ideal.rsqrt (headVar (scans y2 b n) k + Ideal.ofBits .f32 0x3A27C5AC#32) := by
  rw [val_main_v26_apply,
    show idx_main_v26 (ix3 b n k) = ix4 b n (⟨k.val / 64, by omega⟩ : Fin 8) (⟨k.val % 64, by omega⟩ : Fin 64) by
      funext a; apply Fin.ext; fin_cases a <;> simp [idx_main_v26] <;> omega,
    val_main_v25_apply, val_main_v24_apply, val_main_v23_apply, val_main_v22_apply, val_main_v21_apply, val_main_v20_apply, val_main_v19_apply,
    heads_at y2 b n _ _ k (by simp only []; omega)]
  have e : ∀ (h : Fin 8) (j : Fin 64), idx_main_v19 (ix4 b n h j) = ix4 b n h 0 := fun h j => by
    funext a; apply Fin.ext; fin_cases a <;> rfl
  have e' : ∀ (h : Fin 8) (j : Fin 64), idx_main_v24 (ix4 b n h j) = ix4 b n h 0 := fun h j => by
    funext a; apply Fin.ext; fin_cases a <;> rfl
  rw [e, e', headMean_at y2 b n _ k rfl, headVar_at y2 b n _ k rfl]
  rfl

/-- The normed, gated row. -/
theorem left_at (b : Fin 16) (n : Fin 2048) (k : Fin 512) :
    val_main_v34 (F := Ideal) y2 bonus gate gn gb (ix3 b n k) = left y2 bonus gate gn gb b n k := by
  have eg : val_main_v28 (F := Ideal) gn (ix3 b n k) = gn (ix1 k) := by
    pointwise [val_main_v28, val_main_v27]
  have eb : val_main_v31 (F := Ideal) gb (ix3 b n k) = gb (ix1 k) := by
    pointwise [val_main_v31, val_main_v30]
  rw [val_main_v34_apply, val_main_v33_apply, val_main_v32_apply, val_main_v29_apply, unit_at, eg, eb]
  rfl

/-- The gate's row. -/
theorem gate_at (b : Fin 16) (n : Fin 2048) (y : Fin 1024) :
    val_main_v41 (F := Ideal) mods (ix3 b n y) = modRow mods 5 b y := by
  simp only [val_main_v41_apply, val_main_v40_apply, val_main_v39_apply, val_main_v1_apply, val_main_v0_apply]
  pointwise [modRow]
  refine congrArg mods ?_
  funext a
  apply Fin.ext
  fin_cases a <;> simp [idx_main_v0, idx_main_v1, idx_main_v39, idx_main_v40, idx_main_v41] <;> omega

/-- The first half of the joined channels. -/
theorem joined_left (b : Fin 16) (n : Fin 2048) (k : Fin 512) (j : Fin 1024) (hj : j.val = k.val) :
    val_main_v35 (F := Ideal) y2 bonus gate gn gb yb (ix3 b n j) = left y2 bonus gate gn gb b n k := by
  rw [← left_at]
  unfold val_main_v35
  generalize val_main_v34 (F := Ideal) y2 bonus gate gn gb = z
  pointwise []
  rw [dif_pos (by omega)]
  congr

/-- The second half of the joined channels. -/
theorem joined_right (b : Fin 16) (n : Fin 2048) (k : Fin 512) (j : Fin 1024) (hj : j.val = 512 + k.val) :
    val_main_v35 (F := Ideal) y2 bonus gate gn gb yb (ix3 b n j) = yb (ix3 b n k) := by
  unfold val_main_v35
  generalize val_main_v34 (F := Ideal) y2 bonus gate gn gb = z
  pointwise []
  rw [dif_neg (by omega)]
  congr
  omega

/-- The product. -/
theorem product_at (b : Fin 16) (n : Fin 2048) (d : Fin 1024) :
    val_main_v36 (F := Ideal) y2 bonus gate gn gb yb w (ix3 b n d)
      = mixed (left y2 bonus gate gn gb b n) (fun k => yb (ix3 b n k)) (fun k d => w (ix2 k d)) d := by
  have e : ∀ k : Fin 1024, val_main_v35 (F := Ideal) y2 bonus gate gn gb yb (lidx_main_v36 (ix3 b n d) k) * w (ridx_main_v36 (ix3 b n d) k)
      = val_main_v35 (F := Ideal) y2 bonus gate gn gb yb (ix3 b n k) * w (ix2 k d) := fun k => by
    rw [show lidx_main_v36 (ix3 b n d) k = ix3 b n k by funext a; apply Fin.ext; fin_cases a <;> rfl,
      show ridx_main_v36 (ix3 b n d) k = ix2 k d by funext a; apply Fin.ext; fin_cases a <;> rfl]
  rw [val_main_v36_apply]
  simp only [e]
  rw [halves]
  unfold mixed
  refine congrArg₂ (· + ·) (Finset.sum_congr rfl fun k _ => ?_) (Finset.sum_congr rfl fun k _ => ?_)
  · rw [joined_left y2 bonus gate gn gb yb b n k _ rfl]
  · rw [joined_right y2 bonus gate gn gb yb b n k _ rfl]

/-- The row before its norm. -/
theorem stream_at (b : Fin 16) (n : Fin 2048) (d : Fin 1024) :
    val_main_v43 (F := Ideal) x mods y2 bonus gate gn gb yb w (ix3 b n d) = rowSum x mods y2 bonus gate gn gb yb w b n d := by
  rw [val_main_v43_apply, val_main_v42_apply, val_main_v38_apply, val_main_v37_apply, gate_at, product_at]
  rfl

/-- The row's mean. -/
theorem mean_at (b : Fin 16) (n : Fin 2048) :
    val_main_v47 (F := Ideal) x mods y2 bonus gate gn gb yb w (ix3 b n 0) = mean (rowSum x mods y2 bonus gate gn gb yb w b n) := by
  rw [val_main_v47_apply, val_main_v46_apply, val_main_v45_apply, val_main_v44_apply, val_main_cst_5_apply]
  show Ideal.div (Ideal.ofBits .f32 0x00000000#32 + _) _ = _
  rw [Ideal.ofBits_zero_f32, zero_add]
  refine congrArg (Ideal.div · _) (Finset.sum_congr rfl fun y _ => ?_)
  rw [← stream_at]
  refine congrArg _ ?_
  funext a; apply Fin.ext; fin_cases a <;> rfl

/-- The row's mean square about its mean. -/
theorem variance_at (b : Fin 16) (n : Fin 2048) :
    val_main_v54 (F := Ideal) x mods y2 bonus gate gn gb yb w (ix3 b n 0)
      = mean fun y => (rowSum x mods y2 bonus gate gn gb yb w b n y - mean (rowSum x mods y2 bonus gate gn gb yb w b n))
          * (rowSum x mods y2 bonus gate gn gb yb w b n y - mean (rowSum x mods y2 bonus gate gn gb yb w b n)) := by
  rw [val_main_v54_apply, val_main_v53_apply, val_main_v52_apply, val_main_v51_apply, val_main_cst_7_apply]
  show Ideal.div (Ideal.ofBits .f32 0x00000000#32 + _) _ = _
  rw [Ideal.ofBits_zero_f32, zero_add]
  refine congrArg (Ideal.div · _) (Finset.sum_congr rfl fun y _ => ?_)
  rw [show idx_main_v51 (idx_main_v52 (ix3 b n 0)) y = ix3 b n y by funext a; apply Fin.ext; fin_cases a <;> rfl,
    val_main_v50_apply, val_main_v49_apply, val_main_v48_apply,
    show idx_main_v48 (ix3 b n y) = ix3 b n 0 by funext a; apply Fin.ext; fin_cases a <;> rfl, stream_at, mean_at]
  rfl

/-- The weight of the norm. -/
theorem scale_at (b : Fin 16) (n : Fin 2048) (d : Fin 1024) : val_main_v65 (F := Ideal) g (ix3 b n d) = g (ix2 1 d) := by
  pointwise [val_main_v65, val_main_v64, val_main_v63, val_main_v62]

/-- The bias of the norm. -/
theorem bias_at (b : Fin 16) (n : Fin 2048) (d : Fin 1024) : val_main_v70 (F := Ideal) bias (ix3 b n d) = bias (ix2 1 d) := by
  pointwise [val_main_v70, val_main_v69, val_main_v68, val_main_v67]

/-- The reference's result: the update of the token's row. -/
theorem result_at (b : Fin 16) (n : Fin 2048) (d : Fin 1024) :
    val_main_v71 (F := Ideal) x mods y2 bonus gate gn gb yb w g bias (ix3 b n d)
      = update (fun y => x (ix3 b n y)) (modRow mods 5 b) (left y2 bonus gate gn gb b n) (fun k => yb (ix3 b n k)) (fun k d => w (ix2 k d))
          (fun y => g (ix2 1 y)) (fun y => bias (ix2 1 y)) d := by
  rw [val_main_v71_apply, val_main_v66_apply, val_main_v61_apply, val_main_v56_apply, val_main_v55_apply, val_main_v60_apply,
    val_main_v59_apply, val_main_v58_apply, val_main_v57_apply, scale_at, bias_at, stream_at,
    show idx_main_v55 (ix3 b n d) = ix3 b n 0 by funext a; apply Fin.ext; fin_cases a <;> rfl,
    show idx_main_v60 (ix3 b n d) = ix3 b n 0 by funext a; apply Fin.ext; fin_cases a <;> rfl, mean_at, variance_at]
  rfl

end Cert.JoinRefIdeal.At
-- ==== Proof.JoinFinite.lean ====
module

public import proofs.«01_k».proof.Proof.Gen.Pre_scans_finite
public import proofs.«01_k».proof.Proof.DiffFinite

@[expose] public section

set_option maxRecDepth 16384

noncomputable section

open Idealize.ShloMosaic Idealize.ShloMosaic.TcCoe Idealize.SL.Sem

/-! What the precondition of the first output projection gives: every entry of the two scans' outputs is a real number. -/
namespace Cert.Pre_scans_finite.At

open Cert.Pre_scans_finite Cert.DiffRow
open Cert.Pre_diff_finite.At (finite_of_abs)

/-- The precondition is the finiteness of the scans' outputs. -/
theorem finite_of_pre [Cert.Pre_scans_finite.Facts] (x0 : FVec Ideal S16x2048x1024 .f32) (x1 : FVec Ideal S24x9x1024 .f32)
    (x2 : FVec Ideal S2x16x2048x512 .f32) (x3 x4 : FVec Ideal S16x2048x512 .f32) (x5 x6 : FVec Ideal S512 .f32)
    (x7 : FVec Ideal S16x2048x512 .f32) (x8 : FVec Ideal S1024x1024 .f32) (x9 x10 : FVec Ideal S3x1024 .f32)
    (h : fn (F := Ideal) x0 x1 x2 x3 x4 x5 x6 x7 x8 x9 x10 = fun _ => 1#1) (i : S2x16x2048x512.Idx) : Finite (x2 i) := by
  have h := congrFun h ix0
  unfold fn at h
  exact finite_of_abs _ (Host.reduce_andi_all _ _ _ _ _ h i)

end Cert.Pre_scans_finite.At
-- ==== Proof.JoinHost.lean ====
module

public import proofs.«01_k».proof.Proof.Gen.JoinIdeal.Value
public import proofs.«01_k».proof.Proof.JoinRow
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

/-! What the host operations before the kernel leave in its operands: the selector of the heads, and the weights as rows. The operations
    come in five stretches: the channels, their heads (the channel divided by 64), the comparison of heads, the choice of 1/64 or 0, and
    the rest. -/
namespace Cert.JoinIdeal.HostRead

open Cert.JoinIdeal Cert.JoinIdeal.Gen Cert.JoinRow

variable (W : Valuation τ sig (Elt Ideal))

/-- Two stretches one after the other. -/
theorem after_append (l k : List (HloOp τ sig (Elt Ideal))) : StableHlo.after (l ++ k) W = StableHlo.after k (StableHlo.after l W) := by
  induction l generalizing W with
  | nil => rfl
  | cons op l ih => exact ih _

/-- The channels' numbers. -/
def lane : IVec S512 32 := iotaInDim S512 32 0

/-- A word on every channel. -/
def every (n : BitVec 32) : IVec S512 32 := broadcastInDim S512 ![] bcast_S_S512 (constantI S_ 32 n : IVec S_ 32)

/-- The head of each channel: the channel divided by 64, rounded down. -/
def heads : IVec S512 32 :=
  select (andi (cmpi .ne (signi lane) (broadcastInDim S512 ![] bcast_S_S512 (signi (constantI S_ 32 64#32 : IVec S_ 32))))
    (cmpi .ne (Host.remsi lane (every 64#32)) (every 0#32)))
    (subi (Host.divsi lane (every 64#32)) (every 1#32)) (Host.divsi lane (every 64#32))

/-- Whether two channels are of one head. -/
def same : IVec S512x512 1 :=
  cmpi .eq (broadcastInDim S512x512 ![0, 1] bcast_S512x1_S512x512_0_1 (broadcastInDim S512x1 ![0] bcast_S512_S512x1_0 heads : IVec S512x1 32))
    (broadcastInDim S512x512 ![0, 1] bcast_S1x512_S512x512_0_1 (broadcastInDim S1x512 ![1] bcast_S512_S1x512_1 heads : IVec S1x512 32))

/-- The selector. -/
def selector : FVec Ideal S512x512 .f32 :=
  select same (broadcastInDim S512x512 ![] bcast_S_S512x512 (constant S_ .f32 0x3C800000#32 : FVec Ideal S_ .f32))
    (broadcastInDim S512x512 ![] bcast_S_S512x512 (constant S_ .f32 0x00000000#32 : FVec Ideal S_ .f32))

/-- The first stretch leaves the channels. -/
theorem first_v0 : StableHlo.after hostOps0 W (Proc.devRef .tc main_v0) = lane := by
  entry_read
  rfl

/-- The first stretch leaves the divisor 64. -/
theorem first_c : StableHlo.after hostOps0 W (Proc.devRef .tc main_c) = (constantI S_ 32 64#32 : IVec S_ 32) := by
  entry_read
  rfl

/-- The second stretch leaves the heads. -/
theorem second_v1 (h0 : W (Proc.devRef .tc main_v0) = lane) (hc : W (Proc.devRef .tc main_c) = (constantI S_ 32 64#32 : IVec S_ 32)) :
    StableHlo.after hostOps0_1 W (Proc.devRef .tc main_v1) = heads := by
  entry_read
  rw [h0, hc]
  rfl

/-- The third stretch leaves the comparison. -/
theorem third_v6 (h1 : W (Proc.devRef .tc main_v1) = heads) : StableHlo.after hostOps0_2 W (Proc.devRef .tc main_v6) = same := by
  entry_read
  rw [h1]
  rfl

/-- The third stretch leaves 1/64. -/
theorem third_cst : StableHlo.after hostOps0_2 W (Proc.devRef .tc main_cst) = (constant S_ .f32 0x3C800000#32 : FVec Ideal S_ .f32) := by
  entry_read
  rfl

/-- The third stretch leaves 0. -/
theorem third_cst_0 : StableHlo.after hostOps0_2 W (Proc.devRef .tc main_cst_0) = (constant S_ .f32 0x00000000#32 : FVec Ideal S_ .f32) := by
  entry_read
  rfl

/-- The fourth stretch leaves the selector. -/
theorem fourth_v7 (h6 : W (Proc.devRef .tc main_v6) = same)
    (h1 : W (Proc.devRef .tc main_cst) = (constant S_ .f32 0x3C800000#32 : FVec Ideal S_ .f32))
    (h0 : W (Proc.devRef .tc main_cst_0) = (constant S_ .f32 0x00000000#32 : FVec Ideal S_ .f32)) :
    StableHlo.after hostOps0_3 W (Proc.devRef .tc main_v7) = selector := by
  entry_read
  rw [h6, h1, h0]
  rfl

/-- The last stretch leaves the selector in the narrow format. -/
theorem last_v9 (h7 : W (Proc.devRef .tc main_v7) = selector) :
    StableHlo.after hostOps0_4 W (Proc.devRef .tc main_v9) = (truncf .bf16 selector bitsLt_bf16_f32 : FVec Ideal S512x512 .bf16) := by
  entry_read
  rw [h7]

/-- The last stretch leaves the group norm's weight as a row. -/
theorem last_v10 : StableHlo.after hostOps0_4 W (Proc.devRef .tc main_v10)
    = (broadcastInDim S1x512 ![1] bcast_S512_S1x512_1 (W (Proc.devRef .tc main_arg5) : FVec Ideal S512 .f32) : FVec Ideal S1x512 .f32) := by
  entry_read
  rfl

/-- The last stretch leaves the group norm's bias as a row. -/
theorem last_v11 : StableHlo.after hostOps0_4 W (Proc.devRef .tc main_v11)
    = (broadcastInDim S1x512 ![1] bcast_S512_S1x512_1 (W (Proc.devRef .tc main_arg6) : FVec Ideal S512 .f32) : FVec Ideal S1x512 .f32) := by
  entry_read
  rfl

/-- The last stretch leaves the weight in the narrow format. -/
theorem last_v12 : StableHlo.after hostOps0_4 W (Proc.devRef .tc main_v12)
    = (truncf .bf16 (W (Proc.devRef .tc main_arg8) : FVec Ideal S1024x1024 .f32) bitsLt_bf16_f32 : FVec Ideal S1024x1024 .bf16) := by
  entry_read
  rfl

/-- The second of three rows, taken as the host operations take it. -/
def second (v : FVec Ideal S3x1024 .f32) : FVec Ideal S1x1024 .f32 :=
  broadcastInDim S1x1024 ![1] bcast_S1024_S1x1024_1
    (shapeCast S1024 (extractStridedSlice S1x1024 ![1, 0] v slices_S3x1024_S1x1024_1_0) shapeCasts_S1x1024_S1024 : FVec Ideal S1024 .f32)

/-- Its entry. -/
theorem second_at (v : FVec Ideal S3x1024 .f32) (y : Fin 1024) : second v (ix2 0 y) = v (ix2 1 y) := by
  pointwise [second]

/-- The last stretch leaves the layer norm's weight. -/
theorem last_v17 : StableHlo.after hostOps0_4 W (Proc.devRef .tc main_v17) = second (W (Proc.devRef .tc main_arg9)) := by
  entry_read
  rfl

/-- The last stretch leaves the layer norm's bias. -/
theorem last_v18 : StableHlo.after hostOps0_4 W (Proc.devRef .tc main_v18) = second (W (Proc.devRef .tc main_arg10)) := by
  entry_read
  rfl

/-- The last stretch keeps the group norm's weight. -/
theorem last_arg5 : StableHlo.after hostOps0_4 W (Proc.devRef .tc main_arg5) = W (Proc.devRef .tc main_arg5) := by
  entry_read
  rfl

/-- The last stretch keeps the group norm's bias. -/
theorem last_arg6 : StableHlo.after hostOps0_4 W (Proc.devRef .tc main_arg6) = W (Proc.devRef .tc main_arg6) := by
  entry_read
  rfl

/-- The last stretch keeps the weight. -/
theorem last_arg8 : StableHlo.after hostOps0_4 W (Proc.devRef .tc main_arg8) = W (Proc.devRef .tc main_arg8) := by
  entry_read
  rfl

/-- The last stretch keeps the layer norms' weights. -/
theorem last_arg9 : StableHlo.after hostOps0_4 W (Proc.devRef .tc main_arg9) = W (Proc.devRef .tc main_arg9) := by
  entry_read
  rfl

/-- The last stretch keeps the layer norms' biases. -/
theorem last_arg10 : StableHlo.after hostOps0_4 W (Proc.devRef .tc main_arg10) = W (Proc.devRef .tc main_arg10) := by
  entry_read
  rfl

/-- The head of channel `k` is `k / 64`. -/
theorem heads_at (k : Fin 512) : heads (ix1 k) = BitVec.ofNat 32 (k.val / 64) := by
  revert k
  decide +kernel

/-- The selector's entries. -/
theorem selector_at (k n : Fin 512) : selector (ix2 k n) = sel k n := by
  have h : same (ix2 k n) = IntOp.cmpi .eq (heads (ix1 k)) (heads (ix1 n)) := by
    unfold same
    generalize heads = h
    pointwise []
  have hs : selector (ix2 k n) = Scalar.select (same (ix2 k n)) (Ideal.ofBits .f32 0x3C800000#32) (Ideal.ofBits .f32 0x00000000#32) := by
    unfold selector
    generalize same = s
    pointwise []
  rw [hs, h, heads_at, heads_at]
  unfold sel
  by_cases e : k.val / 64 = n.val / 64
  · rw [if_pos e, e]
    simp [IntOp.cmpi, Scalar.select]
  · rw [if_neg e]
    have : BitVec.ofNat 32 (k.val / 64) ≠ BitVec.ofNat 32 (n.val / 64) := fun h => by
      have h := congrArg BitVec.toNat h
      simp only [BitVec.toNat_ofNat] at h
      omega
    have hb : (BitVec.ofNat 32 (k.val / 64) == BitVec.ofNat 32 (n.val / 64)) = false := beq_eq_false_iff_ne.mpr this
    simp only [IntOp.cmpi, Scalar.select, hb]
    rfl

variable (m : (ℓ : Loc nD τ sig) → Buf (Elt Ideal) ℓ)

/-- What the first four stretches leave. -/
def before (c : Dev nD) : Valuation τ sig (Elt Ideal) :=
  StableHlo.after hostOps0_3 (StableHlo.after hostOps0_2 (StableHlo.after hostOps0_1 (StableHlo.after hostOps0 (fun b => m (c, b)))))

/-- What each operand holds when the kernel starts, by stretches. -/
theorem stretches (c : Dev nD) : (fun b => V m c b) = fun b => StableHlo.after hostOps0_4 (before m c) (Proc.devRef .tc b) := by
  funext b
  show StableHlo.after (hostOps0 ++ (hostOps0_1 ++ (hostOps0_2 ++ (hostOps0_3 ++ (hostOps0_4 ++ []))))) _ _ = _
  simp only [after_append, List.append_nil]
  rfl

/-- The group norm's weight operand. -/
theorem gn_at (c : Dev nD) (k : Fin 512) : V m c main_v10 (ix2 0 k) = m ((c : Thread nD τ).loc main_arg5) (ix1 k) := by
  have h : before m c (Proc.devRef .tc main_arg5) = m ((c : Thread nD τ).loc main_arg5) :=
    (last_arg5 _).symm.trans ((congrFun (stretches m c) main_arg5).symm.trans (V_main_arg5 m c))
  have e : V m c main_v10 = _ := (congrFun (stretches m c) main_v10).trans (last_v10 _)
  rw [e, h]
  pointwise []

/-- The group norm's bias operand. -/
theorem gb_at (c : Dev nD) (k : Fin 512) : V m c main_v11 (ix2 0 k) = m ((c : Thread nD τ).loc main_arg6) (ix1 k) := by
  have h : before m c (Proc.devRef .tc main_arg6) = m ((c : Thread nD τ).loc main_arg6) :=
    (last_arg6 _).symm.trans ((congrFun (stretches m c) main_arg6).symm.trans (V_main_arg6 m c))
  have e : V m c main_v11 = _ := (congrFun (stretches m c) main_v11).trans (last_v11 _)
  rw [e, h]
  pointwise []

/-- The weight operand. -/
theorem weight_at (c : Dev nD) (k d : Fin 1024) : V m c main_v12 (ix2 k d) = m ((c : Thread nD τ).loc main_arg8) (ix2 k d) := by
  have h : before m c (Proc.devRef .tc main_arg8) = m ((c : Thread nD τ).loc main_arg8) :=
    (last_arg8 _).symm.trans ((congrFun (stretches m c) main_arg8).symm.trans (V_main_arg8 m c))
  have e : V m c main_v12 = _ := (congrFun (stretches m c) main_v12).trans (last_v12 _)
  rw [e, h]
  rfl

/-- The layer norm's weight operand. -/
theorem scale_at (c : Dev nD) (y : Fin 1024) : V m c main_v17 (ix2 0 y) = m ((c : Thread nD τ).loc main_arg9) (ix2 1 y) := by
  have h : before m c (Proc.devRef .tc main_arg9) = m ((c : Thread nD τ).loc main_arg9) :=
    (last_arg9 _).symm.trans ((congrFun (stretches m c) main_arg9).symm.trans (V_main_arg9 m c))
  have e : V m c main_v17 = _ := (congrFun (stretches m c) main_v17).trans (last_v17 _)
  rw [e, h]
  exact second_at _ _

/-- The layer norm's bias operand. -/
theorem bias_at (c : Dev nD) (y : Fin 1024) : V m c main_v18 (ix2 0 y) = m ((c : Thread nD τ).loc main_arg10) (ix2 1 y) := by
  have h : before m c (Proc.devRef .tc main_arg10) = m ((c : Thread nD τ).loc main_arg10) :=
    (last_arg10 _).symm.trans ((congrFun (stretches m c) main_arg10).symm.trans (V_main_arg10 m c))
  have e : V m c main_v18 = _ := (congrFun (stretches m c) main_v18).trans (last_v18 _)
  rw [e, h]
  exact second_at _ _

/-- The selector operand. -/
theorem sel_at (c : Dev nD) (k n : Fin 512) : V m c main_v9 (ix2 k n) = sel k n := by
  have h : before m c (Proc.devRef .tc main_v7) = selector :=
    fourth_v7 _ (third_v6 _ (second_v1 _ (first_v0 _) (first_c _))) (third_cst _) (third_cst_0 _)
  have e : V m c main_v9 = _ := (congrFun (stretches m c) main_v9).trans (last_v9 _ h)
  rw [e]
  exact selector_at k n

end Cert.JoinIdeal.HostRead
-- ==== Proof.JoinFinal.lean ====
module

public import proofs.«01_k».proof.Proof.JoinBlock
public import proofs.«01_k».proof.Proof.JoinRead
public import proofs.«01_k».proof.Proof.JoinFinite
public import proofs.«01_k».proof.Proof.JoinHost
public import Idealize.ShloMosaic.Lib.Claim

@[expose] public section

set_option maxRecDepth 16384

noncomputable section

open Idealize.ShloMosaic Idealize.ShloMosaic.TcCoe Idealize.SL.Sem
open Idealize.ShloMosaic.Pipeline (Dat)

/-! On finite scans the first output projection's result array is the reference's. -/
namespace Cert.JoinIdeal.Final

open Cert.JoinIdeal Cert.JoinIdeal.Gen Cert.JoinIdeal.Block Cert.JoinRow
open Cert.JoinRefIdeal.At (modRow scans)
open Cert.DiffRow (Finite)

variable (m : (ℓ : Loc nD τ sig) → Buf (Elt Ideal) ℓ)

/-- The stream. -/
abbrev x (c : Dev nD) : FVec Ideal S16x2048x1024 .f32 := m ((c : Thread nD τ).loc main_arg0)
/-- The modulations. -/
abbrev mods (c : Dev nD) : FVec Ideal S24x9x1024 .f32 := m ((c : Thread nD τ).loc main_arg1)
/-- The two scans' outputs. -/
abbrev y2 (c : Dev nD) : FVec Ideal S2x16x2048x512 .f32 := m ((c : Thread nD τ).loc main_arg2)
/-- The bonus. -/
abbrev bonus (c : Dev nD) : FVec Ideal S16x2048x512 .f32 := m ((c : Thread nD τ).loc main_arg3)
/-- The gate. -/
abbrev gate (c : Dev nD) : FVec Ideal S16x2048x512 .f32 := m ((c : Thread nD τ).loc main_arg4)
/-- The group norm's weight. -/
abbrev gn (c : Dev nD) : FVec Ideal S512 .f32 := m ((c : Thread nD τ).loc main_arg5)
/-- The group norm's bias. -/
abbrev gb (c : Dev nD) : FVec Ideal S512 .f32 := m ((c : Thread nD τ).loc main_arg6)
/-- The second half of the mixed channels. -/
abbrev right (c : Dev nD) : FVec Ideal S16x2048x512 .f32 := m ((c : Thread nD τ).loc main_arg7)
/-- The weight. -/
abbrev weight (c : Dev nD) : FVec Ideal S1024x1024 .f32 := m ((c : Thread nD τ).loc main_arg8)
/-- The norms' weights. -/
abbrev scales (c : Dev nD) : FVec Ideal S3x1024 .f32 := m ((c : Thread nD τ).loc main_arg9)
/-- The norms' biases. -/
abbrev biases (c : Dev nD) : FVec Ideal S3x1024 .f32 := m ((c : Thread nD τ).loc main_arg10)

/-- Which block each window stages at a grid point. -/
theorem idx : ∀ t : Fin cfg0.N,
    win0_0.index t = ![t.val / 4, t.val % 4, 0]
    ∧ win0_1.index t = ![t.val / 4, 0, 0]
    ∧ win0_2.index t = ![0, t.val / 4, t.val % 4, 0]
    ∧ win0_3.index t = ![1, t.val / 4, t.val % 4, 0]
    ∧ win0_4.index t = ![t.val / 4, t.val % 4, 0]
    ∧ win0_5.index t = ![t.val / 4, t.val % 4, 0]
    ∧ win0_6.index t = ![0, 0]
    ∧ win0_7.index t = ![0, 0]
    ∧ win0_8.index t = ![0, 0]
    ∧ win0_9.index t = ![t.val / 4, t.val % 4, 0]
    ∧ win0_10.index t = ![0, 0]
    ∧ win0_11.index t = ![0, 0]
    ∧ win0_12.index t = ![0, 0]
    ∧ win0_13.index t = ![t.val / 4, t.val % 4, 0] :=
  (by decide +kernel : ∀ t : Fin grid0.N, _)

/-- The batch entry of a grid point. -/
def batch (t : Fin cfg0.N) : Fin 16 := ⟨t.val / 4, by have : t.val < 64 := t.isLt; omega⟩
/-- The token of a grid point's block row. -/
def token (t : Fin cfg0.N) (r : Fin 512) : Fin 2048 := ⟨t.val % 4 * 512 + r.val, by omega⟩

/-- The stream's block. -/
theorem stream_block (c : Dev nD) (t : Fin cfg0.N) (r : Fin 512) (y : Fin 1024) :
    iblk m c 0 t (ix3 0 r y) = x m c (ix3 (batch t) (token t r) y) := by
  unfold batch token
  blk_ext [iblk, V, idx t]

/-- The modulations' block: the nine rows of the point's batch entry. -/
theorem mods_block (c : Dev nD) (t : Fin cfg0.N) (k : Fin 9) (y : Fin 1024) :
    iblk m c 1 t (ix3 0 k y) = modRow (mods m c) k (batch t) y := by
  unfold modRow batch
  blk_ext [iblk, V, idx t]

/-- The first scan's block. -/
theorem first_block (c : Dev nD) (t : Fin cfg0.N) (r : Fin 512) (k : Fin 512) :
    iblk m c 2 t (ix4 0 0 r k) = y2 m c (ix4 0 (batch t) (token t r) k) := by
  unfold batch token
  blk_ext [iblk, V, idx t]

/-- The second scan's block. -/
theorem second_block (c : Dev nD) (t : Fin cfg0.N) (r : Fin 512) (k : Fin 512) :
    iblk m c 3 t (ix4 0 0 r k) = y2 m c (ix4 1 (batch t) (token t r) k) := by
  unfold batch token
  blk_ext [iblk, V, idx t]

/-- The bonus's block. -/
theorem bonus_block (c : Dev nD) (t : Fin cfg0.N) (r : Fin 512) (k : Fin 512) :
    iblk m c 4 t (ix3 0 r k) = bonus m c (ix3 (batch t) (token t r) k) := by
  unfold batch token
  blk_ext [iblk, V, idx t]

/-- The gate's block. -/
theorem gate_block (c : Dev nD) (t : Fin cfg0.N) (r : Fin 512) (k : Fin 512) :
    iblk m c 5 t (ix3 0 r k) = gate m c (ix3 (batch t) (token t r) k) := by
  unfold batch token
  blk_ext [iblk, V, idx t]

/-- The second half's block. -/
theorem right_block (c : Dev nD) (t : Fin cfg0.N) (r : Fin 512) (k : Fin 512) :
    iblk m c 9 t (ix3 0 r k) = right m c (ix3 (batch t) (token t r) k) := by
  unfold batch token
  blk_ext [iblk, V, idx t]

/-- The group norm's weight. -/
theorem gn_block (c : Dev nD) (t : Fin cfg0.N) (k : Fin 512) : iblk m c 6 t (ix2 0 k) = gn m c (ix1 k) := by
  have e : ((win0_6.blk t).view.emb (ix2 (0 : Fin 1) k)) = ix2 (0 : Fin 1) k := by
    blk_ext [idx t]
  blk_simp [iblk]
  exact (congrArg (V m c main_v10) e).trans (HostRead.gn_at m c k)

/-- The group norm's bias. -/
theorem gb_block (c : Dev nD) (t : Fin cfg0.N) (k : Fin 512) : iblk m c 7 t (ix2 0 k) = gb m c (ix1 k) := by
  have e : ((win0_7.blk t).view.emb (ix2 (0 : Fin 1) k)) = ix2 (0 : Fin 1) k := by
    blk_ext [idx t]
  blk_simp [iblk]
  exact (congrArg (V m c main_v11) e).trans (HostRead.gb_at m c k)

/-- The weight's block: the whole weight. -/
theorem weight_block (c : Dev nD) (t : Fin cfg0.N) (k : Fin 1024) (d : Fin 1024) :
    iblk m c 10 t (ix2 k d) = weight m c (ix2 k d) := by
  have e : ((win0_10.blk t).view.emb (ix2 k d)) = ix2 k d := by
    blk_ext [idx t]
  blk_simp [iblk]
  exact (congrArg (V m c main_v12) e).trans (HostRead.weight_at m c k d)

/-- The norm's weight. -/
theorem scale_block (c : Dev nD) (t : Fin cfg0.N) (y : Fin 1024) : iblk m c 11 t (ix2 0 y) = scales m c (ix2 1 y) := by
  have e : ((win0_11.blk t).view.emb (ix2 (0 : Fin 1) y)) = ix2 (0 : Fin 1) y := by
    blk_ext [idx t]
  blk_simp [iblk]
  exact (congrArg (V m c main_v17) e).trans (HostRead.scale_at m c y)

/-- The norm's bias. -/
theorem bias_block (c : Dev nD) (t : Fin cfg0.N) (y : Fin 1024) : iblk m c 12 t (ix2 0 y) = biases m c (ix2 1 y) := by
  have e : ((win0_12.blk t).view.emb (ix2 (0 : Fin 1) y)) = ix2 (0 : Fin 1) y := by
    blk_ext [idx t]
  blk_simp [iblk]
  exact (congrArg (V m c main_v18) e).trans (HostRead.bias_at m c y)

/-- The selector's block. -/
theorem selector_block (c : Dev nD) (t : Fin cfg0.N) (k n : Fin 512) : iblk m c 8 t (ix2 k n) = sel k n := by
  have e : ((win0_8.blk t).view.emb (ix2 k n)) = ix2 k n := by
    blk_ext [idx t]
  blk_simp [iblk]
  exact (congrArg (V m c main_v9) e).trans (HostRead.sel_at m c k n)

/-- Where the output block's entry lies in the result. -/
theorem place (t : Fin cfg0.N) (r : Fin 512) (d : Fin 1024) :
    (win0_13.blk t).view.emb (ix3 (0 : Fin 1) r d) = ix3 (batch t) (token t r) d := by
  unfold batch token
  blk_ext [idx t]

/-- THE RESULT ARRAY: on finite scans the kernel leaves the reference's result. -/
theorem final [Cert.Pre_scans_finite.Facts] (c : Dev nD)
    (hpre : Cert.Pre_scans_finite.fn (F := Ideal) (x m c) (mods m c) (y2 m c) (bonus m c) (gate m c) (gn m c) (gb m c) (right m c)
      (weight m c) (scales m c) (biases m c) = fun _ => 1#1) :
    (dats m 0 c).arrAt 13 (cfgs 0).N
      = Cert.JoinRefIdeal.Read.val_main_v71 (F := Ideal) (x m c) (mods m c) (y2 m c) (bonus m c) (gate m c) (gn m c) (gb m c) (right m c)
          (weight m c) (scales m c) (biases m c) := by
  refine (dats m 0 c).arrAt_eq_of_covers 13 _ (by decide +kernel) fun t hf y => ?_
  obtain ⟨r, d, rfl⟩ : ∃ (r : Fin 512) (d : Fin 1024), y = ix3 0 r d := by
    refine ⟨y 1, y 2, ?_⟩
    funext a
    apply Fin.ext
    fin_cases a
    · have : (y 0).val < 1 := (y 0).isLt
      show (y 0).val = 0
      omega
    · rfl
    · rfl
  have hfin := Cert.Pre_scans_finite.At.finite_of_pre _ _ _ _ _ _ _ _ _ _ _ hpre
  blk_simp
  rw [after0_13]
  refine (out_at _ _ _ _ _ _ _ _ _ _ _ _ _ r d).trans ?_
  refine Eq.trans ?_ (congrArg (Cert.JoinRefIdeal.Read.val_main_v71 (F := Ideal) (x m c) (mods m c) (y2 m c) (bonus m c) (gate m c) (gn m c)
    (gb m c) (right m c) (weight m c) (scales m c) (biases m c)) (place t r d)).symm
  rw [Cert.JoinRefIdeal.At.result_at]
  simp only [stream_block, mods_block, first_block, second_block, bonus_block, gate_block, gn_block, gb_block, selector_block, right_block,
    weight_block, scale_block, bias_block]
  refine congrArg (Cert.MixRow.update _ _ · _ _ _ _ d) ?_
  funext k
  exact selNormed_eq (s := scans (y2 m c) (batch t) (token t r)) (fun k => (hfin _).add (hfin _)) _ _ _ _ k

end Cert.JoinIdeal.Final
-- ==== Proof.lean ====
module

public import proofs.«01_k».proof.Defs
public import proofs.«01_k».proof.Proof.Gen.Diff
public import proofs.«01_k».proof.Proof.Gen.Diff.Skeleton
public import proofs.«01_k».proof.Proof.Gen.Diff.Launch
public import proofs.«01_k».proof.Proof.Gen.Diff.Points
public import proofs.«01_k».proof.Proof.Gen.Diff.Frame
public import proofs.«01_k».proof.Proof.Gen.DiffIdeal
public import proofs.«01_k».proof.Proof.Gen.DiffIdeal.Skeleton
public import proofs.«01_k».proof.Proof.Gen.DiffIdeal.Launch
public import proofs.«01_k».proof.Proof.Gen.DiffIdeal.Points
public import proofs.«01_k».proof.Proof.Gen.DiffIdeal.Frame
public import proofs.«01_k».proof.Proof.Gen.DiffRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Pre_diff_finite
public import proofs.«01_k».proof.Proof.Gen.DiffIdeal.Value
public import proofs.«01_k».proof.Proof.Gen.FfnIdeal.Value
public import proofs.«01_k».proof.Proof.Gen.DiffRefIdeal.Run
public import proofs.«01_k».proof.Proof.Gen.DiffRefIdeal.Read
public import proofs.«01_k».proof.Proof.Gen.FfnRefIdeal.Run
public import proofs.«01_k».proof.Proof.Gen.FfnRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeIdeal.Value
public import proofs.«01_k».proof.Proof.Gen.RopeRefIdeal
public import proofs.«01_k».proof.Proof.Gen.RopeRefIdeal.Run
public import proofs.«01_k».proof.Proof.Gen.RopeRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Join
public import proofs.«01_k».proof.Proof.Gen.Join.Skeleton
public import proofs.«01_k».proof.Proof.Gen.Join.Launch
public import proofs.«01_k».proof.Proof.Gen.Join.Points
public import proofs.«01_k».proof.Proof.Gen.Join.Frame
public import proofs.«01_k».proof.Proof.Gen.JoinIdeal
public import proofs.«01_k».proof.Proof.Gen.JoinIdeal.Skeleton
public import proofs.«01_k».proof.Proof.Gen.JoinIdeal.Launch
public import proofs.«01_k».proof.Proof.Gen.JoinIdeal.Points
public import proofs.«01_k».proof.Proof.Gen.JoinIdeal.Frame
public import proofs.«01_k».proof.Proof.Gen.JoinIdeal.Value
public import proofs.«01_k».proof.Proof.Gen.JoinRefIdeal
public import proofs.«01_k».proof.Proof.Gen.JoinRefIdeal.Run
public import proofs.«01_k».proof.Proof.Gen.JoinRefIdeal.Read
public import proofs.«01_k».proof.Proof.Gen.Pre_scans_finite
public import proofs.«01_k».proof.Proof.DiffFinal
public import proofs.«01_k».proof.Proof.FfnFinal
public import proofs.«01_k».proof.Proof.ProjFinal
public import proofs.«01_k».proof.Proof.RopeFinal
public import proofs.«01_k».proof.Proof.MixFinal
public import proofs.«01_k».proof.Proof.JoinFinal
public import Idealize.ShloMosaic.Lib.Claim
public import Idealize.ShloMosaic.Adequacy
public import Idealize.ShloMosaic.Init

@[expose] public section

noncomputable section

/-! The claims of `Cert.Claim`, one theorem each, and their conjunction. -/
namespace Cert.Proof

open Idealize.ShloMosaic Idealize.SL.Sem

/-- The attention kernel, in machine arithmetic, ends with its arguments unchanged and every semaphore at zero. -/
theorem frame_Diff : Cert.quiescent_Diff := fun m g _ =>
  Cert.Diff.Gen.frame m g

/-- The same of the idealised attention kernel. -/
theorem frame_DiffIdeal : Cert.quiescent_DiffIdeal := fun m g _ =>
  Cert.DiffIdeal.Gen.frame m g

/-- The same on finite arguments. -/
theorem frame_DiffIdeal_finite : Cert.quiescent_DiffIdeal_pre_diff_finite := fun m g _ =>
  Cert.DiffIdeal.Gen.frame m g

/-- The same of the attention's reference. -/
theorem frame_DiffRefIdeal : Cert.quiescent_DiffRefIdeal := by
  intro m g _
  exact (θ_run Cert.DiffRefIdeal.defs _ _).mono (fun r h => ⟨fun c => (h c).2, sem_eq_zero_of_no_sems (by decide) r.2⟩)
    (Cert.DiffRefIdeal.Value.run (F := Ideal) m g)

/-- The same of the attention's reference, on finite arguments. -/
theorem frame_DiffRefIdeal_finite : Cert.quiescent_DiffRefIdeal_pre_diff_finite := by
  intro m g _
  exact (θ_run Cert.DiffRefIdeal.defs _ _).mono (fun r h => ⟨fun c => (h c).2, sem_eq_zero_of_no_sems (by decide) r.2⟩)
    (Cert.DiffRefIdeal.Value.run (F := Ideal) m g)

/-- The feed-forward kernel, in machine arithmetic, ends with its arguments unchanged and every semaphore at zero. -/
theorem frame_Ffn : Cert.quiescent_Ffn := fun m g _ =>
  Cert.Ffn.Gen.frame m g

/-- The same of the idealised feed-forward kernel. -/
theorem frame_FfnIdeal : Cert.quiescent_FfnIdeal := fun m g _ =>
  Cert.FfnIdeal.Gen.frame m g

/-- The same of the feed-forward's reference. -/
theorem frame_FfnRefIdeal : Cert.quiescent_FfnRefIdeal := by
  intro m g _
  exact (θ_run Cert.FfnRefIdeal.defs _ _).mono (fun r h => ⟨fun c => (h c).2, sem_eq_zero_of_no_sems (by decide) r.2⟩)
    (Cert.FfnRefIdeal.Value.run (F := Ideal) m g)

/-- The first layer's input projection, in machine arithmetic, ends with its arguments unchanged and every semaphore at zero. -/
theorem frame_Proj : Cert.quiescent_Proj := fun m g _ =>
  Cert.Proj.Gen.frame m g

/-- The same of the idealised first layer's input projection. -/
theorem frame_ProjIdeal : Cert.quiescent_ProjIdeal := fun m g _ =>
  Cert.ProjIdeal.Gen.frame m g

/-- The same of the reference of the first layer's input projection. -/
theorem frame_ProjRefIdeal : Cert.quiescent_ProjRefIdeal := by
  intro m g _
  exact (θ_run Cert.ProjRefIdeal.defs _ _).mono (fun r h => ⟨fun c => (h c).2, sem_eq_zero_of_no_sems (by decide) r.2⟩)
    (Cert.ProjRefIdeal.Value.run (F := Ideal) m g)

/-- The second layer's input projection, in machine arithmetic, ends with its arguments unchanged and every semaphore at zero. -/
theorem frame_Rope : Cert.quiescent_Rope := fun m g _ =>
  Cert.Rope.Gen.frame m g

/-- The same of the idealised second layer's input projection. -/
theorem frame_RopeIdeal : Cert.quiescent_RopeIdeal := fun m g _ =>
  Cert.RopeIdeal.Gen.frame m g

/-- The same of the reference of the second layer's input projection. -/
theorem frame_RopeRefIdeal : Cert.quiescent_RopeRefIdeal := by
  intro m g _
  exact (θ_run Cert.RopeRefIdeal.defs _ _).mono (fun r h => ⟨fun c => (h c).2, sem_eq_zero_of_no_sems (by decide) r.2⟩)
    (Cert.RopeRefIdeal.Value.run (F := Ideal) m g)

/-- The second layer's output projection, in machine arithmetic, ends with its arguments unchanged and every semaphore at zero. -/
theorem frame_Mix : Cert.quiescent_Mix := fun m g _ =>
  Cert.Mix.Gen.frame m g

/-- The same of the idealised second layer's output projection. -/
theorem frame_MixIdeal : Cert.quiescent_MixIdeal := fun m g _ =>
  Cert.MixIdeal.Gen.frame m g

/-- The same of the reference of the second layer's output projection. -/
theorem frame_MixRefIdeal : Cert.quiescent_MixRefIdeal := by
  intro m g _
  exact (θ_run Cert.MixRefIdeal.defs _ _).mono (fun r h => ⟨fun c => (h c).2, sem_eq_zero_of_no_sems (by decide) r.2⟩)
    (Cert.MixRefIdeal.Value.run (F := Ideal) m g)

/-- The first layer's output projection, in machine arithmetic, ends with its arguments unchanged and every semaphore at zero. -/
theorem frame_Join : Cert.quiescent_Join := fun m g _ =>
  Cert.Join.Gen.frame m g

/-- The same of the idealised first layer's output projection. -/
theorem frame_JoinIdeal : Cert.quiescent_JoinIdeal := fun m g _ =>
  Cert.JoinIdeal.Gen.frame m g

/-- The same on finite scans. -/
theorem frame_JoinIdeal_finite : Cert.quiescent_JoinIdeal_pre_scans_finite := fun m g _ =>
  Cert.JoinIdeal.Gen.frame m g

/-- The same of the reference of the first layer's output projection. -/
theorem frame_JoinRefIdeal : Cert.quiescent_JoinRefIdeal := by
  intro m g _
  exact (θ_run Cert.JoinRefIdeal.defs _ _).mono (fun r h => ⟨fun c => (h c).2, sem_eq_zero_of_no_sems (by decide) r.2⟩)
    (Cert.JoinRefIdeal.Value.run (F := Ideal) m g)

/-- The same of that reference, on finite scans. -/
theorem frame_JoinRefIdeal_finite : Cert.quiescent_JoinRefIdeal_pre_scans_finite := by
  intro m g _
  exact (θ_run Cert.JoinRefIdeal.defs _ _).mono (fun r h => ⟨fun c => (h c).2, sem_eq_zero_of_no_sems (by decide) r.2⟩)
    (Cert.JoinRefIdeal.Value.run (F := Ideal) m g)

/-- On finite arguments the idealised attention kernel and its reference end with equal results. -/
theorem algebraic_Diff : Cert.algebraic_DiffIdeal_DiffRefIdeal_pre_diff_finite := by
  pair_intro
  · run_from Cert.DiffIdeal.Gen.run_main m g
  · run_from Cert.DiffRefIdeal.Value.run m' g'
    obtain ⟨h0, h1, h2, h3⟩ := hagree c
    rw [Cert.DiffRefIdeal.Read.val_main_v72_eq, h0, h1, h2, h3]
    exact (Cert.DiffIdeal.Final.final m c (hpre c)).symm

/-- The idealised feed-forward kernel and its reference end with equal results. -/
theorem algebraic_Ffn : Cert.algebraic_FfnIdeal_FfnRefIdeal := by
  pair_intro
  · run_from Cert.FfnIdeal.Gen.run_main m g
  · run_from Cert.FfnRefIdeal.Value.run m' g'
    obtain ⟨h0, h1, h2, h3, h4, h5⟩ := hagree c
    rw [Cert.FfnRefIdeal.Read.val_main_v58_eq, h0, h1, h2, h3, h4, h5]
    exact (Cert.FfnIdeal.Final.final m c).symm

/-- The idealised first layer's input projection and its reference end with equal results. -/
theorem algebraic_Proj : Cert.algebraic_ProjIdeal_ProjRefIdeal := by
  pair_intro
  · run_from Cert.ProjIdeal.Gen.run_main m g
  · run_from Cert.ProjRefIdeal.Value.run m' g'
    obtain ⟨h0, h1, h2⟩ := hagree c
    exact (Cert.ProjRefIdeal.Read.val_main_v12_eq _ _ _).trans (Cert.ProjIdeal.Final.final m c).symm

/-- The idealised second layer's input projection and its reference end with equal results. -/
theorem algebraic_Rope : Cert.algebraic_RopeIdeal_RopeRefIdeal := by
  pair_intro
  · run_from Cert.RopeIdeal.Gen.run_main m g
    exact Cert.RopeIdeal.Gen.V_main_arg2 m c
  · run_from Cert.RopeRefIdeal.Value.run m' g'
    obtain ⟨h0, h1, h2⟩ := hagree c
    rw [Cert.RopeRefIdeal.Read.val_main_v162_eq]
    refine Eq.trans ?_ (Cert.RopeIdeal.Final.final m c).symm
    exact congr (congr (congrArg (Cert.RopeRefIdeal.Read.val_main_v162 (F := Ideal)) h0) h1) h2

/-- The idealised second layer's output projection and its reference end with equal results. -/
theorem algebraic_Mix : Cert.algebraic_MixIdeal_MixRefIdeal := by
  pair_intro
  · run_from Cert.MixIdeal.Gen.run_main m g
  · run_from Cert.MixRefIdeal.Value.run m' g'
    obtain ⟨h0, h1, h2, h3, h4, h5, h6⟩ := hagree c
    rw [Cert.MixRefIdeal.Read.val_main_v38_eq, h0, h1, h2, h3, h4, h5, h6]
    exact (Cert.MixIdeal.Final.final m c).symm

set_option maxHeartbeats 2000000 in
/-- On finite scans the idealised first layer's output projection and its reference end with equal results. -/
theorem algebraic_Join : Cert.algebraic_JoinIdeal_JoinRefIdeal_pre_scans_finite := by
  pair_intro
  · run_from Cert.JoinIdeal.Gen.run_main m g
    all_goals first
      | exact Cert.JoinIdeal.Gen.V_main_arg4 m c
      | exact Cert.JoinIdeal.Gen.V_main_arg5 m c
      | exact Cert.JoinIdeal.Gen.V_main_arg6 m c
      | exact Cert.JoinIdeal.Gen.V_main_arg7 m c
      | exact Cert.JoinIdeal.Gen.V_main_arg8 m c
      | exact Cert.JoinIdeal.Gen.V_main_arg9 m c
      | exact Cert.JoinIdeal.Gen.V_main_arg10 m c
  · run_from Cert.JoinRefIdeal.Value.run m' g'
    obtain ⟨h0, h1, h2, h3, h4, h5, h6, h7, h8, h9, h10⟩ := hagree c
    rw [Cert.JoinRefIdeal.Read.val_main_v71_eq, h0, h1, h2, h3, h4, h5, h6, h7, h8, h9, h10]
    exact (Cert.JoinIdeal.Final.final m c (hpre c)).symm

/-- Every claim. -/
theorem claim : Cert.Claim :=
  ⟨Cert.Diff.Gen.facts, Cert.DiffIdeal.Gen.facts, Cert.DiffRefIdeal.Gen.facts, Cert.Ffn.Gen.facts, Cert.FfnIdeal.Gen.facts,
    Cert.FfnRefIdeal.Gen.facts, Cert.Proj.Gen.facts, Cert.ProjIdeal.Gen.facts, Cert.ProjRefIdeal.Gen.facts, Cert.Rope.Gen.facts,
    Cert.RopeIdeal.Gen.facts, Cert.RopeRefIdeal.Gen.facts, Cert.Mix.Gen.facts, Cert.MixIdeal.Gen.facts,
    Cert.MixRefIdeal.Gen.facts, Cert.Join.Gen.facts, Cert.JoinIdeal.Gen.facts, Cert.JoinRefIdeal.Gen.facts,
    Cert.Pre_diff_finite.Gen.facts, Cert.Pre_scans_finite.Gen.facts, frame_Diff, frame_DiffIdeal, frame_DiffIdeal_finite,
    frame_DiffRefIdeal, frame_DiffRefIdeal_finite, frame_Ffn, frame_FfnIdeal, frame_FfnRefIdeal, frame_Proj, frame_ProjIdeal,
    frame_ProjRefIdeal, frame_Rope, frame_RopeIdeal, frame_RopeRefIdeal, frame_Mix, frame_MixIdeal, frame_MixRefIdeal,
    frame_Join, frame_JoinIdeal, frame_JoinIdeal_finite, frame_JoinRefIdeal, frame_JoinRefIdeal_finite, trivial,
    algebraic_Diff, trivial, algebraic_Ffn, trivial, algebraic_Proj, trivial, algebraic_Rope, trivial, algebraic_Mix,
    trivial, algebraic_Join⟩

end Cert.Proof
